-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_in_range : Cert.Pre_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S6400000x3 : Shape := ⟨2, ![6400000, 3]⟩
abbrev S6400000 : Shape := ⟨1, ![6400000]⟩
abbrev S_ : Shape := ⟨0, ![]⟩

class Facts : Prop where
  bcast_S_S6400000x3 : S_.BroadcastsInDim S6400000x3 (![] : Fin 0 → Fin S6400000x3.rank)
  reducesTo_S6400000x3_S_d0_1 : S6400000x3.ReducesTo [0, 1] S_
  h_S_ : 0 < S_.numel
  bcast_S_S6400000 : S_.BroadcastsInDim S6400000 (![] : Fin 0 → Fin S6400000.rank)
  reducesTo_S6400000_S_d0 : S6400000.ReducesTo [0] S_

variable [Facts]

def fn {F : FTy → Type} [FloatOps F] (main_arg0 : FVec F S6400000x3 .f32) (main_arg1 : FVec F S6400000x3 .f32) (main_arg2 : FVec F S6400000x3 .f32) (main_arg3 : IVec S6400000 32) : IVec S_ 1 :=
  let main_v0 : FVec F S6400000x3 .f32 := Host.absf main_arg0
  let main_cst : FVec F S_ .f32 := constant S_ .f32 0x7F800000#32
  let main_v1 : FVec F S6400000x3 .f32 := broadcastInDim S6400000x3 ![] bcast_S_S6400000x3 main_cst
  let main_v2 : IVec S6400000x3 1 := cmpf .olt main_v0 main_v1
  let main_c : IVec S_ 1 := constantI S_ 1 1#1
  let main_v3 : IVec S_ 1 := (fun x v => Host.reduce IntOp.andi x v reducesTo_S6400000x3_S_d0_1 h_S_) main_v2 main_c
  let main_c_0 : IVec S_ 32 := constantI S_ 32 0#32
  let main_v4 : IVec S6400000 32 := broadcastInDim S6400000 ![] bcast_S_S6400000 main_c_0
  let main_v5 : IVec S6400000 1 := cmpi .sge main_arg3 main_v4
  let main_c_1 : IVec S_ 32 := constantI S_ 32 1000#32
  let main_v6 : IVec S6400000 32 := broadcastInDim S6400000 ![] bcast_S_S6400000 main_c_1
  let main_v7 : IVec S6400000 1 := cmpi .slt main_arg3 main_v6
  let main_v8 : IVec S6400000 1 := andi main_v5 main_v7
  let main_c_2 : IVec S_ 1 := constantI S_ 1 1#1
  let main_v9 : IVec S_ 1 := (fun x v => Host.reduce IntOp.andi x v reducesTo_S6400000_S_d0 h_S_) main_v8 main_c_2
  let main_v10 : IVec S_ 1 := andi main_v3 main_v9
  main_v10
-- ==== Pre_labels_in_range.lean ====
abbrev S6400000x3 : Shape := ⟨2, ![6400000, 3]⟩
abbrev S6400000 : Shape := ⟨1, ![6400000]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel

variable [Facts]

def fn {F : FTy → Type} [FloatOps F] (main_arg0 : FVec F S6400000x3 .f32) (main_arg1 : FVec F S6400000x3 .f32) (main_arg2 : FVec F S6400000x3 .f32) (main_arg3 : IVec S6400000 32) : IVec S_ 1 :=
  let main_c : IVec S_ 32 := constantI S_ 32 0#32
  let main_v0 : IVec S6400000 32 := broadcastInDim S6400000 ![] bcast_S_S6400000 main_c
  let main_v1 : IVec S6400000 1 := cmpi .sge main_arg3 main_v0
  let main_c_0 : IVec S_ 32 := constantI S_ 32 1000#32
  let main_v2 : IVec S6400000 32 := broadcastInDim S6400000 ![] bcast_S_S6400000 main_c_0
  let main_v3 : IVec S6400000 1 := cmpi .slt main_arg3 main_v2
  let main_v4 : IVec S6400000 1 := andi main_v1 main_v3
  let main_c_1 : IVec S_ 1 := constantI S_ 1 1#1
  let main_v5 : IVec S_ 1 := (fun x v => Host.reduce IntOp.andi x v reducesTo_S6400000_S_d0 h_S_) main_v4 main_c_1
  main_v5
-- ==== Kernel.lean ====
abbrev S6400000x3 : Shape := ⟨2, ![6400000, 3]⟩
abbrev S6400000 : Shape := ⟨1, ![6400000]⟩
abbrev S6400000x1 : Shape := ⟨2, ![6400000, 1]⟩
abbrev S128x1024 : Shape := ⟨2, ![128, 1024]⟩
abbrev S65536 : Shape := ⟨1, ![65536]⟩
abbrev S4x1024 : Shape := ⟨2, ![4, 1024]⟩
abbrev S4000 : Shape := ⟨1, ![4000]⟩
abbrev S_ : Shape := ⟨0, ![]⟩
abbrev S16 : Shape := ⟨1, ![16]⟩
abbrev S1x16 : Shape := ⟨2, ![1, 16]⟩
abbrev S1x1 : Shape := ⟨2, ![1, 1]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩

abbrev nBuf : Table → Nat
  | .hbm => 24
  | .local .tc .vmem => 2
  | .local .scVector .vmem => 10
  | _ => 0

abbrev bufTy : (tb : Table) → Fin (nBuf tb) → BufTy
  | .hbm, ⟨0, _⟩ => ⟨S6400000x3, .f32⟩
  | .hbm, ⟨1, _⟩ => ⟨S6400000x3, .f32⟩
  | .hbm, ⟨2, _⟩ => ⟨S6400000x3, .f32⟩
  | .hbm, ⟨3, _⟩ => ⟨S6400000, .i32⟩
  | .hbm, ⟨4, _⟩ => ⟨S6400000x3, .f32⟩
  | .hbm, ⟨5, _⟩ => ⟨S6400000x3, .f32⟩
  | .hbm, ⟨6, _⟩ => ⟨S6400000x1, .f32⟩
  | .hbm, ⟨7, _⟩ => ⟨S6400000, .f32⟩
  | .hbm, ⟨8, _⟩ => ⟨S6400000x1, .f32⟩
  | .hbm, ⟨9, _⟩ => ⟨S6400000, .f32⟩
  | .hbm, ⟨10, _⟩ => ⟨S6400000, .f32⟩
  | .hbm, ⟨11, _⟩ => ⟨S6400000x1, .f32⟩
  | .hbm, ⟨12, _⟩ => ⟨S6400000, .f32⟩
  | .hbm, ⟨13, _⟩ => ⟨S6400000x1, .f32⟩
  | .hbm, ⟨14, _⟩ => ⟨S6400000, .f32⟩
  | .hbm, ⟨15, _⟩ => ⟨S6400000, .f32⟩
  | .hbm, ⟨16, _⟩ => ⟨S6400000x1, .f32⟩
  | .hbm, ⟨17, _⟩ => ⟨S6400000, .f32⟩
  | .hbm, ⟨18, _⟩ => ⟨S6400000x1, .f32⟩
  | .hbm, ⟨19, _⟩ => ⟨S6400000, .f32⟩
  | .hbm, ⟨20, _⟩ => ⟨S6400000, .f32⟩
  | .hbm, ⟨21, _⟩ => ⟨S128x1024, .f32⟩
  | .hbm, ⟨22, _⟩ => ⟨S1x1, .f32⟩
  | .hbm, ⟨23, _⟩ => ⟨S_, .f32⟩
  | .local .tc .vmem, ⟨0, _⟩ => ⟨S128x1024, .f32⟩
  | .local .tc .vmem, ⟨1, _⟩ => ⟨S1x1, .f32⟩
  | .local .scVector .vmem, ⟨0, _⟩ => ⟨S65536, .f32⟩
  | .local .scVector .vmem, ⟨1, _⟩ => ⟨S4x1024, .f32⟩
  | .local .scVector .vmem, ⟨2, _⟩ => ⟨S4000, .i32⟩
  | .local .scVector .vmem, ⟨3, _⟩ => ⟨S4000, .f32⟩
  | .local .scVector .vmem, ⟨4, _⟩ => ⟨S4000, .f32⟩
  | .local .scVector .vmem, ⟨5, _⟩ => ⟨S4000, .f32⟩
  | .local .scVector .vmem, ⟨6, _⟩ => ⟨S4000, .i32⟩
  | .local .scVector .vmem, ⟨7, _⟩ => ⟨S4000, .f32⟩
  | .local .scVector .vmem, ⟨8, _⟩ => ⟨S4000, .f32⟩
  | .local .scVector .vmem, ⟨9, _⟩ => ⟨S4000, .f32⟩
  | _, _ => ⟨S6400000x3, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => true
  | ⟨4, _⟩ => true
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v6_scv : Ref sig .scVector := ⟨.hbm, 10, rfl⟩
abbrev main_v11_scv : Ref sig .scVector := ⟨.hbm, 15, rfl⟩
abbrev main_v16_scv : Ref sig .scVector := ⟨.hbm, 20, rfl⟩
abbrev main_arg3_scv : Ref sig .scVector := ⟨.hbm, 3, rfl⟩
abbrev main_v17_scv : Ref sig .scVector := ⟨.hbm, 21, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc1_sem0_0 : DmaSem sig := 3
abbrev cc1_sem1_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_3 : BitVec 32) : Fin 1 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v10 : BitVec 32 := Scalar.muli v1 c200000_i32
  let v12 : BitVec 32 := Scalar.addi c0_i32_2 v10
  let v13 : BitVec 32 := Scalar.addi v12 c0_i32_3
  ![v13.toNat]
def k0_off2 (i : grid0.Coords) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v10 : BitVec 32 := Scalar.muli v1 c200000_i32
  let v11 : BitVec 32 := Scalar.addi v10 c0_i32_1
  ![v11.toNat]
@[reducible] def k0_t1_loop : Scf.Loop 32 :=
  let c0_i32_5 : BitVec 32 := 0#32
  let c512_i32 : BitVec 32 := 512#32
  let v22 : BitVec 32 := Scalar.addi c0_i32_5 c512_i32
  let c1_i32 : BitVec 32 := 1#32
  ⟨c0_i32_5, v22, c1_i32⟩
def k0_off3 (k0_t1 : Fin k0_t1_loop.trips) (c0_i32_31 : BitVec 32) : Fin 1 → Nat :=
  let c0_i32_5 : BitVec 32 := 0#32
  let c1_i32 : BitVec 32 := 1#32
  let arg19 : BitVec 32 := Scf.iv c0_i32_5 c1_i32 k0_t1
  let c8_i32 : BitVec 32 := 8#32
  let v53 : BitVec 32 := Scalar.muli arg19 c8_i32
  let v54 : BitVec 32 := Scalar.addi v53 c0_i32_31
  let c16_i32 : BitVec 32 := 16#32
  let v55 : BitVec 32 := Scalar.muli v54 c16_i32
  let v56 : Index := Scalar.indexCast v55
  ![v56.toNat]
@[reducible] def k0_t2_loop : Scf.Loop 32 :=
  let c0_i32_9 : BitVec 32 := 0#32
  let c25_i32 : BitVec 32 := 25#32
  let v35 : BitVec 32 := Scalar.addi c0_i32_9 c25_i32
  let c1_i32_10 : BitVec 32 := 1#32
  ⟨c0_i32_9, v35, c1_i32_10⟩
@[reducible] def k0_t3_loop : Scf.Loop 32 :=
  let c0_i32_41 : BitVec 32 := 0#32
  let c10_i32 : BitVec 32 := 10#32
  let v63 : BitVec 32 := Scalar.addi c0_i32_41 c10_i32
  let c1_i32_42 : BitVec 32 := 1#32
  ⟨c0_i32_41, v63, c1_i32_42⟩

def k0_chk1 (v88 : IVec S16 32) : Prop :=
  (∀ a x, ((![v88] : Fin 1 → IVec S16 32) a x).toNat < S4000.size a) ∧
  (∀ a x, ((![v88] : Fin 1 → IVec S16 32) a x).toNat < S4000.size a) ∧
  (∀ a x, ((![v88] : Fin 1 → IVec S16 32) a x).toNat < S4000.size a) ∧
  (∀ a x, ((![v88] : Fin 1 → IVec S16 32) a x).toNat < S4000.size a)
theorem k0_idx1_inb : ∀ (v88 : IVec S16 32) (k0_hw1 : k0_chk1 v88), ∀ a x, ((![v88] : Fin 1 → IVec S16 32) a x).toNat < S4000.size a := fun v88 k0_hw1 => k0_hw1.1
theorem k0_idx2_inb : ∀ (v88 : IVec S16 32) (k0_hw1 : k0_chk1 v88), ∀ a x, ((![v88] : Fin 1 → IVec S16 32) a x).toNat < S4000.size a := fun v88 k0_hw1 => k0_hw1.2.1
theorem k0_idx3_inb : ∀ (v88 : IVec S16 32) (k0_hw1 : k0_chk1 v88), ∀ a x, ((![v88] : Fin 1 → IVec S16 32) a x).toNat < S4000.size a := fun v88 k0_hw1 => k0_hw1.2.2.1
theorem k0_idx4_inb : ∀ (v88 : IVec S16 32) (k0_hw1 : k0_chk1 v88), ∀ a x, ((![v88] : Fin 1 → IVec S16 32) a x).toNat < S4000.size a := fun v88 k0_hw1 => k0_hw1.2.2.2

def k0_chk2 (v94 : IVec S16 32) : Prop :=
  (∀ a x, ((![v94] : Fin 1 → IVec S16 32) a x).toNat < S65536.size a)
theorem k0_idx5_inb : ∀ (v94 : IVec S16 32) (k0_hw2 : k0_chk2 v94), ∀ a x, ((![v94] : Fin 1 → IVec S16 32) a x).toNat < S65536.size a := fun v94 k0_hw2 => k0_hw2

def k0_chk3 (v96 : IVec S16 32) : Prop :=
  (∀ a x, ((![v96] : Fin 1 → IVec S16 32) a x).toNat < S65536.size a)
theorem k0_idx6_inb : ∀ (v96 : IVec S16 32) (k0_hw3 : k0_chk3 v96), ∀ a x, ((![v96] : Fin 1 → IVec S16 32) a x).toNat < S65536.size a := fun v96 k0_hw3 => k0_hw3

def k0_chk4 (v98 : IVec S16 32) : Prop :=
  (∀ a x, ((![v98] : Fin 1 → IVec S16 32) a x).toNat < S65536.size a)
theorem k0_idx7_inb : ∀ (v98 : IVec S16 32) (k0_hw4 : k0_chk4 v98), ∀ a x, ((![v98] : Fin 1 → IVec S16 32) a x).toNat < S65536.size a := fun v98 k0_hw4 => k0_hw4

def k0_chk5 (v100 : IVec S16 32) : Prop :=
  (∀ a x, ((![v100] : Fin 1 → IVec S16 32) a x).toNat < S65536.size a)
theorem k0_idx8_inb : ∀ (v100 : IVec S16 32) (k0_hw5 : k0_chk5 v100), ∀ a x, ((![v100] : Fin 1 → IVec S16 32) a x).toNat < S65536.size a := fun v100 k0_hw5 => k0_hw5

def k0_chk6 (v114 : IVec S16 32) : Prop :=
  (∀ a x, ((![v114] : Fin 1 → IVec S16 32) a x).toNat < S4000.size a) ∧
  (∀ a x, ((![v114] : Fin 1 → IVec S16 32) a x).toNat < S4000.size a) ∧
  (∀ a x, ((![v114] : Fin 1 → IVec S16 32) a x).toNat < S4000.size a) ∧
  (∀ a x, ((![v114] : Fin 1 → IVec S16 32) a x).toNat < S4000.size a)
theorem k0_idx9_inb : ∀ (v114 : IVec S16 32) (k0_hw6 : k0_chk6 v114), ∀ a x, ((![v114] : Fin 1 → IVec S16 32) a x).toNat < S4000.size a := fun v114 k0_hw6 => k0_hw6.1
theorem k0_idx10_inb : ∀ (v114 : IVec S16 32) (k0_hw6 : k0_chk6 v114), ∀ a x, ((![v114] : Fin 1 → IVec S16 32) a x).toNat < S4000.size a := fun v114 k0_hw6 => k0_hw6.2.1
theorem k0_idx11_inb : ∀ (v114 : IVec S16 32) (k0_hw6 : k0_chk6 v114), ∀ a x, ((![v114] : Fin 1 → IVec S16 32) a x).toNat < S4000.size a := fun v114 k0_hw6 => k0_hw6.2.2.1
theorem k0_idx12_inb : ∀ (v114 : IVec S16 32) (k0_hw6 : k0_chk6 v114), ∀ a x, ((![v114] : Fin 1 → IVec S16 32) a x).toNat < S4000.size a := fun v114 k0_hw6 => k0_hw6.2.2.2

def k0_chk7 (v120 : IVec S16 32) : Prop :=
  (∀ a x, ((![v120] : Fin 1 → IVec S16 32) a x).toNat < S65536.size a)
theorem k0_idx13_inb : ∀ (v120 : IVec S16 32) (k0_hw7 : k0_chk7 v120), ∀ a x, ((![v120] : Fin 1 → IVec S16 32) a x).toNat < S65536.size a := fun v120 k0_hw7 => k0_hw7

def k0_chk8 (v122 : IVec S16 32) : Prop :=
  (∀ a x, ((![v122] : Fin 1 → IVec S16 32) a x).toNat < S65536.size a)
theorem k0_idx14_inb : ∀ (v122 : IVec S16 32) (k0_hw8 : k0_chk8 v122), ∀ a x, ((![v122] : Fin 1 → IVec S16 32) a x).toNat < S65536.size a := fun v122 k0_hw8 => k0_hw8

def k0_chk9 (v124 : IVec S16 32) : Prop :=
  (∀ a x, ((![v124] : Fin 1 → IVec S16 32) a x).toNat < S65536.size a)
theorem k0_idx15_inb : ∀ (v124 : IVec S16 32) (k0_hw9 : k0_chk9 v124), ∀ a x, ((![v124] : Fin 1 → IVec S16 32) a x).toNat < S65536.size a := fun v124 k0_hw9 => k0_hw9

def k0_chk10 (v126 : IVec S16 32) : Prop :=
  (∀ a x, ((![v126] : Fin 1 → IVec S16 32) a x).toNat < S65536.size a)
theorem k0_idx16_inb : ∀ (v126 : IVec S16 32) (k0_hw10 : k0_chk10 v126), ∀ a x, ((![v126] : Fin 1 → IVec S16 32) a x).toNat < S65536.size a := fun v126 k0_hw10 => k0_hw10

def k0_chk11 (v140 : IVec S16 32) : Prop :=
  (∀ a x, ((![v140] : Fin 1 → IVec S16 32) a x).toNat < S4000.size a) ∧
  (∀ a x, ((![v140] : Fin 1 → IVec S16 32) a x).toNat < S4000.size a) ∧
  (∀ a x, ((![v140] : Fin 1 → IVec S16 32) a x).toNat < S4000.size a) ∧
  (∀ a x, ((![v140] : Fin 1 → IVec S16 32) a x).toNat < S4000.size a)
theorem k0_idx17_inb : ∀ (v140 : IVec S16 32) (k0_hw11 : k0_chk11 v140), ∀ a x, ((![v140] : Fin 1 → IVec S16 32) a x).toNat < S4000.size a := fun v140 k0_hw11 => k0_hw11.1
theorem k0_idx18_inb : ∀ (v140 : IVec S16 32) (k0_hw11 : k0_chk11 v140), ∀ a x, ((![v140] : Fin 1 → IVec S16 32) a x).toNat < S4000.size a := fun v140 k0_hw11 => k0_hw11.2.1
theorem k0_idx19_inb : ∀ (v140 : IVec S16 32) (k0_hw11 : k0_chk11 v140), ∀ a x, ((![v140] : Fin 1 → IVec S16 32) a x).toNat < S4000.size a := fun v140 k0_hw11 => k0_hw11.2.2.1
theorem k0_idx20_inb : ∀ (v140 : IVec S16 32) (k0_hw11 : k0_chk11 v140), ∀ a x, ((![v140] : Fin 1 → IVec S16 32) a x).toNat < S4000.size a := fun v140 k0_hw11 => k0_hw11.2.2.2

def k0_chk12 (v146 : IVec S16 32) : Prop :=
  (∀ a x, ((![v146] : Fin 1 → IVec S16 32) a x).toNat < S65536.size a)
theorem k0_idx21_inb : ∀ (v146 : IVec S16 32) (k0_hw12 : k0_chk12 v146), ∀ a x, ((![v146] : Fin 1 → IVec S16 32) a x).toNat < S65536.size a := fun v146 k0_hw12 => k0_hw12

def k0_chk13 (v148 : IVec S16 32) : Prop :=
  (∀ a x, ((![v148] : Fin 1 → IVec S16 32) a x).toNat < S65536.size a)
theorem k0_idx22_inb : ∀ (v148 : IVec S16 32) (k0_hw13 : k0_chk13 v148), ∀ a x, ((![v148] : Fin 1 → IVec S16 32) a x).toNat < S65536.size a := fun v148 k0_hw13 => k0_hw13

def k0_chk14 (v150 : IVec S16 32) : Prop :=
  (∀ a x, ((![v150] : Fin 1 → IVec S16 32) a x).toNat < S65536.size a)
theorem k0_idx23_inb : ∀ (v150 : IVec S16 32) (k0_hw14 : k0_chk14 v150), ∀ a x, ((![v150] : Fin 1 → IVec S16 32) a x).toNat < S65536.size a := fun v150 k0_hw14 => k0_hw14

def k0_chk15 (v152 : IVec S16 32) : Prop :=
  (∀ a x, ((![v152] : Fin 1 → IVec S16 32) a x).toNat < S65536.size a)
theorem k0_idx24_inb : ∀ (v152 : IVec S16 32) (k0_hw15 : k0_chk15 v152), ∀ a x, ((![v152] : Fin 1 → IVec S16 32) a x).toNat < S65536.size a := fun v152 k0_hw15 => k0_hw15

def k0_chk16 (v166 : IVec S16 32) : Prop :=
  (∀ a x, ((![v166] : Fin 1 → IVec S16 32) a x).toNat < S4000.size a) ∧
  (∀ a x, ((![v166] : Fin 1 → IVec S16 32) a x).toNat < S4000.size a) ∧
  (∀ a x, ((![v166] : Fin 1 → IVec S16 32) a x).toNat < S4000.size a) ∧
  (∀ a x, ((![v166] : Fin 1 → IVec S16 32) a x).toNat < S4000.size a)
theorem k0_idx25_inb : ∀ (v166 : IVec S16 32) (k0_hw16 : k0_chk16 v166), ∀ a x, ((![v166] : Fin 1 → IVec S16 32) a x).toNat < S4000.size a := fun v166 k0_hw16 => k0_hw16.1
theorem k0_idx26_inb : ∀ (v166 : IVec S16 32) (k0_hw16 : k0_chk16 v166), ∀ a x, ((![v166] : Fin 1 → IVec S16 32) a x).toNat < S4000.size a := fun v166 k0_hw16 => k0_hw16.2.1
theorem k0_idx27_inb : ∀ (v166 : IVec S16 32) (k0_hw16 : k0_chk16 v166), ∀ a x, ((![v166] : Fin 1 → IVec S16 32) a x).toNat < S4000.size a := fun v166 k0_hw16 => k0_hw16.2.2.1
theorem k0_idx28_inb : ∀ (v166 : IVec S16 32) (k0_hw16 : k0_chk16 v166), ∀ a x, ((![v166] : Fin 1 → IVec S16 32) a x).toNat < S4000.size a := fun v166 k0_hw16 => k0_hw16.2.2.2

def k0_chk17 (v172 : IVec S16 32) : Prop :=
  (∀ a x, ((![v172] : Fin 1 → IVec S16 32) a x).toNat < S65536.size a)
theorem k0_idx29_inb : ∀ (v172 : IVec S16 32) (k0_hw17 : k0_chk17 v172), ∀ a x, ((![v172] : Fin 1 → IVec S16 32) a x).toNat < S65536.size a := fun v172 k0_hw17 => k0_hw17

def k0_chk18 (v174 : IVec S16 32) : Prop :=
  (∀ a x, ((![v174] : Fin 1 → IVec S16 32) a x).toNat < S65536.size a)
theorem k0_idx30_inb : ∀ (v174 : IVec S16 32) (k0_hw18 : k0_chk18 v174), ∀ a x, ((![v174] : Fin 1 → IVec S16 32) a x).toNat < S65536.size a := fun v174 k0_hw18 => k0_hw18

def k0_chk19 (v176 : IVec S16 32) : Prop :=
  (∀ a x, ((![v176] : Fin 1 → IVec S16 32) a x).toNat < S65536.size a)
theorem k0_idx31_inb : ∀ (v176 : IVec S16 32) (k0_hw19 : k0_chk19 v176), ∀ a x, ((![v176] : Fin 1 → IVec S16 32) a x).toNat < S65536.size a := fun v176 k0_hw19 => k0_hw19

def k0_chk20 (v178 : IVec S16 32) : Prop :=
  (∀ a x, ((![v178] : Fin 1 → IVec S16 32) a x).toNat < S65536.size a)
theorem k0_idx32_inb : ∀ (v178 : IVec S16 32) (k0_hw20 : k0_chk20 v178), ∀ a x, ((![v178] : Fin 1 → IVec S16 32) a x).toNat < S65536.size a := fun v178 k0_hw20 => k0_hw20

def k0_chk21 (v192 : IVec S16 32) : Prop :=
  (∀ a x, ((![v192] : Fin 1 → IVec S16 32) a x).toNat < S4000.size a) ∧
  (∀ a x, ((![v192] : Fin 1 → IVec S16 32) a x).toNat < S4000.size a) ∧
  (∀ a x, ((![v192] : Fin 1 → IVec S16 32) a x).toNat < S4000.size a) ∧
  (∀ a x, ((![v192] : Fin 1 → IVec S16 32) a x).toNat < S4000.size a)
theorem k0_idx33_inb : ∀ (v192 : IVec S16 32) (k0_hw21 : k0_chk21 v192), ∀ a x, ((![v192] : Fin 1 → IVec S16 32) a x).toNat < S4000.size a := fun v192 k0_hw21 => k0_hw21.1
theorem k0_idx34_inb : ∀ (v192 : IVec S16 32) (k0_hw21 : k0_chk21 v192), ∀ a x, ((![v192] : Fin 1 → IVec S16 32) a x).toNat < S4000.size a := fun v192 k0_hw21 => k0_hw21.2.1
theorem k0_idx35_inb : ∀ (v192 : IVec S16 32) (k0_hw21 : k0_chk21 v192), ∀ a x, ((![v192] : Fin 1 → IVec S16 32) a x).toNat < S4000.size a := fun v192 k0_hw21 => k0_hw21.2.2.1
theorem k0_idx36_inb : ∀ (v192 : IVec S16 32) (k0_hw21 : k0_chk21 v192), ∀ a x, ((![v192] : Fin 1 → IVec S16 32) a x).toNat < S4000.size a := fun v192 k0_hw21 => k0_hw21.2.2.2

def k0_chk22 (v198 : IVec S16 32) : Prop :=
  (∀ a x, ((![v198] : Fin 1 → IVec S16 32) a x).toNat < S65536.size a)
theorem k0_idx37_inb : ∀ (v198 : IVec S16 32) (k0_hw22 : k0_chk22 v198), ∀ a x, ((![v198] : Fin 1 → IVec S16 32) a x).toNat < S65536.size a := fun v198 k0_hw22 => k0_hw22

def k0_chk23 (v200 : IVec S16 32) : Prop :=
  (∀ a x, ((![v200] : Fin 1 → IVec S16 32) a x).toNat < S65536.size a)
theorem k0_idx38_inb : ∀ (v200 : IVec S16 32) (k0_hw23 : k0_chk23 v200), ∀ a x, ((![v200] : Fin 1 → IVec S16 32) a x).toNat < S65536.size a := fun v200 k0_hw23 => k0_hw23

def k0_chk24 (v202 : IVec S16 32) : Prop :=
  (∀ a x, ((![v202] : Fin 1 → IVec S16 32) a x).toNat < S65536.size a)
theorem k0_idx39_inb : ∀ (v202 : IVec S16 32) (k0_hw24 : k0_chk24 v202), ∀ a x, ((![v202] : Fin 1 → IVec S16 32) a x).toNat < S65536.size a := fun v202 k0_hw24 => k0_hw24

def k0_chk25 (v204 : IVec S16 32) : Prop :=
  (∀ a x, ((![v204] : Fin 1 → IVec S16 32) a x).toNat < S65536.size a)
theorem k0_idx40_inb : ∀ (v204 : IVec S16 32) (k0_hw25 : k0_chk25 v204), ∀ a x, ((![v204] : Fin 1 → IVec S16 32) a x).toNat < S65536.size a := fun v204 k0_hw25 => k0_hw25

def k0_chk26 (v218 : IVec S16 32) : Prop :=
  (∀ a x, ((![v218] : Fin 1 → IVec S16 32) a x).toNat < S4000.size a) ∧
  (∀ a x, ((![v218] : Fin 1 → IVec S16 32) a x).toNat < S4000.size a) ∧
  (∀ a x, ((![v218] : Fin 1 → IVec S16 32) a x).toNat < S4000.size a) ∧
  (∀ a x, ((![v218] : Fin 1 → IVec S16 32) a x).toNat < S4000.size a)
theorem k0_idx41_inb : ∀ (v218 : IVec S16 32) (k0_hw26 : k0_chk26 v218), ∀ a x, ((![v218] : Fin 1 → IVec S16 32) a x).toNat < S4000.size a := fun v218 k0_hw26 => k0_hw26.1
theorem k0_idx42_inb : ∀ (v218 : IVec S16 32) (k0_hw26 : k0_chk26 v218), ∀ a x, ((![v218] : Fin 1 → IVec S16 32) a x).toNat < S4000.size a := fun v218 k0_hw26 => k0_hw26.2.1
theorem k0_idx43_inb : ∀ (v218 : IVec S16 32) (k0_hw26 : k0_chk26 v218), ∀ a x, ((![v218] : Fin 1 → IVec S16 32) a x).toNat < S4000.size a := fun v218 k0_hw26 => k0_hw26.2.2.1
theorem k0_idx44_inb : ∀ (v218 : IVec S16 32) (k0_hw26 : k0_chk26 v218), ∀ a x, ((![v218] : Fin 1 → IVec S16 32) a x).toNat < S4000.size a := fun v218 k0_hw26 => k0_hw26.2.2.2

def k0_chk27 (v224 : IVec S16 32) : Prop :=
  (∀ a x, ((![v224] : Fin 1 → IVec S16 32) a x).toNat < S65536.size a)
theorem k0_idx45_inb : ∀ (v224 : IVec S16 32) (k0_hw27 : k0_chk27 v224), ∀ a x, ((![v224] : Fin 1 → IVec S16 32) a x).toNat < S65536.size a := fun v224 k0_hw27 => k0_hw27

def k0_chk28 (v226 : IVec S16 32) : Prop :=
  (∀ a x, ((![v226] : Fin 1 → IVec S16 32) a x).toNat < S65536.size a)
theorem k0_idx46_inb : ∀ (v226 : IVec S16 32) (k0_hw28 : k0_chk28 v226), ∀ a x, ((![v226] : Fin 1 → IVec S16 32) a x).toNat < S65536.size a := fun v226 k0_hw28 => k0_hw28

def k0_chk29 (v228 : IVec S16 32) : Prop :=
  (∀ a x, ((![v228] : Fin 1 → IVec S16 32) a x).toNat < S65536.size a)
theorem k0_idx47_inb : ∀ (v228 : IVec S16 32) (k0_hw29 : k0_chk29 v228), ∀ a x, ((![v228] : Fin 1 → IVec S16 32) a x).toNat < S65536.size a := fun v228 k0_hw29 => k0_hw29

def k0_chk30 (v230 : IVec S16 32) : Prop :=
  (∀ a x, ((![v230] : Fin 1 → IVec S16 32) a x).toNat < S65536.size a)
theorem k0_idx48_inb : ∀ (v230 : IVec S16 32) (k0_hw30 : k0_chk30 v230), ∀ a x, ((![v230] : Fin 1 → IVec S16 32) a x).toNat < S65536.size a := fun v230 k0_hw30 => k0_hw30

def k0_chk31 (v244 : IVec S16 32) : Prop :=
  (∀ a x, ((![v244] : Fin 1 → IVec S16 32) a x).toNat < S4000.size a) ∧
  (∀ a x, ((![v244] : Fin 1 → IVec S16 32) a x).toNat < S4000.size a) ∧
  (∀ a x, ((![v244] : Fin 1 → IVec S16 32) a x).toNat < S4000.size a) ∧
  (∀ a x, ((![v244] : Fin 1 → IVec S16 32) a x).toNat < S4000.size a)
theorem k0_idx49_inb : ∀ (v244 : IVec S16 32) (k0_hw31 : k0_chk31 v244), ∀ a x, ((![v244] : Fin 1 → IVec S16 32) a x).toNat < S4000.size a := fun v244 k0_hw31 => k0_hw31.1
theorem k0_idx50_inb : ∀ (v244 : IVec S16 32) (k0_hw31 : k0_chk31 v244), ∀ a x, ((![v244] : Fin 1 → IVec S16 32) a x).toNat < S4000.size a := fun v244 k0_hw31 => k0_hw31.2.1
theorem k0_idx51_inb : ∀ (v244 : IVec S16 32) (k0_hw31 : k0_chk31 v244), ∀ a x, ((![v244] : Fin 1 → IVec S16 32) a x).toNat < S4000.size a := fun v244 k0_hw31 => k0_hw31.2.2.1
theorem k0_idx52_inb : ∀ (v244 : IVec S16 32) (k0_hw31 : k0_chk31 v244), ∀ a x, ((![v244] : Fin 1 → IVec S16 32) a x).toNat < S4000.size a := fun v244 k0_hw31 => k0_hw31.2.2.2

def k0_chk32 (v250 : IVec S16 32) : Prop :=
  (∀ a x, ((![v250] : Fin 1 → IVec S16 32) a x).toNat < S65536.size a)
theorem k0_idx53_inb : ∀ (v250 : IVec S16 32) (k0_hw32 : k0_chk32 v250), ∀ a x, ((![v250] : Fin 1 → IVec S16 32) a x).toNat < S65536.size a := fun v250 k0_hw32 => k0_hw32

def k0_chk33 (v252 : IVec S16 32) : Prop :=
  (∀ a x, ((![v252] : Fin 1 → IVec S16 32) a x).toNat < S65536.size a)
theorem k0_idx54_inb : ∀ (v252 : IVec S16 32) (k0_hw33 : k0_chk33 v252), ∀ a x, ((![v252] : Fin 1 → IVec S16 32) a x).toNat < S65536.size a := fun v252 k0_hw33 => k0_hw33

def k0_chk34 (v254 : IVec S16 32) : Prop :=
  (∀ a x, ((![v254] : Fin 1 → IVec S16 32) a x).toNat < S65536.size a)
theorem k0_idx55_inb : ∀ (v254 : IVec S16 32) (k0_hw34 : k0_chk34 v254), ∀ a x, ((![v254] : Fin 1 → IVec S16 32) a x).toNat < S65536.size a := fun v254 k0_hw34 => k0_hw34

def k0_chk35 (v256 : IVec S16 32) : Prop :=
  (∀ a x, ((![v256] : Fin 1 → IVec S16 32) a x).toNat < S65536.size a)
theorem k0_idx56_inb : ∀ (v256 : IVec S16 32) (k0_hw35 : k0_chk35 v256), ∀ a x, ((![v256] : Fin 1 → IVec S16 32) a x).toNat < S65536.size a := fun v256 k0_hw35 => k0_hw35

def k0_chk36 (v270 : IVec S16 32) : Prop :=
  (∀ a x, ((![v270] : Fin 1 → IVec S16 32) a x).toNat < S4000.size a) ∧
  (∀ a x, ((![v270] : Fin 1 → IVec S16 32) a x).toNat < S4000.size a) ∧
  (∀ a x, ((![v270] : Fin 1 → IVec S16 32) a x).toNat < S4000.size a) ∧
  (∀ a x, ((![v270] : Fin 1 → IVec S16 32) a x).toNat < S4000.size a)
theorem k0_idx57_inb : ∀ (v270 : IVec S16 32) (k0_hw36 : k0_chk36 v270), ∀ a x, ((![v270] : Fin 1 → IVec S16 32) a x).toNat < S4000.size a := fun v270 k0_hw36 => k0_hw36.1
theorem k0_idx58_inb : ∀ (v270 : IVec S16 32) (k0_hw36 : k0_chk36 v270), ∀ a x, ((![v270] : Fin 1 → IVec S16 32) a x).toNat < S4000.size a := fun v270 k0_hw36 => k0_hw36.2.1
theorem k0_idx59_inb : ∀ (v270 : IVec S16 32) (k0_hw36 : k0_chk36 v270), ∀ a x, ((![v270] : Fin 1 → IVec S16 32) a x).toNat < S4000.size a := fun v270 k0_hw36 => k0_hw36.2.2.1
theorem k0_idx60_inb : ∀ (v270 : IVec S16 32) (k0_hw36 : k0_chk36 v270), ∀ a x, ((![v270] : Fin 1 → IVec S16 32) a x).toNat < S4000.size a := fun v270 k0_hw36 => k0_hw36.2.2.2

def k0_chk37 (v276 : IVec S16 32) : Prop :=
  (∀ a x, ((![v276] : Fin 1 → IVec S16 32) a x).toNat < S65536.size a)
theorem k0_idx61_inb : ∀ (v276 : IVec S16 32) (k0_hw37 : k0_chk37 v276), ∀ a x, ((![v276] : Fin 1 → IVec S16 32) a x).toNat < S65536.size a := fun v276 k0_hw37 => k0_hw37

def k0_chk38 (v278 : IVec S16 32) : Prop :=
  (∀ a x, ((![v278] : Fin 1 → IVec S16 32) a x).toNat < S65536.size a)
theorem k0_idx62_inb : ∀ (v278 : IVec S16 32) (k0_hw38 : k0_chk38 v278), ∀ a x, ((![v278] : Fin 1 → IVec S16 32) a x).toNat < S65536.size a := fun v278 k0_hw38 => k0_hw38

def k0_chk39 (v280 : IVec S16 32) : Prop :=
  (∀ a x, ((![v280] : Fin 1 → IVec S16 32) a x).toNat < S65536.size a)
theorem k0_idx63_inb : ∀ (v280 : IVec S16 32) (k0_hw39 : k0_chk39 v280), ∀ a x, ((![v280] : Fin 1 → IVec S16 32) a x).toNat < S65536.size a := fun v280 k0_hw39 => k0_hw39

def k0_chk40 (v282 : IVec S16 32) : Prop :=
  (∀ a x, ((![v282] : Fin 1 → IVec S16 32) a x).toNat < S65536.size a)
theorem k0_idx64_inb : ∀ (v282 : IVec S16 32) (k0_hw40 : k0_chk40 v282), ∀ a x, ((![v282] : Fin 1 → IVec S16 32) a x).toNat < S65536.size a := fun v282 k0_hw40 => k0_hw40

def k0_chk41 (v296 : IVec S16 32) : Prop :=
  (∀ a x, ((![v296] : Fin 1 → IVec S16 32) a x).toNat < S4000.size a) ∧
  (∀ a x, ((![v296] : Fin 1 → IVec S16 32) a x).toNat < S4000.size a) ∧
  (∀ a x, ((![v296] : Fin 1 → IVec S16 32) a x).toNat < S4000.size a) ∧
  (∀ a x, ((![v296] : Fin 1 → IVec S16 32) a x).toNat < S4000.size a)
theorem k0_idx65_inb : ∀ (v296 : IVec S16 32) (k0_hw41 : k0_chk41 v296), ∀ a x, ((![v296] : Fin 1 → IVec S16 32) a x).toNat < S4000.size a := fun v296 k0_hw41 => k0_hw41.1
theorem k0_idx66_inb : ∀ (v296 : IVec S16 32) (k0_hw41 : k0_chk41 v296), ∀ a x, ((![v296] : Fin 1 → IVec S16 32) a x).toNat < S4000.size a := fun v296 k0_hw41 => k0_hw41.2.1
theorem k0_idx67_inb : ∀ (v296 : IVec S16 32) (k0_hw41 : k0_chk41 v296), ∀ a x, ((![v296] : Fin 1 → IVec S16 32) a x).toNat < S4000.size a := fun v296 k0_hw41 => k0_hw41.2.2.1
theorem k0_idx68_inb : ∀ (v296 : IVec S16 32) (k0_hw41 : k0_chk41 v296), ∀ a x, ((![v296] : Fin 1 → IVec S16 32) a x).toNat < S4000.size a := fun v296 k0_hw41 => k0_hw41.2.2.2

def k0_chk42 (v302 : IVec S16 32) : Prop :=
  (∀ a x, ((![v302] : Fin 1 → IVec S16 32) a x).toNat < S65536.size a)
theorem k0_idx69_inb : ∀ (v302 : IVec S16 32) (k0_hw42 : k0_chk42 v302), ∀ a x, ((![v302] : Fin 1 → IVec S16 32) a x).toNat < S65536.size a := fun v302 k0_hw42 => k0_hw42

def k0_chk43 (v304 : IVec S16 32) : Prop :=
  (∀ a x, ((![v304] : Fin 1 → IVec S16 32) a x).toNat < S65536.size a)
theorem k0_idx70_inb : ∀ (v304 : IVec S16 32) (k0_hw43 : k0_chk43 v304), ∀ a x, ((![v304] : Fin 1 → IVec S16 32) a x).toNat < S65536.size a := fun v304 k0_hw43 => k0_hw43

def k0_chk44 (v306 : IVec S16 32) : Prop :=
  (∀ a x, ((![v306] : Fin 1 → IVec S16 32) a x).toNat < S65536.size a)
theorem k0_idx71_inb : ∀ (v306 : IVec S16 32) (k0_hw44 : k0_chk44 v306), ∀ a x, ((![v306] : Fin 1 → IVec S16 32) a x).toNat < S65536.size a := fun v306 k0_hw44 => k0_hw44

def k0_chk45 (v308 : IVec S16 32) : Prop :=
  (∀ a x, ((![v308] : Fin 1 → IVec S16 32) a x).toNat < S65536.size a)
theorem k0_idx72_inb : ∀ (v308 : IVec S16 32) (k0_hw45 : k0_chk45 v308), ∀ a x, ((![v308] : Fin 1 → IVec S16 32) a x).toNat < S65536.size a := fun v308 k0_hw45 => k0_hw45

def k0_chk46 (v322 : IVec S16 32) : Prop :=
  (∀ a x, ((![v322] : Fin 1 → IVec S16 32) a x).toNat < S4000.size a) ∧
  (∀ a x, ((![v322] : Fin 1 → IVec S16 32) a x).toNat < S4000.size a) ∧
  (∀ a x, ((![v322] : Fin 1 → IVec S16 32) a x).toNat < S4000.size a) ∧
  (∀ a x, ((![v322] : Fin 1 → IVec S16 32) a x).toNat < S4000.size a)
theorem k0_idx73_inb : ∀ (v322 : IVec S16 32) (k0_hw46 : k0_chk46 v322), ∀ a x, ((![v322] : Fin 1 → IVec S16 32) a x).toNat < S4000.size a := fun v322 k0_hw46 => k0_hw46.1
theorem k0_idx74_inb : ∀ (v322 : IVec S16 32) (k0_hw46 : k0_chk46 v322), ∀ a x, ((![v322] : Fin 1 → IVec S16 32) a x).toNat < S4000.size a := fun v322 k0_hw46 => k0_hw46.2.1
theorem k0_idx75_inb : ∀ (v322 : IVec S16 32) (k0_hw46 : k0_chk46 v322), ∀ a x, ((![v322] : Fin 1 → IVec S16 32) a x).toNat < S4000.size a := fun v322 k0_hw46 => k0_hw46.2.2.1
theorem k0_idx76_inb : ∀ (v322 : IVec S16 32) (k0_hw46 : k0_chk46 v322), ∀ a x, ((![v322] : Fin 1 → IVec S16 32) a x).toNat < S4000.size a := fun v322 k0_hw46 => k0_hw46.2.2.2

def k0_chk47 (v328 : IVec S16 32) : Prop :=
  (∀ a x, ((![v328] : Fin 1 → IVec S16 32) a x).toNat < S65536.size a)
theorem k0_idx77_inb : ∀ (v328 : IVec S16 32) (k0_hw47 : k0_chk47 v328), ∀ a x, ((![v328] : Fin 1 → IVec S16 32) a x).toNat < S65536.size a := fun v328 k0_hw47 => k0_hw47

def k0_chk48 (v330 : IVec S16 32) : Prop :=
  (∀ a x, ((![v330] : Fin 1 → IVec S16 32) a x).toNat < S65536.size a)
theorem k0_idx78_inb : ∀ (v330 : IVec S16 32) (k0_hw48 : k0_chk48 v330), ∀ a x, ((![v330] : Fin 1 → IVec S16 32) a x).toNat < S65536.size a := fun v330 k0_hw48 => k0_hw48

def k0_chk49 (v332 : IVec S16 32) : Prop :=
  (∀ a x, ((![v332] : Fin 1 → IVec S16 32) a x).toNat < S65536.size a)
theorem k0_idx79_inb : ∀ (v332 : IVec S16 32) (k0_hw49 : k0_chk49 v332), ∀ a x, ((![v332] : Fin 1 → IVec S16 32) a x).toNat < S65536.size a := fun v332 k0_hw49 => k0_hw49

def k0_chk50 (v334 : IVec S16 32) : Prop :=
  (∀ a x, ((![v334] : Fin 1 → IVec S16 32) a x).toNat < S65536.size a)
theorem k0_idx80_inb : ∀ (v334 : IVec S16 32) (k0_hw50 : k0_chk50 v334), ∀ a x, ((![v334] : Fin 1 → IVec S16 32) a x).toNat < S65536.size a := fun v334 k0_hw50 => k0_hw50

def k0_chk51 (v348 : IVec S16 32) : Prop :=
  (∀ a x, ((![v348] : Fin 1 → IVec S16 32) a x).toNat < S4000.size a) ∧
  (∀ a x, ((![v348] : Fin 1 → IVec S16 32) a x).toNat < S4000.size a) ∧
  (∀ a x, ((![v348] : Fin 1 → IVec S16 32) a x).toNat < S4000.size a) ∧
  (∀ a x, ((![v348] : Fin 1 → IVec S16 32) a x).toNat < S4000.size a)
theorem k0_idx81_inb : ∀ (v348 : IVec S16 32) (k0_hw51 : k0_chk51 v348), ∀ a x, ((![v348] : Fin 1 → IVec S16 32) a x).toNat < S4000.size a := fun v348 k0_hw51 => k0_hw51.1
theorem k0_idx82_inb : ∀ (v348 : IVec S16 32) (k0_hw51 : k0_chk51 v348), ∀ a x, ((![v348] : Fin 1 → IVec S16 32) a x).toNat < S4000.size a := fun v348 k0_hw51 => k0_hw51.2.1
theorem k0_idx83_inb : ∀ (v348 : IVec S16 32) (k0_hw51 : k0_chk51 v348), ∀ a x, ((![v348] : Fin 1 → IVec S16 32) a x).toNat < S4000.size a := fun v348 k0_hw51 => k0_hw51.2.2.1
theorem k0_idx84_inb : ∀ (v348 : IVec S16 32) (k0_hw51 : k0_chk51 v348), ∀ a x, ((![v348] : Fin 1 → IVec S16 32) a x).toNat < S4000.size a := fun v348 k0_hw51 => k0_hw51.2.2.2

def k0_chk52 (v354 : IVec S16 32) : Prop :=
  (∀ a x, ((![v354] : Fin 1 → IVec S16 32) a x).toNat < S65536.size a)
theorem k0_idx85_inb : ∀ (v354 : IVec S16 32) (k0_hw52 : k0_chk52 v354), ∀ a x, ((![v354] : Fin 1 → IVec S16 32) a x).toNat < S65536.size a := fun v354 k0_hw52 => k0_hw52

def k0_chk53 (v356 : IVec S16 32) : Prop :=
  (∀ a x, ((![v356] : Fin 1 → IVec S16 32) a x).toNat < S65536.size a)
theorem k0_idx86_inb : ∀ (v356 : IVec S16 32) (k0_hw53 : k0_chk53 v356), ∀ a x, ((![v356] : Fin 1 → IVec S16 32) a x).toNat < S65536.size a := fun v356 k0_hw53 => k0_hw53

def k0_chk54 (v358 : IVec S16 32) : Prop :=
  (∀ a x, ((![v358] : Fin 1 → IVec S16 32) a x).toNat < S65536.size a)
theorem k0_idx87_inb : ∀ (v358 : IVec S16 32) (k0_hw54 : k0_chk54 v358), ∀ a x, ((![v358] : Fin 1 → IVec S16 32) a x).toNat < S65536.size a := fun v358 k0_hw54 => k0_hw54

def k0_chk55 (v360 : IVec S16 32) : Prop :=
  (∀ a x, ((![v360] : Fin 1 → IVec S16 32) a x).toNat < S65536.size a)
theorem k0_idx88_inb : ∀ (v360 : IVec S16 32) (k0_hw55 : k0_chk55 v360), ∀ a x, ((![v360] : Fin 1 → IVec S16 32) a x).toNat < S65536.size a := fun v360 k0_hw55 => k0_hw55

def k0_chk56 (v374 : IVec S16 32) : Prop :=
  (∀ a x, ((![v374] : Fin 1 → IVec S16 32) a x).toNat < S4000.size a) ∧
  (∀ a x, ((![v374] : Fin 1 → IVec S16 32) a x).toNat < S4000.size a) ∧
  (∀ a x, ((![v374] : Fin 1 → IVec S16 32) a x).toNat < S4000.size a) ∧
  (∀ a x, ((![v374] : Fin 1 → IVec S16 32) a x).toNat < S4000.size a)
theorem k0_idx89_inb : ∀ (v374 : IVec S16 32) (k0_hw56 : k0_chk56 v374), ∀ a x, ((![v374] : Fin 1 → IVec S16 32) a x).toNat < S4000.size a := fun v374 k0_hw56 => k0_hw56.1
theorem k0_idx90_inb : ∀ (v374 : IVec S16 32) (k0_hw56 : k0_chk56 v374), ∀ a x, ((![v374] : Fin 1 → IVec S16 32) a x).toNat < S4000.size a := fun v374 k0_hw56 => k0_hw56.2.1
theorem k0_idx91_inb : ∀ (v374 : IVec S16 32) (k0_hw56 : k0_chk56 v374), ∀ a x, ((![v374] : Fin 1 → IVec S16 32) a x).toNat < S4000.size a := fun v374 k0_hw56 => k0_hw56.2.2.1
theorem k0_idx92_inb : ∀ (v374 : IVec S16 32) (k0_hw56 : k0_chk56 v374), ∀ a x, ((![v374] : Fin 1 → IVec S16 32) a x).toNat < S4000.size a := fun v374 k0_hw56 => k0_hw56.2.2.2

def k0_chk57 (v380 : IVec S16 32) : Prop :=
  (∀ a x, ((![v380] : Fin 1 → IVec S16 32) a x).toNat < S65536.size a)
theorem k0_idx93_inb : ∀ (v380 : IVec S16 32) (k0_hw57 : k0_chk57 v380), ∀ a x, ((![v380] : Fin 1 → IVec S16 32) a x).toNat < S65536.size a := fun v380 k0_hw57 => k0_hw57

def k0_chk58 (v382 : IVec S16 32) : Prop :=
  (∀ a x, ((![v382] : Fin 1 → IVec S16 32) a x).toNat < S65536.size a)
theorem k0_idx94_inb : ∀ (v382 : IVec S16 32) (k0_hw58 : k0_chk58 v382), ∀ a x, ((![v382] : Fin 1 → IVec S16 32) a x).toNat < S65536.size a := fun v382 k0_hw58 => k0_hw58

def k0_chk59 (v384 : IVec S16 32) : Prop :=
  (∀ a x, ((![v384] : Fin 1 → IVec S16 32) a x).toNat < S65536.size a)
theorem k0_idx95_inb : ∀ (v384 : IVec S16 32) (k0_hw59 : k0_chk59 v384), ∀ a x, ((![v384] : Fin 1 → IVec S16 32) a x).toNat < S65536.size a := fun v384 k0_hw59 => k0_hw59

def k0_chk60 (v386 : IVec S16 32) : Prop :=
  (∀ a x, ((![v386] : Fin 1 → IVec S16 32) a x).toNat < S65536.size a)
theorem k0_idx96_inb : ∀ (v386 : IVec S16 32) (k0_hw60 : k0_chk60 v386), ∀ a x, ((![v386] : Fin 1 → IVec S16 32) a x).toNat < S65536.size a := fun v386 k0_hw60 => k0_hw60

def k0_chk61 (v400 : IVec S16 32) : Prop :=
  (∀ a x, ((![v400] : Fin 1 → IVec S16 32) a x).toNat < S4000.size a) ∧
  (∀ a x, ((![v400] : Fin 1 → IVec S16 32) a x).toNat < S4000.size a) ∧
  (∀ a x, ((![v400] : Fin 1 → IVec S16 32) a x).toNat < S4000.size a) ∧
  (∀ a x, ((![v400] : Fin 1 → IVec S16 32) a x).toNat < S4000.size a)
theorem k0_idx97_inb : ∀ (v400 : IVec S16 32) (k0_hw61 : k0_chk61 v400), ∀ a x, ((![v400] : Fin 1 → IVec S16 32) a x).toNat < S4000.size a := fun v400 k0_hw61 => k0_hw61.1
theorem k0_idx98_inb : ∀ (v400 : IVec S16 32) (k0_hw61 : k0_chk61 v400), ∀ a x, ((![v400] : Fin 1 → IVec S16 32) a x).toNat < S4000.size a := fun v400 k0_hw61 => k0_hw61.2.1
theorem k0_idx99_inb : ∀ (v400 : IVec S16 32) (k0_hw61 : k0_chk61 v400), ∀ a x, ((![v400] : Fin 1 → IVec S16 32) a x).toNat < S4000.size a := fun v400 k0_hw61 => k0_hw61.2.2.1
theorem k0_idx100_inb : ∀ (v400 : IVec S16 32) (k0_hw61 : k0_chk61 v400), ∀ a x, ((![v400] : Fin 1 → IVec S16 32) a x).toNat < S4000.size a := fun v400 k0_hw61 => k0_hw61.2.2.2

def k0_chk62 (v406 : IVec S16 32) : Prop :=
  (∀ a x, ((![v406] : Fin 1 → IVec S16 32) a x).toNat < S65536.size a)
theorem k0_idx101_inb : ∀ (v406 : IVec S16 32) (k0_hw62 : k0_chk62 v406), ∀ a x, ((![v406] : Fin 1 → IVec S16 32) a x).toNat < S65536.size a := fun v406 k0_hw62 => k0_hw62

def k0_chk63 (v408 : IVec S16 32) : Prop :=
  (∀ a x, ((![v408] : Fin 1 → IVec S16 32) a x).toNat < S65536.size a)
theorem k0_idx102_inb : ∀ (v408 : IVec S16 32) (k0_hw63 : k0_chk63 v408), ∀ a x, ((![v408] : Fin 1 → IVec S16 32) a x).toNat < S65536.size a := fun v408 k0_hw63 => k0_hw63

def k0_chk64 (v410 : IVec S16 32) : Prop :=
  (∀ a x, ((![v410] : Fin 1 → IVec S16 32) a x).toNat < S65536.size a)
theorem k0_idx103_inb : ∀ (v410 : IVec S16 32) (k0_hw64 : k0_chk64 v410), ∀ a x, ((![v410] : Fin 1 → IVec S16 32) a x).toNat < S65536.size a := fun v410 k0_hw64 => k0_hw64

def k0_chk65 (v412 : IVec S16 32) : Prop :=
  (∀ a x, ((![v412] : Fin 1 → IVec S16 32) a x).toNat < S65536.size a)
theorem k0_idx104_inb : ∀ (v412 : IVec S16 32) (k0_hw65 : k0_chk65 v412), ∀ a x, ((![v412] : Fin 1 → IVec S16 32) a x).toNat < S65536.size a := fun v412 k0_hw65 => k0_hw65

def k0_chk66 (v426 : IVec S16 32) : Prop :=
  (∀ a x, ((![v426] : Fin 1 → IVec S16 32) a x).toNat < S4000.size a) ∧
  (∀ a x, ((![v426] : Fin 1 → IVec S16 32) a x).toNat < S4000.size a) ∧
  (∀ a x, ((![v426] : Fin 1 → IVec S16 32) a x).toNat < S4000.size a) ∧
  (∀ a x, ((![v426] : Fin 1 → IVec S16 32) a x).toNat < S4000.size a)
theorem k0_idx105_inb : ∀ (v426 : IVec S16 32) (k0_hw66 : k0_chk66 v426), ∀ a x, ((![v426] : Fin 1 → IVec S16 32) a x).toNat < S4000.size a := fun v426 k0_hw66 => k0_hw66.1
theorem k0_idx106_inb : ∀ (v426 : IVec S16 32) (k0_hw66 : k0_chk66 v426), ∀ a x, ((![v426] : Fin 1 → IVec S16 32) a x).toNat < S4000.size a := fun v426 k0_hw66 => k0_hw66.2.1
theorem k0_idx107_inb : ∀ (v426 : IVec S16 32) (k0_hw66 : k0_chk66 v426), ∀ a x, ((![v426] : Fin 1 → IVec S16 32) a x).toNat < S4000.size a := fun v426 k0_hw66 => k0_hw66.2.2.1
theorem k0_idx108_inb : ∀ (v426 : IVec S16 32) (k0_hw66 : k0_chk66 v426), ∀ a x, ((![v426] : Fin 1 → IVec S16 32) a x).toNat < S4000.size a := fun v426 k0_hw66 => k0_hw66.2.2.2

def k0_chk67 (v432 : IVec S16 32) : Prop :=
  (∀ a x, ((![v432] : Fin 1 → IVec S16 32) a x).toNat < S65536.size a)
theorem k0_idx109_inb : ∀ (v432 : IVec S16 32) (k0_hw67 : k0_chk67 v432), ∀ a x, ((![v432] : Fin 1 → IVec S16 32) a x).toNat < S65536.size a := fun v432 k0_hw67 => k0_hw67

def k0_chk68 (v434 : IVec S16 32) : Prop :=
  (∀ a x, ((![v434] : Fin 1 → IVec S16 32) a x).toNat < S65536.size a)
theorem k0_idx110_inb : ∀ (v434 : IVec S16 32) (k0_hw68 : k0_chk68 v434), ∀ a x, ((![v434] : Fin 1 → IVec S16 32) a x).toNat < S65536.size a := fun v434 k0_hw68 => k0_hw68

def k0_chk69 (v436 : IVec S16 32) : Prop :=
  (∀ a x, ((![v436] : Fin 1 → IVec S16 32) a x).toNat < S65536.size a)
theorem k0_idx111_inb : ∀ (v436 : IVec S16 32) (k0_hw69 : k0_chk69 v436), ∀ a x, ((![v436] : Fin 1 → IVec S16 32) a x).toNat < S65536.size a := fun v436 k0_hw69 => k0_hw69

def k0_chk70 (v438 : IVec S16 32) : Prop :=
  (∀ a x, ((![v438] : Fin 1 → IVec S16 32) a x).toNat < S65536.size a)
theorem k0_idx112_inb : ∀ (v438 : IVec S16 32) (k0_hw70 : k0_chk70 v438), ∀ a x, ((![v438] : Fin 1 → IVec S16 32) a x).toNat < S65536.size a := fun v438 k0_hw70 => k0_hw70

def k0_chk71 (v452 : IVec S16 32) : Prop :=
  (∀ a x, ((![v452] : Fin 1 → IVec S16 32) a x).toNat < S4000.size a) ∧
  (∀ a x, ((![v452] : Fin 1 → IVec S16 32) a x).toNat < S4000.size a) ∧
  (∀ a x, ((![v452] : Fin 1 → IVec S16 32) a x).toNat < S4000.size a) ∧
  (∀ a x, ((![v452] : Fin 1 → IVec S16 32) a x).toNat < S4000.size a)
theorem k0_idx113_inb : ∀ (v452 : IVec S16 32) (k0_hw71 : k0_chk71 v452), ∀ a x, ((![v452] : Fin 1 → IVec S16 32) a x).toNat < S4000.size a := fun v452 k0_hw71 => k0_hw71.1
theorem k0_idx114_inb : ∀ (v452 : IVec S16 32) (k0_hw71 : k0_chk71 v452), ∀ a x, ((![v452] : Fin 1 → IVec S16 32) a x).toNat < S4000.size a := fun v452 k0_hw71 => k0_hw71.2.1
theorem k0_idx115_inb : ∀ (v452 : IVec S16 32) (k0_hw71 : k0_chk71 v452), ∀ a x, ((![v452] : Fin 1 → IVec S16 32) a x).toNat < S4000.size a := fun v452 k0_hw71 => k0_hw71.2.2.1
theorem k0_idx116_inb : ∀ (v452 : IVec S16 32) (k0_hw71 : k0_chk71 v452), ∀ a x, ((![v452] : Fin 1 → IVec S16 32) a x).toNat < S4000.size a := fun v452 k0_hw71 => k0_hw71.2.2.2

def k0_chk72 (v458 : IVec S16 32) : Prop :=
  (∀ a x, ((![v458] : Fin 1 → IVec S16 32) a x).toNat < S65536.size a)
theorem k0_idx117_inb : ∀ (v458 : IVec S16 32) (k0_hw72 : k0_chk72 v458), ∀ a x, ((![v458] : Fin 1 → IVec S16 32) a x).toNat < S65536.size a := fun v458 k0_hw72 => k0_hw72

def k0_chk73 (v460 : IVec S16 32) : Prop :=
  (∀ a x, ((![v460] : Fin 1 → IVec S16 32) a x).toNat < S65536.size a)
theorem k0_idx118_inb : ∀ (v460 : IVec S16 32) (k0_hw73 : k0_chk73 v460), ∀ a x, ((![v460] : Fin 1 → IVec S16 32) a x).toNat < S65536.size a := fun v460 k0_hw73 => k0_hw73

def k0_chk74 (v462 : IVec S16 32) : Prop :=
  (∀ a x, ((![v462] : Fin 1 → IVec S16 32) a x).toNat < S65536.size a)
theorem k0_idx119_inb : ∀ (v462 : IVec S16 32) (k0_hw74 : k0_chk74 v462), ∀ a x, ((![v462] : Fin 1 → IVec S16 32) a x).toNat < S65536.size a := fun v462 k0_hw74 => k0_hw74

def k0_chk75 (v464 : IVec S16 32) : Prop :=
  (∀ a x, ((![v464] : Fin 1 → IVec S16 32) a x).toNat < S65536.size a)
theorem k0_idx120_inb : ∀ (v464 : IVec S16 32) (k0_hw75 : k0_chk75 v464), ∀ a x, ((![v464] : Fin 1 → IVec S16 32) a x).toNat < S65536.size a := fun v464 k0_hw75 => k0_hw75

def k0_chk76 (v478 : IVec S16 32) : Prop :=
  (∀ a x, ((![v478] : Fin 1 → IVec S16 32) a x).toNat < S4000.size a) ∧
  (∀ a x, ((![v478] : Fin 1 → IVec S16 32) a x).toNat < S4000.size a) ∧
  (∀ a x, ((![v478] : Fin 1 → IVec S16 32) a x).toNat < S4000.size a) ∧
  (∀ a x, ((![v478] : Fin 1 → IVec S16 32) a x).toNat < S4000.size a)
theorem k0_idx121_inb : ∀ (v478 : IVec S16 32) (k0_hw76 : k0_chk76 v478), ∀ a x, ((![v478] : Fin 1 → IVec S16 32) a x).toNat < S4000.size a := fun v478 k0_hw76 => k0_hw76.1
theorem k0_idx122_inb : ∀ (v478 : IVec S16 32) (k0_hw76 : k0_chk76 v478), ∀ a x, ((![v478] : Fin 1 → IVec S16 32) a x).toNat < S4000.size a := fun v478 k0_hw76 => k0_hw76.2.1
theorem k0_idx123_inb : ∀ (v478 : IVec S16 32) (k0_hw76 : k0_chk76 v478), ∀ a x, ((![v478] : Fin 1 → IVec S16 32) a x).toNat < S4000.size a := fun v478 k0_hw76 => k0_hw76.2.2.1
theorem k0_idx124_inb : ∀ (v478 : IVec S16 32) (k0_hw76 : k0_chk76 v478), ∀ a x, ((![v478] : Fin 1 → IVec S16 32) a x).toNat < S4000.size a := fun v478 k0_hw76 => k0_hw76.2.2.2

def k0_chk77 (v484 : IVec S16 32) : Prop :=
  (∀ a x, ((![v484] : Fin 1 → IVec S16 32) a x).toNat < S65536.size a)
theorem k0_idx125_inb : ∀ (v484 : IVec S16 32) (k0_hw77 : k0_chk77 v484), ∀ a x, ((![v484] : Fin 1 → IVec S16 32) a x).toNat < S65536.size a := fun v484 k0_hw77 => k0_hw77

def k0_chk78 (v486 : IVec S16 32) : Prop :=
  (∀ a x, ((![v486] : Fin 1 → IVec S16 32) a x).toNat < S65536.size a)
theorem k0_idx126_inb : ∀ (v486 : IVec S16 32) (k0_hw78 : k0_chk78 v486), ∀ a x, ((![v486] : Fin 1 → IVec S16 32) a x).toNat < S65536.size a := fun v486 k0_hw78 => k0_hw78

def k0_chk79 (v488 : IVec S16 32) : Prop :=
  (∀ a x, ((![v488] : Fin 1 → IVec S16 32) a x).toNat < S65536.size a)
theorem k0_idx127_inb : ∀ (v488 : IVec S16 32) (k0_hw79 : k0_chk79 v488), ∀ a x, ((![v488] : Fin 1 → IVec S16 32) a x).toNat < S65536.size a := fun v488 k0_hw79 => k0_hw79

def k0_chk80 (v490 : IVec S16 32) : Prop :=
  (∀ a x, ((![v490] : Fin 1 → IVec S16 32) a x).toNat < S65536.size a)
theorem k0_idx128_inb : ∀ (v490 : IVec S16 32) (k0_hw80 : k0_chk80 v490), ∀ a x, ((![v490] : Fin 1 → IVec S16 32) a x).toNat < S65536.size a := fun v490 k0_hw80 => k0_hw80

def k0_chk81 (v504 : IVec S16 32) : Prop :=
  (∀ a x, ((![v504] : Fin 1 → IVec S16 32) a x).toNat < S4000.size a) ∧
  (∀ a x, ((![v504] : Fin 1 → IVec S16 32) a x).toNat < S4000.size a) ∧
  (∀ a x, ((![v504] : Fin 1 → IVec S16 32) a x).toNat < S4000.size a) ∧
  (∀ a x, ((![v504] : Fin 1 → IVec S16 32) a x).toNat < S4000.size a)
theorem k0_idx129_inb : ∀ (v504 : IVec S16 32) (k0_hw81 : k0_chk81 v504), ∀ a x, ((![v504] : Fin 1 → IVec S16 32) a x).toNat < S4000.size a := fun v504 k0_hw81 => k0_hw81.1
theorem k0_idx130_inb : ∀ (v504 : IVec S16 32) (k0_hw81 : k0_chk81 v504), ∀ a x, ((![v504] : Fin 1 → IVec S16 32) a x).toNat < S4000.size a := fun v504 k0_hw81 => k0_hw81.2.1
theorem k0_idx131_inb : ∀ (v504 : IVec S16 32) (k0_hw81 : k0_chk81 v504), ∀ a x, ((![v504] : Fin 1 → IVec S16 32) a x).toNat < S4000.size a := fun v504 k0_hw81 => k0_hw81.2.2.1
theorem k0_idx132_inb : ∀ (v504 : IVec S16 32) (k0_hw81 : k0_chk81 v504), ∀ a x, ((![v504] : Fin 1 → IVec S16 32) a x).toNat < S4000.size a := fun v504 k0_hw81 => k0_hw81.2.2.2

def k0_chk82 (v510 : IVec S16 32) : Prop :=
  (∀ a x, ((![v510] : Fin 1 → IVec S16 32) a x).toNat < S65536.size a)
theorem k0_idx133_inb : ∀ (v510 : IVec S16 32) (k0_hw82 : k0_chk82 v510), ∀ a x, ((![v510] : Fin 1 → IVec S16 32) a x).toNat < S65536.size a := fun v510 k0_hw82 => k0_hw82

def k0_chk83 (v512 : IVec S16 32) : Prop :=
  (∀ a x, ((![v512] : Fin 1 → IVec S16 32) a x).toNat < S65536.size a)
theorem k0_idx134_inb : ∀ (v512 : IVec S16 32) (k0_hw83 : k0_chk83 v512), ∀ a x, ((![v512] : Fin 1 → IVec S16 32) a x).toNat < S65536.size a := fun v512 k0_hw83 => k0_hw83

def k0_chk84 (v514 : IVec S16 32) : Prop :=
  (∀ a x, ((![v514] : Fin 1 → IVec S16 32) a x).toNat < S65536.size a)
theorem k0_idx135_inb : ∀ (v514 : IVec S16 32) (k0_hw84 : k0_chk84 v514), ∀ a x, ((![v514] : Fin 1 → IVec S16 32) a x).toNat < S65536.size a := fun v514 k0_hw84 => k0_hw84

def k0_chk85 (v516 : IVec S16 32) : Prop :=
  (∀ a x, ((![v516] : Fin 1 → IVec S16 32) a x).toNat < S65536.size a)
theorem k0_idx136_inb : ∀ (v516 : IVec S16 32) (k0_hw85 : k0_chk85 v516), ∀ a x, ((![v516] : Fin 1 → IVec S16 32) a x).toNat < S65536.size a := fun v516 k0_hw85 => k0_hw85

def k0_chk86 (v530 : IVec S16 32) : Prop :=
  (∀ a x, ((![v530] : Fin 1 → IVec S16 32) a x).toNat < S4000.size a) ∧
  (∀ a x, ((![v530] : Fin 1 → IVec S16 32) a x).toNat < S4000.size a) ∧
  (∀ a x, ((![v530] : Fin 1 → IVec S16 32) a x).toNat < S4000.size a) ∧
  (∀ a x, ((![v530] : Fin 1 → IVec S16 32) a x).toNat < S4000.size a)
theorem k0_idx137_inb : ∀ (v530 : IVec S16 32) (k0_hw86 : k0_chk86 v530), ∀ a x, ((![v530] : Fin 1 → IVec S16 32) a x).toNat < S4000.size a := fun v530 k0_hw86 => k0_hw86.1
theorem k0_idx138_inb : ∀ (v530 : IVec S16 32) (k0_hw86 : k0_chk86 v530), ∀ a x, ((![v530] : Fin 1 → IVec S16 32) a x).toNat < S4000.size a := fun v530 k0_hw86 => k0_hw86.2.1
theorem k0_idx139_inb : ∀ (v530 : IVec S16 32) (k0_hw86 : k0_chk86 v530), ∀ a x, ((![v530] : Fin 1 → IVec S16 32) a x).toNat < S4000.size a := fun v530 k0_hw86 => k0_hw86.2.2.1
theorem k0_idx140_inb : ∀ (v530 : IVec S16 32) (k0_hw86 : k0_chk86 v530), ∀ a x, ((![v530] : Fin 1 → IVec S16 32) a x).toNat < S4000.size a := fun v530 k0_hw86 => k0_hw86.2.2.2

def k0_chk87 (v536 : IVec S16 32) : Prop :=
  (∀ a x, ((![v536] : Fin 1 → IVec S16 32) a x).toNat < S65536.size a)
theorem k0_idx141_inb : ∀ (v536 : IVec S16 32) (k0_hw87 : k0_chk87 v536), ∀ a x, ((![v536] : Fin 1 → IVec S16 32) a x).toNat < S65536.size a := fun v536 k0_hw87 => k0_hw87

def k0_chk88 (v538 : IVec S16 32) : Prop :=
  (∀ a x, ((![v538] : Fin 1 → IVec S16 32) a x).toNat < S65536.size a)
theorem k0_idx142_inb : ∀ (v538 : IVec S16 32) (k0_hw88 : k0_chk88 v538), ∀ a x, ((![v538] : Fin 1 → IVec S16 32) a x).toNat < S65536.size a := fun v538 k0_hw88 => k0_hw88

def k0_chk89 (v540 : IVec S16 32) : Prop :=
  (∀ a x, ((![v540] : Fin 1 → IVec S16 32) a x).toNat < S65536.size a)
theorem k0_idx143_inb : ∀ (v540 : IVec S16 32) (k0_hw89 : k0_chk89 v540), ∀ a x, ((![v540] : Fin 1 → IVec S16 32) a x).toNat < S65536.size a := fun v540 k0_hw89 => k0_hw89

def k0_chk90 (v542 : IVec S16 32) : Prop :=
  (∀ a x, ((![v542] : Fin 1 → IVec S16 32) a x).toNat < S65536.size a)
theorem k0_idx144_inb : ∀ (v542 : IVec S16 32) (k0_hw90 : k0_chk90 v542), ∀ a x, ((![v542] : Fin 1 → IVec S16 32) a x).toNat < S65536.size a := fun v542 k0_hw90 => k0_hw90

def k0_chk91 (v556 : IVec S16 32) : Prop :=
  (∀ a x, ((![v556] : Fin 1 → IVec S16 32) a x).toNat < S4000.size a) ∧
  (∀ a x, ((![v556] : Fin 1 → IVec S16 32) a x).toNat < S4000.size a) ∧
  (∀ a x, ((![v556] : Fin 1 → IVec S16 32) a x).toNat < S4000.size a) ∧
  (∀ a x, ((![v556] : Fin 1 → IVec S16 32) a x).toNat < S4000.size a)
theorem k0_idx145_inb : ∀ (v556 : IVec S16 32) (k0_hw91 : k0_chk91 v556), ∀ a x, ((![v556] : Fin 1 → IVec S16 32) a x).toNat < S4000.size a := fun v556 k0_hw91 => k0_hw91.1
theorem k0_idx146_inb : ∀ (v556 : IVec S16 32) (k0_hw91 : k0_chk91 v556), ∀ a x, ((![v556] : Fin 1 → IVec S16 32) a x).toNat < S4000.size a := fun v556 k0_hw91 => k0_hw91.2.1
theorem k0_idx147_inb : ∀ (v556 : IVec S16 32) (k0_hw91 : k0_chk91 v556), ∀ a x, ((![v556] : Fin 1 → IVec S16 32) a x).toNat < S4000.size a := fun v556 k0_hw91 => k0_hw91.2.2.1
theorem k0_idx148_inb : ∀ (v556 : IVec S16 32) (k0_hw91 : k0_chk91 v556), ∀ a x, ((![v556] : Fin 1 → IVec S16 32) a x).toNat < S4000.size a := fun v556 k0_hw91 => k0_hw91.2.2.2

def k0_chk92 (v562 : IVec S16 32) : Prop :=
  (∀ a x, ((![v562] : Fin 1 → IVec S16 32) a x).toNat < S65536.size a)
theorem k0_idx149_inb : ∀ (v562 : IVec S16 32) (k0_hw92 : k0_chk92 v562), ∀ a x, ((![v562] : Fin 1 → IVec S16 32) a x).toNat < S65536.size a := fun v562 k0_hw92 => k0_hw92

def k0_chk93 (v564 : IVec S16 32) : Prop :=
  (∀ a x, ((![v564] : Fin 1 → IVec S16 32) a x).toNat < S65536.size a)
theorem k0_idx150_inb : ∀ (v564 : IVec S16 32) (k0_hw93 : k0_chk93 v564), ∀ a x, ((![v564] : Fin 1 → IVec S16 32) a x).toNat < S65536.size a := fun v564 k0_hw93 => k0_hw93

def k0_chk94 (v566 : IVec S16 32) : Prop :=
  (∀ a x, ((![v566] : Fin 1 → IVec S16 32) a x).toNat < S65536.size a)
theorem k0_idx151_inb : ∀ (v566 : IVec S16 32) (k0_hw94 : k0_chk94 v566), ∀ a x, ((![v566] : Fin 1 → IVec S16 32) a x).toNat < S65536.size a := fun v566 k0_hw94 => k0_hw94

def k0_chk95 (v568 : IVec S16 32) : Prop :=
  (∀ a x, ((![v568] : Fin 1 → IVec S16 32) a x).toNat < S65536.size a)
theorem k0_idx152_inb : ∀ (v568 : IVec S16 32) (k0_hw95 : k0_chk95 v568), ∀ a x, ((![v568] : Fin 1 → IVec S16 32) a x).toNat < S65536.size a := fun v568 k0_hw95 => k0_hw95

def k0_chk96 (v582 : IVec S16 32) : Prop :=
  (∀ a x, ((![v582] : Fin 1 → IVec S16 32) a x).toNat < S4000.size a) ∧
  (∀ a x, ((![v582] : Fin 1 → IVec S16 32) a x).toNat < S4000.size a) ∧
  (∀ a x, ((![v582] : Fin 1 → IVec S16 32) a x).toNat < S4000.size a) ∧
  (∀ a x, ((![v582] : Fin 1 → IVec S16 32) a x).toNat < S4000.size a)
theorem k0_idx153_inb : ∀ (v582 : IVec S16 32) (k0_hw96 : k0_chk96 v582), ∀ a x, ((![v582] : Fin 1 → IVec S16 32) a x).toNat < S4000.size a := fun v582 k0_hw96 => k0_hw96.1
theorem k0_idx154_inb : ∀ (v582 : IVec S16 32) (k0_hw96 : k0_chk96 v582), ∀ a x, ((![v582] : Fin 1 → IVec S16 32) a x).toNat < S4000.size a := fun v582 k0_hw96 => k0_hw96.2.1
theorem k0_idx155_inb : ∀ (v582 : IVec S16 32) (k0_hw96 : k0_chk96 v582), ∀ a x, ((![v582] : Fin 1 → IVec S16 32) a x).toNat < S4000.size a := fun v582 k0_hw96 => k0_hw96.2.2.1
theorem k0_idx156_inb : ∀ (v582 : IVec S16 32) (k0_hw96 : k0_chk96 v582), ∀ a x, ((![v582] : Fin 1 → IVec S16 32) a x).toNat < S4000.size a := fun v582 k0_hw96 => k0_hw96.2.2.2

def k0_chk97 (v588 : IVec S16 32) : Prop :=
  (∀ a x, ((![v588] : Fin 1 → IVec S16 32) a x).toNat < S65536.size a)
theorem k0_idx157_inb : ∀ (v588 : IVec S16 32) (k0_hw97 : k0_chk97 v588), ∀ a x, ((![v588] : Fin 1 → IVec S16 32) a x).toNat < S65536.size a := fun v588 k0_hw97 => k0_hw97

def k0_chk98 (v590 : IVec S16 32) : Prop :=
  (∀ a x, ((![v590] : Fin 1 → IVec S16 32) a x).toNat < S65536.size a)
theorem k0_idx158_inb : ∀ (v590 : IVec S16 32) (k0_hw98 : k0_chk98 v590), ∀ a x, ((![v590] : Fin 1 → IVec S16 32) a x).toNat < S65536.size a := fun v590 k0_hw98 => k0_hw98

def k0_chk99 (v592 : IVec S16 32) : Prop :=
  (∀ a x, ((![v592] : Fin 1 → IVec S16 32) a x).toNat < S65536.size a)
theorem k0_idx159_inb : ∀ (v592 : IVec S16 32) (k0_hw99 : k0_chk99 v592), ∀ a x, ((![v592] : Fin 1 → IVec S16 32) a x).toNat < S65536.size a := fun v592 k0_hw99 => k0_hw99

def k0_chk100 (v594 : IVec S16 32) : Prop :=
  (∀ a x, ((![v594] : Fin 1 → IVec S16 32) a x).toNat < S65536.size a)
theorem k0_idx160_inb : ∀ (v594 : IVec S16 32) (k0_hw100 : k0_chk100 v594), ∀ a x, ((![v594] : Fin 1 → IVec S16 32) a x).toNat < S65536.size a := fun v594 k0_hw100 => k0_hw100

def k0_chk101 (v608 : IVec S16 32) : Prop :=
  (∀ a x, ((![v608] : Fin 1 → IVec S16 32) a x).toNat < S4000.size a) ∧
  (∀ a x, ((![v608] : Fin 1 → IVec S16 32) a x).toNat < S4000.size a) ∧
  (∀ a x, ((![v608] : Fin 1 → IVec S16 32) a x).toNat < S4000.size a) ∧
  (∀ a x, ((![v608] : Fin 1 → IVec S16 32) a x).toNat < S4000.size a)
theorem k0_idx161_inb : ∀ (v608 : IVec S16 32) (k0_hw101 : k0_chk101 v608), ∀ a x, ((![v608] : Fin 1 → IVec S16 32) a x).toNat < S4000.size a := fun v608 k0_hw101 => k0_hw101.1
theorem k0_idx162_inb : ∀ (v608 : IVec S16 32) (k0_hw101 : k0_chk101 v608), ∀ a x, ((![v608] : Fin 1 → IVec S16 32) a x).toNat < S4000.size a := fun v608 k0_hw101 => k0_hw101.2.1
theorem k0_idx163_inb : ∀ (v608 : IVec S16 32) (k0_hw101 : k0_chk101 v608), ∀ a x, ((![v608] : Fin 1 → IVec S16 32) a x).toNat < S4000.size a := fun v608 k0_hw101 => k0_hw101.2.2.1
theorem k0_idx164_inb : ∀ (v608 : IVec S16 32) (k0_hw101 : k0_chk101 v608), ∀ a x, ((![v608] : Fin 1 → IVec S16 32) a x).toNat < S4000.size a := fun v608 k0_hw101 => k0_hw101.2.2.2

def k0_chk102 (v614 : IVec S16 32) : Prop :=
  (∀ a x, ((![v614] : Fin 1 → IVec S16 32) a x).toNat < S65536.size a)
theorem k0_idx165_inb : ∀ (v614 : IVec S16 32) (k0_hw102 : k0_chk102 v614), ∀ a x, ((![v614] : Fin 1 → IVec S16 32) a x).toNat < S65536.size a := fun v614 k0_hw102 => k0_hw102

def k0_chk103 (v616 : IVec S16 32) : Prop :=
  (∀ a x, ((![v616] : Fin 1 → IVec S16 32) a x).toNat < S65536.size a)
theorem k0_idx166_inb : ∀ (v616 : IVec S16 32) (k0_hw103 : k0_chk103 v616), ∀ a x, ((![v616] : Fin 1 → IVec S16 32) a x).toNat < S65536.size a := fun v616 k0_hw103 => k0_hw103

def k0_chk104 (v618 : IVec S16 32) : Prop :=
  (∀ a x, ((![v618] : Fin 1 → IVec S16 32) a x).toNat < S65536.size a)
theorem k0_idx167_inb : ∀ (v618 : IVec S16 32) (k0_hw104 : k0_chk104 v618), ∀ a x, ((![v618] : Fin 1 → IVec S16 32) a x).toNat < S65536.size a := fun v618 k0_hw104 => k0_hw104

def k0_chk105 (v620 : IVec S16 32) : Prop :=
  (∀ a x, ((![v620] : Fin 1 → IVec S16 32) a x).toNat < S65536.size a)
theorem k0_idx168_inb : ∀ (v620 : IVec S16 32) (k0_hw105 : k0_chk105 v620), ∀ a x, ((![v620] : Fin 1 → IVec S16 32) a x).toNat < S65536.size a := fun v620 k0_hw105 => k0_hw105

def k0_chk106 (v634 : IVec S16 32) : Prop :=
  (∀ a x, ((![v634] : Fin 1 → IVec S16 32) a x).toNat < S4000.size a) ∧
  (∀ a x, ((![v634] : Fin 1 → IVec S16 32) a x).toNat < S4000.size a) ∧
  (∀ a x, ((![v634] : Fin 1 → IVec S16 32) a x).toNat < S4000.size a) ∧
  (∀ a x, ((![v634] : Fin 1 → IVec S16 32) a x).toNat < S4000.size a)
theorem k0_idx169_inb : ∀ (v634 : IVec S16 32) (k0_hw106 : k0_chk106 v634), ∀ a x, ((![v634] : Fin 1 → IVec S16 32) a x).toNat < S4000.size a := fun v634 k0_hw106 => k0_hw106.1
theorem k0_idx170_inb : ∀ (v634 : IVec S16 32) (k0_hw106 : k0_chk106 v634), ∀ a x, ((![v634] : Fin 1 → IVec S16 32) a x).toNat < S4000.size a := fun v634 k0_hw106 => k0_hw106.2.1
theorem k0_idx171_inb : ∀ (v634 : IVec S16 32) (k0_hw106 : k0_chk106 v634), ∀ a x, ((![v634] : Fin 1 → IVec S16 32) a x).toNat < S4000.size a := fun v634 k0_hw106 => k0_hw106.2.2.1
theorem k0_idx172_inb : ∀ (v634 : IVec S16 32) (k0_hw106 : k0_chk106 v634), ∀ a x, ((![v634] : Fin 1 → IVec S16 32) a x).toNat < S4000.size a := fun v634 k0_hw106 => k0_hw106.2.2.2

def k0_chk107 (v640 : IVec S16 32) : Prop :=
  (∀ a x, ((![v640] : Fin 1 → IVec S16 32) a x).toNat < S65536.size a)
theorem k0_idx173_inb : ∀ (v640 : IVec S16 32) (k0_hw107 : k0_chk107 v640), ∀ a x, ((![v640] : Fin 1 → IVec S16 32) a x).toNat < S65536.size a := fun v640 k0_hw107 => k0_hw107

def k0_chk108 (v642 : IVec S16 32) : Prop :=
  (∀ a x, ((![v642] : Fin 1 → IVec S16 32) a x).toNat < S65536.size a)
theorem k0_idx174_inb : ∀ (v642 : IVec S16 32) (k0_hw108 : k0_chk108 v642), ∀ a x, ((![v642] : Fin 1 → IVec S16 32) a x).toNat < S65536.size a := fun v642 k0_hw108 => k0_hw108

def k0_chk109 (v644 : IVec S16 32) : Prop :=
  (∀ a x, ((![v644] : Fin 1 → IVec S16 32) a x).toNat < S65536.size a)
theorem k0_idx175_inb : ∀ (v644 : IVec S16 32) (k0_hw109 : k0_chk109 v644), ∀ a x, ((![v644] : Fin 1 → IVec S16 32) a x).toNat < S65536.size a := fun v644 k0_hw109 => k0_hw109

def k0_chk110 (v646 : IVec S16 32) : Prop :=
  (∀ a x, ((![v646] : Fin 1 → IVec S16 32) a x).toNat < S65536.size a)
theorem k0_idx176_inb : ∀ (v646 : IVec S16 32) (k0_hw110 : k0_chk110 v646), ∀ a x, ((![v646] : Fin 1 → IVec S16 32) a x).toNat < S65536.size a := fun v646 k0_hw110 => k0_hw110

def k0_chk111 (v660 : IVec S16 32) : Prop :=
  (∀ a x, ((![v660] : Fin 1 → IVec S16 32) a x).toNat < S4000.size a) ∧
  (∀ a x, ((![v660] : Fin 1 → IVec S16 32) a x).toNat < S4000.size a) ∧
  (∀ a x, ((![v660] : Fin 1 → IVec S16 32) a x).toNat < S4000.size a) ∧
  (∀ a x, ((![v660] : Fin 1 → IVec S16 32) a x).toNat < S4000.size a)
theorem k0_idx177_inb : ∀ (v660 : IVec S16 32) (k0_hw111 : k0_chk111 v660), ∀ a x, ((![v660] : Fin 1 → IVec S16 32) a x).toNat < S4000.size a := fun v660 k0_hw111 => k0_hw111.1
theorem k0_idx178_inb : ∀ (v660 : IVec S16 32) (k0_hw111 : k0_chk111 v660), ∀ a x, ((![v660] : Fin 1 → IVec S16 32) a x).toNat < S4000.size a := fun v660 k0_hw111 => k0_hw111.2.1
theorem k0_idx179_inb : ∀ (v660 : IVec S16 32) (k0_hw111 : k0_chk111 v660), ∀ a x, ((![v660] : Fin 1 → IVec S16 32) a x).toNat < S4000.size a := fun v660 k0_hw111 => k0_hw111.2.2.1
theorem k0_idx180_inb : ∀ (v660 : IVec S16 32) (k0_hw111 : k0_chk111 v660), ∀ a x, ((![v660] : Fin 1 → IVec S16 32) a x).toNat < S4000.size a := fun v660 k0_hw111 => k0_hw111.2.2.2

def k0_chk112 (v666 : IVec S16 32) : Prop :=
  (∀ a x, ((![v666] : Fin 1 → IVec S16 32) a x).toNat < S65536.size a)
theorem k0_idx181_inb : ∀ (v666 : IVec S16 32) (k0_hw112 : k0_chk112 v666), ∀ a x, ((![v666] : Fin 1 → IVec S16 32) a x).toNat < S65536.size a := fun v666 k0_hw112 => k0_hw112

def k0_chk113 (v668 : IVec S16 32) : Prop :=
  (∀ a x, ((![v668] : Fin 1 → IVec S16 32) a x).toNat < S65536.size a)
theorem k0_idx182_inb : ∀ (v668 : IVec S16 32) (k0_hw113 : k0_chk113 v668), ∀ a x, ((![v668] : Fin 1 → IVec S16 32) a x).toNat < S65536.size a := fun v668 k0_hw113 => k0_hw113

def k0_chk114 (v670 : IVec S16 32) : Prop :=
  (∀ a x, ((![v670] : Fin 1 → IVec S16 32) a x).toNat < S65536.size a)
theorem k0_idx183_inb : ∀ (v670 : IVec S16 32) (k0_hw114 : k0_chk114 v670), ∀ a x, ((![v670] : Fin 1 → IVec S16 32) a x).toNat < S65536.size a := fun v670 k0_hw114 => k0_hw114

def k0_chk115 (v672 : IVec S16 32) : Prop :=
  (∀ a x, ((![v672] : Fin 1 → IVec S16 32) a x).toNat < S65536.size a)
theorem k0_idx184_inb : ∀ (v672 : IVec S16 32) (k0_hw115 : k0_chk115 v672), ∀ a x, ((![v672] : Fin 1 → IVec S16 32) a x).toNat < S65536.size a := fun v672 k0_hw115 => k0_hw115

def k0_chk116 (v686 : IVec S16 32) : Prop :=
  (∀ a x, ((![v686] : Fin 1 → IVec S16 32) a x).toNat < S4000.size a) ∧
  (∀ a x, ((![v686] : Fin 1 → IVec S16 32) a x).toNat < S4000.size a) ∧
  (∀ a x, ((![v686] : Fin 1 → IVec S16 32) a x).toNat < S4000.size a) ∧
  (∀ a x, ((![v686] : Fin 1 → IVec S16 32) a x).toNat < S4000.size a)
theorem k0_idx185_inb : ∀ (v686 : IVec S16 32) (k0_hw116 : k0_chk116 v686), ∀ a x, ((![v686] : Fin 1 → IVec S16 32) a x).toNat < S4000.size a := fun v686 k0_hw116 => k0_hw116.1
theorem k0_idx186_inb : ∀ (v686 : IVec S16 32) (k0_hw116 : k0_chk116 v686), ∀ a x, ((![v686] : Fin 1 → IVec S16 32) a x).toNat < S4000.size a := fun v686 k0_hw116 => k0_hw116.2.1
theorem k0_idx187_inb : ∀ (v686 : IVec S16 32) (k0_hw116 : k0_chk116 v686), ∀ a x, ((![v686] : Fin 1 → IVec S16 32) a x).toNat < S4000.size a := fun v686 k0_hw116 => k0_hw116.2.2.1
theorem k0_idx188_inb : ∀ (v686 : IVec S16 32) (k0_hw116 : k0_chk116 v686), ∀ a x, ((![v686] : Fin 1 → IVec S16 32) a x).toNat < S4000.size a := fun v686 k0_hw116 => k0_hw116.2.2.2

def k0_chk117 (v692 : IVec S16 32) : Prop :=
  (∀ a x, ((![v692] : Fin 1 → IVec S16 32) a x).toNat < S65536.size a)
theorem k0_idx189_inb : ∀ (v692 : IVec S16 32) (k0_hw117 : k0_chk117 v692), ∀ a x, ((![v692] : Fin 1 → IVec S16 32) a x).toNat < S65536.size a := fun v692 k0_hw117 => k0_hw117

def k0_chk118 (v694 : IVec S16 32) : Prop :=
  (∀ a x, ((![v694] : Fin 1 → IVec S16 32) a x).toNat < S65536.size a)
theorem k0_idx190_inb : ∀ (v694 : IVec S16 32) (k0_hw118 : k0_chk118 v694), ∀ a x, ((![v694] : Fin 1 → IVec S16 32) a x).toNat < S65536.size a := fun v694 k0_hw118 => k0_hw118

def k0_chk119 (v696 : IVec S16 32) : Prop :=
  (∀ a x, ((![v696] : Fin 1 → IVec S16 32) a x).toNat < S65536.size a)
theorem k0_idx191_inb : ∀ (v696 : IVec S16 32) (k0_hw119 : k0_chk119 v696), ∀ a x, ((![v696] : Fin 1 → IVec S16 32) a x).toNat < S65536.size a := fun v696 k0_hw119 => k0_hw119

def k0_chk120 (v698 : IVec S16 32) : Prop :=
  (∀ a x, ((![v698] : Fin 1 → IVec S16 32) a x).toNat < S65536.size a)
theorem k0_idx192_inb : ∀ (v698 : IVec S16 32) (k0_hw120 : k0_chk120 v698), ∀ a x, ((![v698] : Fin 1 → IVec S16 32) a x).toNat < S65536.size a := fun v698 k0_hw120 => k0_hw120

def k0_chk121 (v712 : IVec S16 32) : Prop :=
  (∀ a x, ((![v712] : Fin 1 → IVec S16 32) a x).toNat < S4000.size a) ∧
  (∀ a x, ((![v712] : Fin 1 → IVec S16 32) a x).toNat < S4000.size a) ∧
  (∀ a x, ((![v712] : Fin 1 → IVec S16 32) a x).toNat < S4000.size a) ∧
  (∀ a x, ((![v712] : Fin 1 → IVec S16 32) a x).toNat < S4000.size a)
theorem k0_idx193_inb : ∀ (v712 : IVec S16 32) (k0_hw121 : k0_chk121 v712), ∀ a x, ((![v712] : Fin 1 → IVec S16 32) a x).toNat < S4000.size a := fun v712 k0_hw121 => k0_hw121.1
theorem k0_idx194_inb : ∀ (v712 : IVec S16 32) (k0_hw121 : k0_chk121 v712), ∀ a x, ((![v712] : Fin 1 → IVec S16 32) a x).toNat < S4000.size a := fun v712 k0_hw121 => k0_hw121.2.1
theorem k0_idx195_inb : ∀ (v712 : IVec S16 32) (k0_hw121 : k0_chk121 v712), ∀ a x, ((![v712] : Fin 1 → IVec S16 32) a x).toNat < S4000.size a := fun v712 k0_hw121 => k0_hw121.2.2.1
theorem k0_idx196_inb : ∀ (v712 : IVec S16 32) (k0_hw121 : k0_chk121 v712), ∀ a x, ((![v712] : Fin 1 → IVec S16 32) a x).toNat < S4000.size a := fun v712 k0_hw121 => k0_hw121.2.2.2

def k0_chk122 (v718 : IVec S16 32) : Prop :=
  (∀ a x, ((![v718] : Fin 1 → IVec S16 32) a x).toNat < S65536.size a)
theorem k0_idx197_inb : ∀ (v718 : IVec S16 32) (k0_hw122 : k0_chk122 v718), ∀ a x, ((![v718] : Fin 1 → IVec S16 32) a x).toNat < S65536.size a := fun v718 k0_hw122 => k0_hw122

def k0_chk123 (v720 : IVec S16 32) : Prop :=
  (∀ a x, ((![v720] : Fin 1 → IVec S16 32) a x).toNat < S65536.size a)
theorem k0_idx198_inb : ∀ (v720 : IVec S16 32) (k0_hw123 : k0_chk123 v720), ∀ a x, ((![v720] : Fin 1 → IVec S16 32) a x).toNat < S65536.size a := fun v720 k0_hw123 => k0_hw123

def k0_chk124 (v722 : IVec S16 32) : Prop :=
  (∀ a x, ((![v722] : Fin 1 → IVec S16 32) a x).toNat < S65536.size a)
theorem k0_idx199_inb : ∀ (v722 : IVec S16 32) (k0_hw124 : k0_chk124 v722), ∀ a x, ((![v722] : Fin 1 → IVec S16 32) a x).toNat < S65536.size a := fun v722 k0_hw124 => k0_hw124

def k0_chk125 (v724 : IVec S16 32) : Prop :=
  (∀ a x, ((![v724] : Fin 1 → IVec S16 32) a x).toNat < S65536.size a)
theorem k0_idx200_inb : ∀ (v724 : IVec S16 32) (k0_hw125 : k0_chk125 v724), ∀ a x, ((![v724] : Fin 1 → IVec S16 32) a x).toNat < S65536.size a := fun v724 k0_hw125 => k0_hw125
def k0_cond1 (k0_t2 : Fin k0_t2_loop.trips) : BitVec 1 :=
  let c2_i32_31 : BitVec 32 := 2#32
  let c0_i32_9 : BitVec 32 := 0#32
  let c1_i32_10 : BitVec 32 := 1#32
  let arg19 : BitVec 32 := Scf.iv c0_i32_9 c1_i32_10 k0_t2
  let v53 : BitVec 32 := Scalar.muli c2_i32_31 arg19
  let c0_i32_32 : BitVec 32 := 0#32
  let v54 : BitVec 32 := Scalar.addi v53 c0_i32_32
  let c2_i32_44 : BitVec 32 := 2#32
  let v65 : BitVec 32 := Scalar.addi v54 c2_i32_44
  let c50_i32 : BitVec 32 := 50#32
  let v66 : BitVec 1 := Scalar.cmpi .slt v65 c50_i32
  let v67 : BitVec 32 := Scalar.extui v66
  let c0_i32_45 : BitVec 32 := 0#32
  let v68 : BitVec 1 := Scalar.cmpi .ne v67 c0_i32_45
  v68

def k0_off4 (i : grid0.Coords) (k0_t2 : Fin k0_t2_loop.trips) : Fin 1 → Nat :=
  let c0_i32_65 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v10 : BitVec 32 := Scalar.muli v1 c200000_i32
  let v88 : BitVec 32 := Scalar.addi c0_i32_65 v10
  let c2_i32_31 : BitVec 32 := 2#32
  let c0_i32_9 : BitVec 32 := 0#32
  let c1_i32_10 : BitVec 32 := 1#32
  let arg19 : BitVec 32 := Scf.iv c0_i32_9 c1_i32_10 k0_t2
  let v53 : BitVec 32 := Scalar.muli c2_i32_31 arg19
  let c0_i32_32 : BitVec 32 := 0#32
  let v54 : BitVec 32 := Scalar.addi v53 c0_i32_32
  let c2_i32_63 : BitVec 32 := 2#32
  let v85 : BitVec 32 := Scalar.addi v54 c2_i32_63
  let c4000_i32_66 : BitVec 32 := 4000#32
  let v89 : BitVec 32 := Scalar.muli v85 c4000_i32_66
  let v90 : BitVec 32 := Scalar.addi v88 v89
  ![v90.toNat]
def k0_off5 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v10 : BitVec 32 := Scalar.muli v1 c200000_i32
  let c2_i32_31 : BitVec 32 := 2#32
  let c0_i32_9 : BitVec 32 := 0#32
  let c1_i32_10 : BitVec 32 := 1#32
  let arg19 : BitVec 32 := Scf.iv c0_i32_9 c1_i32_10 k0_t2
  let v53 : BitVec 32 := Scalar.muli c2_i32_31 arg19
  let c0_i32_32 : BitVec 32 := 0#32
  let v54 : BitVec 32 := Scalar.addi v53 c0_i32_32
  let c2_i32_63 : BitVec 32 := 2#32
  let v85 : BitVec 32 := Scalar.addi v54 c2_i32_63
  let c4000_i32_64 : BitVec 32 := 4000#32
  let v86 : BitVec 32 := Scalar.muli v85 c4000_i32_64
  let v87 : BitVec 32 := Scalar.addi v10 v86
  ![v87.toNat]
@[reducible] def k0_t4_loop : Scf.Loop 32 :=
  let c0_i32_56 : BitVec 32 := 0#32
  let c10_i32_57 : BitVec 32 := 10#32
  let v79 : BitVec 32 := Scalar.addi c0_i32_56 c10_i32_57
  let c1_i32_58 : BitVec 32 := 1#32
  ⟨c0_i32_56, v79, c1_i32_58⟩

def k0_chk126 (v88 : IVec S16 32) : Prop :=
  (∀ a x, ((![v88] : Fin 1 → IVec S16 32) a x).toNat < S4000.size a) ∧
  (∀ a x, ((![v88] : Fin 1 → IVec S16 32) a x).toNat < S4000.size a) ∧
  (∀ a x, ((![v88] : Fin 1 → IVec S16 32) a x).toNat < S4000.size a) ∧
  (∀ a x, ((![v88] : Fin 1 → IVec S16 32) a x).toNat < S4000.size a)
theorem k0_idx201_inb : ∀ (v88 : IVec S16 32) (k0_hw126 : k0_chk126 v88), ∀ a x, ((![v88] : Fin 1 → IVec S16 32) a x).toNat < S4000.size a := fun v88 k0_hw126 => k0_hw126.1
theorem k0_idx202_inb : ∀ (v88 : IVec S16 32) (k0_hw126 : k0_chk126 v88), ∀ a x, ((![v88] : Fin 1 → IVec S16 32) a x).toNat < S4000.size a := fun v88 k0_hw126 => k0_hw126.2.1
theorem k0_idx203_inb : ∀ (v88 : IVec S16 32) (k0_hw126 : k0_chk126 v88), ∀ a x, ((![v88] : Fin 1 → IVec S16 32) a x).toNat < S4000.size a := fun v88 k0_hw126 => k0_hw126.2.2.1
theorem k0_idx204_inb : ∀ (v88 : IVec S16 32) (k0_hw126 : k0_chk126 v88), ∀ a x, ((![v88] : Fin 1 → IVec S16 32) a x).toNat < S4000.size a := fun v88 k0_hw126 => k0_hw126.2.2.2

def k0_chk127 (v94 : IVec S16 32) : Prop :=
  (∀ a x, ((![v94] : Fin 1 → IVec S16 32) a x).toNat < S65536.size a)
theorem k0_idx205_inb : ∀ (v94 : IVec S16 32) (k0_hw127 : k0_chk127 v94), ∀ a x, ((![v94] : Fin 1 → IVec S16 32) a x).toNat < S65536.size a := fun v94 k0_hw127 => k0_hw127

def k0_chk128 (v96 : IVec S16 32) : Prop :=
  (∀ a x, ((![v96] : Fin 1 → IVec S16 32) a x).toNat < S65536.size a)
theorem k0_idx206_inb : ∀ (v96 : IVec S16 32) (k0_hw128 : k0_chk128 v96), ∀ a x, ((![v96] : Fin 1 → IVec S16 32) a x).toNat < S65536.size a := fun v96 k0_hw128 => k0_hw128

def k0_chk129 (v98 : IVec S16 32) : Prop :=
  (∀ a x, ((![v98] : Fin 1 → IVec S16 32) a x).toNat < S65536.size a)
theorem k0_idx207_inb : ∀ (v98 : IVec S16 32) (k0_hw129 : k0_chk129 v98), ∀ a x, ((![v98] : Fin 1 → IVec S16 32) a x).toNat < S65536.size a := fun v98 k0_hw129 => k0_hw129

def k0_chk130 (v100 : IVec S16 32) : Prop :=
  (∀ a x, ((![v100] : Fin 1 → IVec S16 32) a x).toNat < S65536.size a)
theorem k0_idx208_inb : ∀ (v100 : IVec S16 32) (k0_hw130 : k0_chk130 v100), ∀ a x, ((![v100] : Fin 1 → IVec S16 32) a x).toNat < S65536.size a := fun v100 k0_hw130 => k0_hw130

def k0_chk131 (v114 : IVec S16 32) : Prop :=
  (∀ a x, ((![v114] : Fin 1 → IVec S16 32) a x).toNat < S4000.size a) ∧
  (∀ a x, ((![v114] : Fin 1 → IVec S16 32) a x).toNat < S4000.size a) ∧
  (∀ a x, ((![v114] : Fin 1 → IVec S16 32) a x).toNat < S4000.size a) ∧
  (∀ a x, ((![v114] : Fin 1 → IVec S16 32) a x).toNat < S4000.size a)
theorem k0_idx209_inb : ∀ (v114 : IVec S16 32) (k0_hw131 : k0_chk131 v114), ∀ a x, ((![v114] : Fin 1 → IVec S16 32) a x).toNat < S4000.size a := fun v114 k0_hw131 => k0_hw131.1
theorem k0_idx210_inb : ∀ (v114 : IVec S16 32) (k0_hw131 : k0_chk131 v114), ∀ a x, ((![v114] : Fin 1 → IVec S16 32) a x).toNat < S4000.size a := fun v114 k0_hw131 => k0_hw131.2.1
theorem k0_idx211_inb : ∀ (v114 : IVec S16 32) (k0_hw131 : k0_chk131 v114), ∀ a x, ((![v114] : Fin 1 → IVec S16 32) a x).toNat < S4000.size a := fun v114 k0_hw131 => k0_hw131.2.2.1
theorem k0_idx212_inb : ∀ (v114 : IVec S16 32) (k0_hw131 : k0_chk131 v114), ∀ a x, ((![v114] : Fin 1 → IVec S16 32) a x).toNat < S4000.size a := fun v114 k0_hw131 => k0_hw131.2.2.2

def k0_chk132 (v120 : IVec S16 32) : Prop :=
  (∀ a x, ((![v120] : Fin 1 → IVec S16 32) a x).toNat < S65536.size a)
theorem k0_idx213_inb : ∀ (v120 : IVec S16 32) (k0_hw132 : k0_chk132 v120), ∀ a x, ((![v120] : Fin 1 → IVec S16 32) a x).toNat < S65536.size a := fun v120 k0_hw132 => k0_hw132

def k0_chk133 (v122 : IVec S16 32) : Prop :=
  (∀ a x, ((![v122] : Fin 1 → IVec S16 32) a x).toNat < S65536.size a)
theorem k0_idx214_inb : ∀ (v122 : IVec S16 32) (k0_hw133 : k0_chk133 v122), ∀ a x, ((![v122] : Fin 1 → IVec S16 32) a x).toNat < S65536.size a := fun v122 k0_hw133 => k0_hw133

def k0_chk134 (v124 : IVec S16 32) : Prop :=
  (∀ a x, ((![v124] : Fin 1 → IVec S16 32) a x).toNat < S65536.size a)
theorem k0_idx215_inb : ∀ (v124 : IVec S16 32) (k0_hw134 : k0_chk134 v124), ∀ a x, ((![v124] : Fin 1 → IVec S16 32) a x).toNat < S65536.size a := fun v124 k0_hw134 => k0_hw134

def k0_chk135 (v126 : IVec S16 32) : Prop :=
  (∀ a x, ((![v126] : Fin 1 → IVec S16 32) a x).toNat < S65536.size a)
theorem k0_idx216_inb : ∀ (v126 : IVec S16 32) (k0_hw135 : k0_chk135 v126), ∀ a x, ((![v126] : Fin 1 → IVec S16 32) a x).toNat < S65536.size a := fun v126 k0_hw135 => k0_hw135

def k0_chk136 (v140 : IVec S16 32) : Prop :=
  (∀ a x, ((![v140] : Fin 1 → IVec S16 32) a x).toNat < S4000.size a) ∧
  (∀ a x, ((![v140] : Fin 1 → IVec S16 32) a x).toNat < S4000.size a) ∧
  (∀ a x, ((![v140] : Fin 1 → IVec S16 32) a x).toNat < S4000.size a) ∧
  (∀ a x, ((![v140] : Fin 1 → IVec S16 32) a x).toNat < S4000.size a)
theorem k0_idx217_inb : ∀ (v140 : IVec S16 32) (k0_hw136 : k0_chk136 v140), ∀ a x, ((![v140] : Fin 1 → IVec S16 32) a x).toNat < S4000.size a := fun v140 k0_hw136 => k0_hw136.1
theorem k0_idx218_inb : ∀ (v140 : IVec S16 32) (k0_hw136 : k0_chk136 v140), ∀ a x, ((![v140] : Fin 1 → IVec S16 32) a x).toNat < S4000.size a := fun v140 k0_hw136 => k0_hw136.2.1
theorem k0_idx219_inb : ∀ (v140 : IVec S16 32) (k0_hw136 : k0_chk136 v140), ∀ a x, ((![v140] : Fin 1 → IVec S16 32) a x).toNat < S4000.size a := fun v140 k0_hw136 => k0_hw136.2.2.1
theorem k0_idx220_inb : ∀ (v140 : IVec S16 32) (k0_hw136 : k0_chk136 v140), ∀ a x, ((![v140] : Fin 1 → IVec S16 32) a x).toNat < S4000.size a := fun v140 k0_hw136 => k0_hw136.2.2.2

def k0_chk137 (v146 : IVec S16 32) : Prop :=
  (∀ a x, ((![v146] : Fin 1 → IVec S16 32) a x).toNat < S65536.size a)
theorem k0_idx221_inb : ∀ (v146 : IVec S16 32) (k0_hw137 : k0_chk137 v146), ∀ a x, ((![v146] : Fin 1 → IVec S16 32) a x).toNat < S65536.size a := fun v146 k0_hw137 => k0_hw137

def k0_chk138 (v148 : IVec S16 32) : Prop :=
  (∀ a x, ((![v148] : Fin 1 → IVec S16 32) a x).toNat < S65536.size a)
theorem k0_idx222_inb : ∀ (v148 : IVec S16 32) (k0_hw138 : k0_chk138 v148), ∀ a x, ((![v148] : Fin 1 → IVec S16 32) a x).toNat < S65536.size a := fun v148 k0_hw138 => k0_hw138

def k0_chk139 (v150 : IVec S16 32) : Prop :=
  (∀ a x, ((![v150] : Fin 1 → IVec S16 32) a x).toNat < S65536.size a)
theorem k0_idx223_inb : ∀ (v150 : IVec S16 32) (k0_hw139 : k0_chk139 v150), ∀ a x, ((![v150] : Fin 1 → IVec S16 32) a x).toNat < S65536.size a := fun v150 k0_hw139 => k0_hw139

def k0_chk140 (v152 : IVec S16 32) : Prop :=
  (∀ a x, ((![v152] : Fin 1 → IVec S16 32) a x).toNat < S65536.size a)
theorem k0_idx224_inb : ∀ (v152 : IVec S16 32) (k0_hw140 : k0_chk140 v152), ∀ a x, ((![v152] : Fin 1 → IVec S16 32) a x).toNat < S65536.size a := fun v152 k0_hw140 => k0_hw140

def k0_chk141 (v166 : IVec S16 32) : Prop :=
  (∀ a x, ((![v166] : Fin 1 → IVec S16 32) a x).toNat < S4000.size a) ∧
  (∀ a x, ((![v166] : Fin 1 → IVec S16 32) a x).toNat < S4000.size a) ∧
  (∀ a x, ((![v166] : Fin 1 → IVec S16 32) a x).toNat < S4000.size a) ∧
  (∀ a x, ((![v166] : Fin 1 → IVec S16 32) a x).toNat < S4000.size a)
theorem k0_idx225_inb : ∀ (v166 : IVec S16 32) (k0_hw141 : k0_chk141 v166), ∀ a x, ((![v166] : Fin 1 → IVec S16 32) a x).toNat < S4000.size a := fun v166 k0_hw141 => k0_hw141.1
theorem k0_idx226_inb : ∀ (v166 : IVec S16 32) (k0_hw141 : k0_chk141 v166), ∀ a x, ((![v166] : Fin 1 → IVec S16 32) a x).toNat < S4000.size a := fun v166 k0_hw141 => k0_hw141.2.1
theorem k0_idx227_inb : ∀ (v166 : IVec S16 32) (k0_hw141 : k0_chk141 v166), ∀ a x, ((![v166] : Fin 1 → IVec S16 32) a x).toNat < S4000.size a := fun v166 k0_hw141 => k0_hw141.2.2.1
theorem k0_idx228_inb : ∀ (v166 : IVec S16 32) (k0_hw141 : k0_chk141 v166), ∀ a x, ((![v166] : Fin 1 → IVec S16 32) a x).toNat < S4000.size a := fun v166 k0_hw141 => k0_hw141.2.2.2

def k0_chk142 (v172 : IVec S16 32) : Prop :=
  (∀ a x, ((![v172] : Fin 1 → IVec S16 32) a x).toNat < S65536.size a)
theorem k0_idx229_inb : ∀ (v172 : IVec S16 32) (k0_hw142 : k0_chk142 v172), ∀ a x, ((![v172] : Fin 1 → IVec S16 32) a x).toNat < S65536.size a := fun v172 k0_hw142 => k0_hw142

def k0_chk143 (v174 : IVec S16 32) : Prop :=
  (∀ a x, ((![v174] : Fin 1 → IVec S16 32) a x).toNat < S65536.size a)
theorem k0_idx230_inb : ∀ (v174 : IVec S16 32) (k0_hw143 : k0_chk143 v174), ∀ a x, ((![v174] : Fin 1 → IVec S16 32) a x).toNat < S65536.size a := fun v174 k0_hw143 => k0_hw143

def k0_chk144 (v176 : IVec S16 32) : Prop :=
  (∀ a x, ((![v176] : Fin 1 → IVec S16 32) a x).toNat < S65536.size a)
theorem k0_idx231_inb : ∀ (v176 : IVec S16 32) (k0_hw144 : k0_chk144 v176), ∀ a x, ((![v176] : Fin 1 → IVec S16 32) a x).toNat < S65536.size a := fun v176 k0_hw144 => k0_hw144

def k0_chk145 (v178 : IVec S16 32) : Prop :=
  (∀ a x, ((![v178] : Fin 1 → IVec S16 32) a x).toNat < S65536.size a)
theorem k0_idx232_inb : ∀ (v178 : IVec S16 32) (k0_hw145 : k0_chk145 v178), ∀ a x, ((![v178] : Fin 1 → IVec S16 32) a x).toNat < S65536.size a := fun v178 k0_hw145 => k0_hw145

def k0_chk146 (v192 : IVec S16 32) : Prop :=
  (∀ a x, ((![v192] : Fin 1 → IVec S16 32) a x).toNat < S4000.size a) ∧
  (∀ a x, ((![v192] : Fin 1 → IVec S16 32) a x).toNat < S4000.size a) ∧
  (∀ a x, ((![v192] : Fin 1 → IVec S16 32) a x).toNat < S4000.size a) ∧
  (∀ a x, ((![v192] : Fin 1 → IVec S16 32) a x).toNat < S4000.size a)
theorem k0_idx233_inb : ∀ (v192 : IVec S16 32) (k0_hw146 : k0_chk146 v192), ∀ a x, ((![v192] : Fin 1 → IVec S16 32) a x).toNat < S4000.size a := fun v192 k0_hw146 => k0_hw146.1
theorem k0_idx234_inb : ∀ (v192 : IVec S16 32) (k0_hw146 : k0_chk146 v192), ∀ a x, ((![v192] : Fin 1 → IVec S16 32) a x).toNat < S4000.size a := fun v192 k0_hw146 => k0_hw146.2.1
theorem k0_idx235_inb : ∀ (v192 : IVec S16 32) (k0_hw146 : k0_chk146 v192), ∀ a x, ((![v192] : Fin 1 → IVec S16 32) a x).toNat < S4000.size a := fun v192 k0_hw146 => k0_hw146.2.2.1
theorem k0_idx236_inb : ∀ (v192 : IVec S16 32) (k0_hw146 : k0_chk146 v192), ∀ a x, ((![v192] : Fin 1 → IVec S16 32) a x).toNat < S4000.size a := fun v192 k0_hw146 => k0_hw146.2.2.2

def k0_chk147 (v198 : IVec S16 32) : Prop :=
  (∀ a x, ((![v198] : Fin 1 → IVec S16 32) a x).toNat < S65536.size a)
theorem k0_idx237_inb : ∀ (v198 : IVec S16 32) (k0_hw147 : k0_chk147 v198), ∀ a x, ((![v198] : Fin 1 → IVec S16 32) a x).toNat < S65536.size a := fun v198 k0_hw147 => k0_hw147

def k0_chk148 (v200 : IVec S16 32) : Prop :=
  (∀ a x, ((![v200] : Fin 1 → IVec S16 32) a x).toNat < S65536.size a)
theorem k0_idx238_inb : ∀ (v200 : IVec S16 32) (k0_hw148 : k0_chk148 v200), ∀ a x, ((![v200] : Fin 1 → IVec S16 32) a x).toNat < S65536.size a := fun v200 k0_hw148 => k0_hw148

def k0_chk149 (v202 : IVec S16 32) : Prop :=
  (∀ a x, ((![v202] : Fin 1 → IVec S16 32) a x).toNat < S65536.size a)
theorem k0_idx239_inb : ∀ (v202 : IVec S16 32) (k0_hw149 : k0_chk149 v202), ∀ a x, ((![v202] : Fin 1 → IVec S16 32) a x).toNat < S65536.size a := fun v202 k0_hw149 => k0_hw149

def k0_chk150 (v204 : IVec S16 32) : Prop :=
  (∀ a x, ((![v204] : Fin 1 → IVec S16 32) a x).toNat < S65536.size a)
theorem k0_idx240_inb : ∀ (v204 : IVec S16 32) (k0_hw150 : k0_chk150 v204), ∀ a x, ((![v204] : Fin 1 → IVec S16 32) a x).toNat < S65536.size a := fun v204 k0_hw150 => k0_hw150

def k0_chk151 (v218 : IVec S16 32) : Prop :=
  (∀ a x, ((![v218] : Fin 1 → IVec S16 32) a x).toNat < S4000.size a) ∧
  (∀ a x, ((![v218] : Fin 1 → IVec S16 32) a x).toNat < S4000.size a) ∧
  (∀ a x, ((![v218] : Fin 1 → IVec S16 32) a x).toNat < S4000.size a) ∧
  (∀ a x, ((![v218] : Fin 1 → IVec S16 32) a x).toNat < S4000.size a)
theorem k0_idx241_inb : ∀ (v218 : IVec S16 32) (k0_hw151 : k0_chk151 v218), ∀ a x, ((![v218] : Fin 1 → IVec S16 32) a x).toNat < S4000.size a := fun v218 k0_hw151 => k0_hw151.1
theorem k0_idx242_inb : ∀ (v218 : IVec S16 32) (k0_hw151 : k0_chk151 v218), ∀ a x, ((![v218] : Fin 1 → IVec S16 32) a x).toNat < S4000.size a := fun v218 k0_hw151 => k0_hw151.2.1
theorem k0_idx243_inb : ∀ (v218 : IVec S16 32) (k0_hw151 : k0_chk151 v218), ∀ a x, ((![v218] : Fin 1 → IVec S16 32) a x).toNat < S4000.size a := fun v218 k0_hw151 => k0_hw151.2.2.1
theorem k0_idx244_inb : ∀ (v218 : IVec S16 32) (k0_hw151 : k0_chk151 v218), ∀ a x, ((![v218] : Fin 1 → IVec S16 32) a x).toNat < S4000.size a := fun v218 k0_hw151 => k0_hw151.2.2.2

def k0_chk152 (v224 : IVec S16 32) : Prop :=
  (∀ a x, ((![v224] : Fin 1 → IVec S16 32) a x).toNat < S65536.size a)
theorem k0_idx245_inb : ∀ (v224 : IVec S16 32) (k0_hw152 : k0_chk152 v224), ∀ a x, ((![v224] : Fin 1 → IVec S16 32) a x).toNat < S65536.size a := fun v224 k0_hw152 => k0_hw152

def k0_chk153 (v226 : IVec S16 32) : Prop :=
  (∀ a x, ((![v226] : Fin 1 → IVec S16 32) a x).toNat < S65536.size a)
theorem k0_idx246_inb : ∀ (v226 : IVec S16 32) (k0_hw153 : k0_chk153 v226), ∀ a x, ((![v226] : Fin 1 → IVec S16 32) a x).toNat < S65536.size a := fun v226 k0_hw153 => k0_hw153

def k0_chk154 (v228 : IVec S16 32) : Prop :=
  (∀ a x, ((![v228] : Fin 1 → IVec S16 32) a x).toNat < S65536.size a)
theorem k0_idx247_inb : ∀ (v228 : IVec S16 32) (k0_hw154 : k0_chk154 v228), ∀ a x, ((![v228] : Fin 1 → IVec S16 32) a x).toNat < S65536.size a := fun v228 k0_hw154 => k0_hw154

def k0_chk155 (v230 : IVec S16 32) : Prop :=
  (∀ a x, ((![v230] : Fin 1 → IVec S16 32) a x).toNat < S65536.size a)
theorem k0_idx248_inb : ∀ (v230 : IVec S16 32) (k0_hw155 : k0_chk155 v230), ∀ a x, ((![v230] : Fin 1 → IVec S16 32) a x).toNat < S65536.size a := fun v230 k0_hw155 => k0_hw155

def k0_chk156 (v244 : IVec S16 32) : Prop :=
  (∀ a x, ((![v244] : Fin 1 → IVec S16 32) a x).toNat < S4000.size a) ∧
  (∀ a x, ((![v244] : Fin 1 → IVec S16 32) a x).toNat < S4000.size a) ∧
  (∀ a x, ((![v244] : Fin 1 → IVec S16 32) a x).toNat < S4000.size a) ∧
  (∀ a x, ((![v244] : Fin 1 → IVec S16 32) a x).toNat < S4000.size a)
theorem k0_idx249_inb : ∀ (v244 : IVec S16 32) (k0_hw156 : k0_chk156 v244), ∀ a x, ((![v244] : Fin 1 → IVec S16 32) a x).toNat < S4000.size a := fun v244 k0_hw156 => k0_hw156.1
theorem k0_idx250_inb : ∀ (v244 : IVec S16 32) (k0_hw156 : k0_chk156 v244), ∀ a x, ((![v244] : Fin 1 → IVec S16 32) a x).toNat < S4000.size a := fun v244 k0_hw156 => k0_hw156.2.1
theorem k0_idx251_inb : ∀ (v244 : IVec S16 32) (k0_hw156 : k0_chk156 v244), ∀ a x, ((![v244] : Fin 1 → IVec S16 32) a x).toNat < S4000.size a := fun v244 k0_hw156 => k0_hw156.2.2.1
theorem k0_idx252_inb : ∀ (v244 : IVec S16 32) (k0_hw156 : k0_chk156 v244), ∀ a x, ((![v244] : Fin 1 → IVec S16 32) a x).toNat < S4000.size a := fun v244 k0_hw156 => k0_hw156.2.2.2

def k0_chk157 (v250 : IVec S16 32) : Prop :=
  (∀ a x, ((![v250] : Fin 1 → IVec S16 32) a x).toNat < S65536.size a)
theorem k0_idx253_inb : ∀ (v250 : IVec S16 32) (k0_hw157 : k0_chk157 v250), ∀ a x, ((![v250] : Fin 1 → IVec S16 32) a x).toNat < S65536.size a := fun v250 k0_hw157 => k0_hw157

def k0_chk158 (v252 : IVec S16 32) : Prop :=
  (∀ a x, ((![v252] : Fin 1 → IVec S16 32) a x).toNat < S65536.size a)
theorem k0_idx254_inb : ∀ (v252 : IVec S16 32) (k0_hw158 : k0_chk158 v252), ∀ a x, ((![v252] : Fin 1 → IVec S16 32) a x).toNat < S65536.size a := fun v252 k0_hw158 => k0_hw158

def k0_chk159 (v254 : IVec S16 32) : Prop :=
  (∀ a x, ((![v254] : Fin 1 → IVec S16 32) a x).toNat < S65536.size a)
theorem k0_idx255_inb : ∀ (v254 : IVec S16 32) (k0_hw159 : k0_chk159 v254), ∀ a x, ((![v254] : Fin 1 → IVec S16 32) a x).toNat < S65536.size a := fun v254 k0_hw159 => k0_hw159

def k0_chk160 (v256 : IVec S16 32) : Prop :=
  (∀ a x, ((![v256] : Fin 1 → IVec S16 32) a x).toNat < S65536.size a)
theorem k0_idx256_inb : ∀ (v256 : IVec S16 32) (k0_hw160 : k0_chk160 v256), ∀ a x, ((![v256] : Fin 1 → IVec S16 32) a x).toNat < S65536.size a := fun v256 k0_hw160 => k0_hw160

def k0_chk161 (v270 : IVec S16 32) : Prop :=
  (∀ a x, ((![v270] : Fin 1 → IVec S16 32) a x).toNat < S4000.size a) ∧
  (∀ a x, ((![v270] : Fin 1 → IVec S16 32) a x).toNat < S4000.size a) ∧
  (∀ a x, ((![v270] : Fin 1 → IVec S16 32) a x).toNat < S4000.size a) ∧
  (∀ a x, ((![v270] : Fin 1 → IVec S16 32) a x).toNat < S4000.size a)
theorem k0_idx257_inb : ∀ (v270 : IVec S16 32) (k0_hw161 : k0_chk161 v270), ∀ a x, ((![v270] : Fin 1 → IVec S16 32) a x).toNat < S4000.size a := fun v270 k0_hw161 => k0_hw161.1
theorem k0_idx258_inb : ∀ (v270 : IVec S16 32) (k0_hw161 : k0_chk161 v270), ∀ a x, ((![v270] : Fin 1 → IVec S16 32) a x).toNat < S4000.size a := fun v270 k0_hw161 => k0_hw161.2.1
theorem k0_idx259_inb : ∀ (v270 : IVec S16 32) (k0_hw161 : k0_chk161 v270), ∀ a x, ((![v270] : Fin 1 → IVec S16 32) a x).toNat < S4000.size a := fun v270 k0_hw161 => k0_hw161.2.2.1
theorem k0_idx260_inb : ∀ (v270 : IVec S16 32) (k0_hw161 : k0_chk161 v270), ∀ a x, ((![v270] : Fin 1 → IVec S16 32) a x).toNat < S4000.size a := fun v270 k0_hw161 => k0_hw161.2.2.2

def k0_chk162 (v276 : IVec S16 32) : Prop :=
  (∀ a x, ((![v276] : Fin 1 → IVec S16 32) a x).toNat < S65536.size a)
theorem k0_idx261_inb : ∀ (v276 : IVec S16 32) (k0_hw162 : k0_chk162 v276), ∀ a x, ((![v276] : Fin 1 → IVec S16 32) a x).toNat < S65536.size a := fun v276 k0_hw162 => k0_hw162

def k0_chk163 (v278 : IVec S16 32) : Prop :=
  (∀ a x, ((![v278] : Fin 1 → IVec S16 32) a x).toNat < S65536.size a)
theorem k0_idx262_inb : ∀ (v278 : IVec S16 32) (k0_hw163 : k0_chk163 v278), ∀ a x, ((![v278] : Fin 1 → IVec S16 32) a x).toNat < S65536.size a := fun v278 k0_hw163 => k0_hw163

def k0_chk164 (v280 : IVec S16 32) : Prop :=
  (∀ a x, ((![v280] : Fin 1 → IVec S16 32) a x).toNat < S65536.size a)
theorem k0_idx263_inb : ∀ (v280 : IVec S16 32) (k0_hw164 : k0_chk164 v280), ∀ a x, ((![v280] : Fin 1 → IVec S16 32) a x).toNat < S65536.size a := fun v280 k0_hw164 => k0_hw164

def k0_chk165 (v282 : IVec S16 32) : Prop :=
  (∀ a x, ((![v282] : Fin 1 → IVec S16 32) a x).toNat < S65536.size a)
theorem k0_idx264_inb : ∀ (v282 : IVec S16 32) (k0_hw165 : k0_chk165 v282), ∀ a x, ((![v282] : Fin 1 → IVec S16 32) a x).toNat < S65536.size a := fun v282 k0_hw165 => k0_hw165

def k0_chk166 (v296 : IVec S16 32) : Prop :=
  (∀ a x, ((![v296] : Fin 1 → IVec S16 32) a x).toNat < S4000.size a) ∧
  (∀ a x, ((![v296] : Fin 1 → IVec S16 32) a x).toNat < S4000.size a) ∧
  (∀ a x, ((![v296] : Fin 1 → IVec S16 32) a x).toNat < S4000.size a) ∧
  (∀ a x, ((![v296] : Fin 1 → IVec S16 32) a x).toNat < S4000.size a)
theorem k0_idx265_inb : ∀ (v296 : IVec S16 32) (k0_hw166 : k0_chk166 v296), ∀ a x, ((![v296] : Fin 1 → IVec S16 32) a x).toNat < S4000.size a := fun v296 k0_hw166 => k0_hw166.1
theorem k0_idx266_inb : ∀ (v296 : IVec S16 32) (k0_hw166 : k0_chk166 v296), ∀ a x, ((![v296] : Fin 1 → IVec S16 32) a x).toNat < S4000.size a := fun v296 k0_hw166 => k0_hw166.2.1
theorem k0_idx267_inb : ∀ (v296 : IVec S16 32) (k0_hw166 : k0_chk166 v296), ∀ a x, ((![v296] : Fin 1 → IVec S16 32) a x).toNat < S4000.size a := fun v296 k0_hw166 => k0_hw166.2.2.1
theorem k0_idx268_inb : ∀ (v296 : IVec S16 32) (k0_hw166 : k0_chk166 v296), ∀ a x, ((![v296] : Fin 1 → IVec S16 32) a x).toNat < S4000.size a := fun v296 k0_hw166 => k0_hw166.2.2.2

def k0_chk167 (v302 : IVec S16 32) : Prop :=
  (∀ a x, ((![v302] : Fin 1 → IVec S16 32) a x).toNat < S65536.size a)
theorem k0_idx269_inb : ∀ (v302 : IVec S16 32) (k0_hw167 : k0_chk167 v302), ∀ a x, ((![v302] : Fin 1 → IVec S16 32) a x).toNat < S65536.size a := fun v302 k0_hw167 => k0_hw167

def k0_chk168 (v304 : IVec S16 32) : Prop :=
  (∀ a x, ((![v304] : Fin 1 → IVec S16 32) a x).toNat < S65536.size a)
theorem k0_idx270_inb : ∀ (v304 : IVec S16 32) (k0_hw168 : k0_chk168 v304), ∀ a x, ((![v304] : Fin 1 → IVec S16 32) a x).toNat < S65536.size a := fun v304 k0_hw168 => k0_hw168

def k0_chk169 (v306 : IVec S16 32) : Prop :=
  (∀ a x, ((![v306] : Fin 1 → IVec S16 32) a x).toNat < S65536.size a)
theorem k0_idx271_inb : ∀ (v306 : IVec S16 32) (k0_hw169 : k0_chk169 v306), ∀ a x, ((![v306] : Fin 1 → IVec S16 32) a x).toNat < S65536.size a := fun v306 k0_hw169 => k0_hw169

def k0_chk170 (v308 : IVec S16 32) : Prop :=
  (∀ a x, ((![v308] : Fin 1 → IVec S16 32) a x).toNat < S65536.size a)
theorem k0_idx272_inb : ∀ (v308 : IVec S16 32) (k0_hw170 : k0_chk170 v308), ∀ a x, ((![v308] : Fin 1 → IVec S16 32) a x).toNat < S65536.size a := fun v308 k0_hw170 => k0_hw170

def k0_chk171 (v322 : IVec S16 32) : Prop :=
  (∀ a x, ((![v322] : Fin 1 → IVec S16 32) a x).toNat < S4000.size a) ∧
  (∀ a x, ((![v322] : Fin 1 → IVec S16 32) a x).toNat < S4000.size a) ∧
  (∀ a x, ((![v322] : Fin 1 → IVec S16 32) a x).toNat < S4000.size a) ∧
  (∀ a x, ((![v322] : Fin 1 → IVec S16 32) a x).toNat < S4000.size a)
theorem k0_idx273_inb : ∀ (v322 : IVec S16 32) (k0_hw171 : k0_chk171 v322), ∀ a x, ((![v322] : Fin 1 → IVec S16 32) a x).toNat < S4000.size a := fun v322 k0_hw171 => k0_hw171.1
theorem k0_idx274_inb : ∀ (v322 : IVec S16 32) (k0_hw171 : k0_chk171 v322), ∀ a x, ((![v322] : Fin 1 → IVec S16 32) a x).toNat < S4000.size a := fun v322 k0_hw171 => k0_hw171.2.1
theorem k0_idx275_inb : ∀ (v322 : IVec S16 32) (k0_hw171 : k0_chk171 v322), ∀ a x, ((![v322] : Fin 1 → IVec S16 32) a x).toNat < S4000.size a := fun v322 k0_hw171 => k0_hw171.2.2.1
theorem k0_idx276_inb : ∀ (v322 : IVec S16 32) (k0_hw171 : k0_chk171 v322), ∀ a x, ((![v322] : Fin 1 → IVec S16 32) a x).toNat < S4000.size a := fun v322 k0_hw171 => k0_hw171.2.2.2

def k0_chk172 (v328 : IVec S16 32) : Prop :=
  (∀ a x, ((![v328] : Fin 1 → IVec S16 32) a x).toNat < S65536.size a)
theorem k0_idx277_inb : ∀ (v328 : IVec S16 32) (k0_hw172 : k0_chk172 v328), ∀ a x, ((![v328] : Fin 1 → IVec S16 32) a x).toNat < S65536.size a := fun v328 k0_hw172 => k0_hw172

def k0_chk173 (v330 : IVec S16 32) : Prop :=
  (∀ a x, ((![v330] : Fin 1 → IVec S16 32) a x).toNat < S65536.size a)
theorem k0_idx278_inb : ∀ (v330 : IVec S16 32) (k0_hw173 : k0_chk173 v330), ∀ a x, ((![v330] : Fin 1 → IVec S16 32) a x).toNat < S65536.size a := fun v330 k0_hw173 => k0_hw173

def k0_chk174 (v332 : IVec S16 32) : Prop :=
  (∀ a x, ((![v332] : Fin 1 → IVec S16 32) a x).toNat < S65536.size a)
theorem k0_idx279_inb : ∀ (v332 : IVec S16 32) (k0_hw174 : k0_chk174 v332), ∀ a x, ((![v332] : Fin 1 → IVec S16 32) a x).toNat < S65536.size a := fun v332 k0_hw174 => k0_hw174

def k0_chk175 (v334 : IVec S16 32) : Prop :=
  (∀ a x, ((![v334] : Fin 1 → IVec S16 32) a x).toNat < S65536.size a)
theorem k0_idx280_inb : ∀ (v334 : IVec S16 32) (k0_hw175 : k0_chk175 v334), ∀ a x, ((![v334] : Fin 1 → IVec S16 32) a x).toNat < S65536.size a := fun v334 k0_hw175 => k0_hw175

def k0_chk176 (v348 : IVec S16 32) : Prop :=
  (∀ a x, ((![v348] : Fin 1 → IVec S16 32) a x).toNat < S4000.size a) ∧
  (∀ a x, ((![v348] : Fin 1 → IVec S16 32) a x).toNat < S4000.size a) ∧
  (∀ a x, ((![v348] : Fin 1 → IVec S16 32) a x).toNat < S4000.size a) ∧
  (∀ a x, ((![v348] : Fin 1 → IVec S16 32) a x).toNat < S4000.size a)
theorem k0_idx281_inb : ∀ (v348 : IVec S16 32) (k0_hw176 : k0_chk176 v348), ∀ a x, ((![v348] : Fin 1 → IVec S16 32) a x).toNat < S4000.size a := fun v348 k0_hw176 => k0_hw176.1
theorem k0_idx282_inb : ∀ (v348 : IVec S16 32) (k0_hw176 : k0_chk176 v348), ∀ a x, ((![v348] : Fin 1 → IVec S16 32) a x).toNat < S4000.size a := fun v348 k0_hw176 => k0_hw176.2.1
theorem k0_idx283_inb : ∀ (v348 : IVec S16 32) (k0_hw176 : k0_chk176 v348), ∀ a x, ((![v348] : Fin 1 → IVec S16 32) a x).toNat < S4000.size a := fun v348 k0_hw176 => k0_hw176.2.2.1
theorem k0_idx284_inb : ∀ (v348 : IVec S16 32) (k0_hw176 : k0_chk176 v348), ∀ a x, ((![v348] : Fin 1 → IVec S16 32) a x).toNat < S4000.size a := fun v348 k0_hw176 => k0_hw176.2.2.2

def k0_chk177 (v354 : IVec S16 32) : Prop :=
  (∀ a x, ((![v354] : Fin 1 → IVec S16 32) a x).toNat < S65536.size a)
theorem k0_idx285_inb : ∀ (v354 : IVec S16 32) (k0_hw177 : k0_chk177 v354), ∀ a x, ((![v354] : Fin 1 → IVec S16 32) a x).toNat < S65536.size a := fun v354 k0_hw177 => k0_hw177

def k0_chk178 (v356 : IVec S16 32) : Prop :=
  (∀ a x, ((![v356] : Fin 1 → IVec S16 32) a x).toNat < S65536.size a)
theorem k0_idx286_inb : ∀ (v356 : IVec S16 32) (k0_hw178 : k0_chk178 v356), ∀ a x, ((![v356] : Fin 1 → IVec S16 32) a x).toNat < S65536.size a := fun v356 k0_hw178 => k0_hw178

def k0_chk179 (v358 : IVec S16 32) : Prop :=
  (∀ a x, ((![v358] : Fin 1 → IVec S16 32) a x).toNat < S65536.size a)
theorem k0_idx287_inb : ∀ (v358 : IVec S16 32) (k0_hw179 : k0_chk179 v358), ∀ a x, ((![v358] : Fin 1 → IVec S16 32) a x).toNat < S65536.size a := fun v358 k0_hw179 => k0_hw179

def k0_chk180 (v360 : IVec S16 32) : Prop :=
  (∀ a x, ((![v360] : Fin 1 → IVec S16 32) a x).toNat < S65536.size a)
theorem k0_idx288_inb : ∀ (v360 : IVec S16 32) (k0_hw180 : k0_chk180 v360), ∀ a x, ((![v360] : Fin 1 → IVec S16 32) a x).toNat < S65536.size a := fun v360 k0_hw180 => k0_hw180

def k0_chk181 (v374 : IVec S16 32) : Prop :=
  (∀ a x, ((![v374] : Fin 1 → IVec S16 32) a x).toNat < S4000.size a) ∧
  (∀ a x, ((![v374] : Fin 1 → IVec S16 32) a x).toNat < S4000.size a) ∧
  (∀ a x, ((![v374] : Fin 1 → IVec S16 32) a x).toNat < S4000.size a) ∧
  (∀ a x, ((![v374] : Fin 1 → IVec S16 32) a x).toNat < S4000.size a)
theorem k0_idx289_inb : ∀ (v374 : IVec S16 32) (k0_hw181 : k0_chk181 v374), ∀ a x, ((![v374] : Fin 1 → IVec S16 32) a x).toNat < S4000.size a := fun v374 k0_hw181 => k0_hw181.1
theorem k0_idx290_inb : ∀ (v374 : IVec S16 32) (k0_hw181 : k0_chk181 v374), ∀ a x, ((![v374] : Fin 1 → IVec S16 32) a x).toNat < S4000.size a := fun v374 k0_hw181 => k0_hw181.2.1
theorem k0_idx291_inb : ∀ (v374 : IVec S16 32) (k0_hw181 : k0_chk181 v374), ∀ a x, ((![v374] : Fin 1 → IVec S16 32) a x).toNat < S4000.size a := fun v374 k0_hw181 => k0_hw181.2.2.1
theorem k0_idx292_inb : ∀ (v374 : IVec S16 32) (k0_hw181 : k0_chk181 v374), ∀ a x, ((![v374] : Fin 1 → IVec S16 32) a x).toNat < S4000.size a := fun v374 k0_hw181 => k0_hw181.2.2.2

def k0_chk182 (v380 : IVec S16 32) : Prop :=
  (∀ a x, ((![v380] : Fin 1 → IVec S16 32) a x).toNat < S65536.size a)
theorem k0_idx293_inb : ∀ (v380 : IVec S16 32) (k0_hw182 : k0_chk182 v380), ∀ a x, ((![v380] : Fin 1 → IVec S16 32) a x).toNat < S65536.size a := fun v380 k0_hw182 => k0_hw182

def k0_chk183 (v382 : IVec S16 32) : Prop :=
  (∀ a x, ((![v382] : Fin 1 → IVec S16 32) a x).toNat < S65536.size a)
theorem k0_idx294_inb : ∀ (v382 : IVec S16 32) (k0_hw183 : k0_chk183 v382), ∀ a x, ((![v382] : Fin 1 → IVec S16 32) a x).toNat < S65536.size a := fun v382 k0_hw183 => k0_hw183

def k0_chk184 (v384 : IVec S16 32) : Prop :=
  (∀ a x, ((![v384] : Fin 1 → IVec S16 32) a x).toNat < S65536.size a)
theorem k0_idx295_inb : ∀ (v384 : IVec S16 32) (k0_hw184 : k0_chk184 v384), ∀ a x, ((![v384] : Fin 1 → IVec S16 32) a x).toNat < S65536.size a := fun v384 k0_hw184 => k0_hw184

def k0_chk185 (v386 : IVec S16 32) : Prop :=
  (∀ a x, ((![v386] : Fin 1 → IVec S16 32) a x).toNat < S65536.size a)
theorem k0_idx296_inb : ∀ (v386 : IVec S16 32) (k0_hw185 : k0_chk185 v386), ∀ a x, ((![v386] : Fin 1 → IVec S16 32) a x).toNat < S65536.size a := fun v386 k0_hw185 => k0_hw185

def k0_chk186 (v400 : IVec S16 32) : Prop :=
  (∀ a x, ((![v400] : Fin 1 → IVec S16 32) a x).toNat < S4000.size a) ∧
  (∀ a x, ((![v400] : Fin 1 → IVec S16 32) a x).toNat < S4000.size a) ∧
  (∀ a x, ((![v400] : Fin 1 → IVec S16 32) a x).toNat < S4000.size a) ∧
  (∀ a x, ((![v400] : Fin 1 → IVec S16 32) a x).toNat < S4000.size a)
theorem k0_idx297_inb : ∀ (v400 : IVec S16 32) (k0_hw186 : k0_chk186 v400), ∀ a x, ((![v400] : Fin 1 → IVec S16 32) a x).toNat < S4000.size a := fun v400 k0_hw186 => k0_hw186.1
theorem k0_idx298_inb : ∀ (v400 : IVec S16 32) (k0_hw186 : k0_chk186 v400), ∀ a x, ((![v400] : Fin 1 → IVec S16 32) a x).toNat < S4000.size a := fun v400 k0_hw186 => k0_hw186.2.1
theorem k0_idx299_inb : ∀ (v400 : IVec S16 32) (k0_hw186 : k0_chk186 v400), ∀ a x, ((![v400] : Fin 1 → IVec S16 32) a x).toNat < S4000.size a := fun v400 k0_hw186 => k0_hw186.2.2.1
theorem k0_idx300_inb : ∀ (v400 : IVec S16 32) (k0_hw186 : k0_chk186 v400), ∀ a x, ((![v400] : Fin 1 → IVec S16 32) a x).toNat < S4000.size a := fun v400 k0_hw186 => k0_hw186.2.2.2

def k0_chk187 (v406 : IVec S16 32) : Prop :=
  (∀ a x, ((![v406] : Fin 1 → IVec S16 32) a x).toNat < S65536.size a)
theorem k0_idx301_inb : ∀ (v406 : IVec S16 32) (k0_hw187 : k0_chk187 v406), ∀ a x, ((![v406] : Fin 1 → IVec S16 32) a x).toNat < S65536.size a := fun v406 k0_hw187 => k0_hw187

def k0_chk188 (v408 : IVec S16 32) : Prop :=
  (∀ a x, ((![v408] : Fin 1 → IVec S16 32) a x).toNat < S65536.size a)
theorem k0_idx302_inb : ∀ (v408 : IVec S16 32) (k0_hw188 : k0_chk188 v408), ∀ a x, ((![v408] : Fin 1 → IVec S16 32) a x).toNat < S65536.size a := fun v408 k0_hw188 => k0_hw188

def k0_chk189 (v410 : IVec S16 32) : Prop :=
  (∀ a x, ((![v410] : Fin 1 → IVec S16 32) a x).toNat < S65536.size a)
theorem k0_idx303_inb : ∀ (v410 : IVec S16 32) (k0_hw189 : k0_chk189 v410), ∀ a x, ((![v410] : Fin 1 → IVec S16 32) a x).toNat < S65536.size a := fun v410 k0_hw189 => k0_hw189

def k0_chk190 (v412 : IVec S16 32) : Prop :=
  (∀ a x, ((![v412] : Fin 1 → IVec S16 32) a x).toNat < S65536.size a)
theorem k0_idx304_inb : ∀ (v412 : IVec S16 32) (k0_hw190 : k0_chk190 v412), ∀ a x, ((![v412] : Fin 1 → IVec S16 32) a x).toNat < S65536.size a := fun v412 k0_hw190 => k0_hw190

def k0_chk191 (v426 : IVec S16 32) : Prop :=
  (∀ a x, ((![v426] : Fin 1 → IVec S16 32) a x).toNat < S4000.size a) ∧
  (∀ a x, ((![v426] : Fin 1 → IVec S16 32) a x).toNat < S4000.size a) ∧
  (∀ a x, ((![v426] : Fin 1 → IVec S16 32) a x).toNat < S4000.size a) ∧
  (∀ a x, ((![v426] : Fin 1 → IVec S16 32) a x).toNat < S4000.size a)
theorem k0_idx305_inb : ∀ (v426 : IVec S16 32) (k0_hw191 : k0_chk191 v426), ∀ a x, ((![v426] : Fin 1 → IVec S16 32) a x).toNat < S4000.size a := fun v426 k0_hw191 => k0_hw191.1
theorem k0_idx306_inb : ∀ (v426 : IVec S16 32) (k0_hw191 : k0_chk191 v426), ∀ a x, ((![v426] : Fin 1 → IVec S16 32) a x).toNat < S4000.size a := fun v426 k0_hw191 => k0_hw191.2.1
theorem k0_idx307_inb : ∀ (v426 : IVec S16 32) (k0_hw191 : k0_chk191 v426), ∀ a x, ((![v426] : Fin 1 → IVec S16 32) a x).toNat < S4000.size a := fun v426 k0_hw191 => k0_hw191.2.2.1
theorem k0_idx308_inb : ∀ (v426 : IVec S16 32) (k0_hw191 : k0_chk191 v426), ∀ a x, ((![v426] : Fin 1 → IVec S16 32) a x).toNat < S4000.size a := fun v426 k0_hw191 => k0_hw191.2.2.2

def k0_chk192 (v432 : IVec S16 32) : Prop :=
  (∀ a x, ((![v432] : Fin 1 → IVec S16 32) a x).toNat < S65536.size a)
theorem k0_idx309_inb : ∀ (v432 : IVec S16 32) (k0_hw192 : k0_chk192 v432), ∀ a x, ((![v432] : Fin 1 → IVec S16 32) a x).toNat < S65536.size a := fun v432 k0_hw192 => k0_hw192

def k0_chk193 (v434 : IVec S16 32) : Prop :=
  (∀ a x, ((![v434] : Fin 1 → IVec S16 32) a x).toNat < S65536.size a)
theorem k0_idx310_inb : ∀ (v434 : IVec S16 32) (k0_hw193 : k0_chk193 v434), ∀ a x, ((![v434] : Fin 1 → IVec S16 32) a x).toNat < S65536.size a := fun v434 k0_hw193 => k0_hw193

def k0_chk194 (v436 : IVec S16 32) : Prop :=
  (∀ a x, ((![v436] : Fin 1 → IVec S16 32) a x).toNat < S65536.size a)
theorem k0_idx311_inb : ∀ (v436 : IVec S16 32) (k0_hw194 : k0_chk194 v436), ∀ a x, ((![v436] : Fin 1 → IVec S16 32) a x).toNat < S65536.size a := fun v436 k0_hw194 => k0_hw194

def k0_chk195 (v438 : IVec S16 32) : Prop :=
  (∀ a x, ((![v438] : Fin 1 → IVec S16 32) a x).toNat < S65536.size a)
theorem k0_idx312_inb : ∀ (v438 : IVec S16 32) (k0_hw195 : k0_chk195 v438), ∀ a x, ((![v438] : Fin 1 → IVec S16 32) a x).toNat < S65536.size a := fun v438 k0_hw195 => k0_hw195

def k0_chk196 (v452 : IVec S16 32) : Prop :=
  (∀ a x, ((![v452] : Fin 1 → IVec S16 32) a x).toNat < S4000.size a) ∧
  (∀ a x, ((![v452] : Fin 1 → IVec S16 32) a x).toNat < S4000.size a) ∧
  (∀ a x, ((![v452] : Fin 1 → IVec S16 32) a x).toNat < S4000.size a) ∧
  (∀ a x, ((![v452] : Fin 1 → IVec S16 32) a x).toNat < S4000.size a)
theorem k0_idx313_inb : ∀ (v452 : IVec S16 32) (k0_hw196 : k0_chk196 v452), ∀ a x, ((![v452] : Fin 1 → IVec S16 32) a x).toNat < S4000.size a := fun v452 k0_hw196 => k0_hw196.1
theorem k0_idx314_inb : ∀ (v452 : IVec S16 32) (k0_hw196 : k0_chk196 v452), ∀ a x, ((![v452] : Fin 1 → IVec S16 32) a x).toNat < S4000.size a := fun v452 k0_hw196 => k0_hw196.2.1
theorem k0_idx315_inb : ∀ (v452 : IVec S16 32) (k0_hw196 : k0_chk196 v452), ∀ a x, ((![v452] : Fin 1 → IVec S16 32) a x).toNat < S4000.size a := fun v452 k0_hw196 => k0_hw196.2.2.1
theorem k0_idx316_inb : ∀ (v452 : IVec S16 32) (k0_hw196 : k0_chk196 v452), ∀ a x, ((![v452] : Fin 1 → IVec S16 32) a x).toNat < S4000.size a := fun v452 k0_hw196 => k0_hw196.2.2.2

def k0_chk197 (v458 : IVec S16 32) : Prop :=
  (∀ a x, ((![v458] : Fin 1 → IVec S16 32) a x).toNat < S65536.size a)
theorem k0_idx317_inb : ∀ (v458 : IVec S16 32) (k0_hw197 : k0_chk197 v458), ∀ a x, ((![v458] : Fin 1 → IVec S16 32) a x).toNat < S65536.size a := fun v458 k0_hw197 => k0_hw197

def k0_chk198 (v460 : IVec S16 32) : Prop :=
  (∀ a x, ((![v460] : Fin 1 → IVec S16 32) a x).toNat < S65536.size a)
theorem k0_idx318_inb : ∀ (v460 : IVec S16 32) (k0_hw198 : k0_chk198 v460), ∀ a x, ((![v460] : Fin 1 → IVec S16 32) a x).toNat < S65536.size a := fun v460 k0_hw198 => k0_hw198

def k0_chk199 (v462 : IVec S16 32) : Prop :=
  (∀ a x, ((![v462] : Fin 1 → IVec S16 32) a x).toNat < S65536.size a)
theorem k0_idx319_inb : ∀ (v462 : IVec S16 32) (k0_hw199 : k0_chk199 v462), ∀ a x, ((![v462] : Fin 1 → IVec S16 32) a x).toNat < S65536.size a := fun v462 k0_hw199 => k0_hw199

def k0_chk200 (v464 : IVec S16 32) : Prop :=
  (∀ a x, ((![v464] : Fin 1 → IVec S16 32) a x).toNat < S65536.size a)
theorem k0_idx320_inb : ∀ (v464 : IVec S16 32) (k0_hw200 : k0_chk200 v464), ∀ a x, ((![v464] : Fin 1 → IVec S16 32) a x).toNat < S65536.size a := fun v464 k0_hw200 => k0_hw200

def k0_chk201 (v478 : IVec S16 32) : Prop :=
  (∀ a x, ((![v478] : Fin 1 → IVec S16 32) a x).toNat < S4000.size a) ∧
  (∀ a x, ((![v478] : Fin 1 → IVec S16 32) a x).toNat < S4000.size a) ∧
  (∀ a x, ((![v478] : Fin 1 → IVec S16 32) a x).toNat < S4000.size a) ∧
  (∀ a x, ((![v478] : Fin 1 → IVec S16 32) a x).toNat < S4000.size a)
theorem k0_idx321_inb : ∀ (v478 : IVec S16 32) (k0_hw201 : k0_chk201 v478), ∀ a x, ((![v478] : Fin 1 → IVec S16 32) a x).toNat < S4000.size a := fun v478 k0_hw201 => k0_hw201.1
theorem k0_idx322_inb : ∀ (v478 : IVec S16 32) (k0_hw201 : k0_chk201 v478), ∀ a x, ((![v478] : Fin 1 → IVec S16 32) a x).toNat < S4000.size a := fun v478 k0_hw201 => k0_hw201.2.1
theorem k0_idx323_inb : ∀ (v478 : IVec S16 32) (k0_hw201 : k0_chk201 v478), ∀ a x, ((![v478] : Fin 1 → IVec S16 32) a x).toNat < S4000.size a := fun v478 k0_hw201 => k0_hw201.2.2.1
theorem k0_idx324_inb : ∀ (v478 : IVec S16 32) (k0_hw201 : k0_chk201 v478), ∀ a x, ((![v478] : Fin 1 → IVec S16 32) a x).toNat < S4000.size a := fun v478 k0_hw201 => k0_hw201.2.2.2

def k0_chk202 (v484 : IVec S16 32) : Prop :=
  (∀ a x, ((![v484] : Fin 1 → IVec S16 32) a x).toNat < S65536.size a)
theorem k0_idx325_inb : ∀ (v484 : IVec S16 32) (k0_hw202 : k0_chk202 v484), ∀ a x, ((![v484] : Fin 1 → IVec S16 32) a x).toNat < S65536.size a := fun v484 k0_hw202 => k0_hw202

def k0_chk203 (v486 : IVec S16 32) : Prop :=
  (∀ a x, ((![v486] : Fin 1 → IVec S16 32) a x).toNat < S65536.size a)
theorem k0_idx326_inb : ∀ (v486 : IVec S16 32) (k0_hw203 : k0_chk203 v486), ∀ a x, ((![v486] : Fin 1 → IVec S16 32) a x).toNat < S65536.size a := fun v486 k0_hw203 => k0_hw203

def k0_chk204 (v488 : IVec S16 32) : Prop :=
  (∀ a x, ((![v488] : Fin 1 → IVec S16 32) a x).toNat < S65536.size a)
theorem k0_idx327_inb : ∀ (v488 : IVec S16 32) (k0_hw204 : k0_chk204 v488), ∀ a x, ((![v488] : Fin 1 → IVec S16 32) a x).toNat < S65536.size a := fun v488 k0_hw204 => k0_hw204

def k0_chk205 (v490 : IVec S16 32) : Prop :=
  (∀ a x, ((![v490] : Fin 1 → IVec S16 32) a x).toNat < S65536.size a)
theorem k0_idx328_inb : ∀ (v490 : IVec S16 32) (k0_hw205 : k0_chk205 v490), ∀ a x, ((![v490] : Fin 1 → IVec S16 32) a x).toNat < S65536.size a := fun v490 k0_hw205 => k0_hw205

def k0_chk206 (v504 : IVec S16 32) : Prop :=
  (∀ a x, ((![v504] : Fin 1 → IVec S16 32) a x).toNat < S4000.size a) ∧
  (∀ a x, ((![v504] : Fin 1 → IVec S16 32) a x).toNat < S4000.size a) ∧
  (∀ a x, ((![v504] : Fin 1 → IVec S16 32) a x).toNat < S4000.size a) ∧
  (∀ a x, ((![v504] : Fin 1 → IVec S16 32) a x).toNat < S4000.size a)
theorem k0_idx329_inb : ∀ (v504 : IVec S16 32) (k0_hw206 : k0_chk206 v504), ∀ a x, ((![v504] : Fin 1 → IVec S16 32) a x).toNat < S4000.size a := fun v504 k0_hw206 => k0_hw206.1
theorem k0_idx330_inb : ∀ (v504 : IVec S16 32) (k0_hw206 : k0_chk206 v504), ∀ a x, ((![v504] : Fin 1 → IVec S16 32) a x).toNat < S4000.size a := fun v504 k0_hw206 => k0_hw206.2.1
theorem k0_idx331_inb : ∀ (v504 : IVec S16 32) (k0_hw206 : k0_chk206 v504), ∀ a x, ((![v504] : Fin 1 → IVec S16 32) a x).toNat < S4000.size a := fun v504 k0_hw206 => k0_hw206.2.2.1
theorem k0_idx332_inb : ∀ (v504 : IVec S16 32) (k0_hw206 : k0_chk206 v504), ∀ a x, ((![v504] : Fin 1 → IVec S16 32) a x).toNat < S4000.size a := fun v504 k0_hw206 => k0_hw206.2.2.2

def k0_chk207 (v510 : IVec S16 32) : Prop :=
  (∀ a x, ((![v510] : Fin 1 → IVec S16 32) a x).toNat < S65536.size a)
theorem k0_idx333_inb : ∀ (v510 : IVec S16 32) (k0_hw207 : k0_chk207 v510), ∀ a x, ((![v510] : Fin 1 → IVec S16 32) a x).toNat < S65536.size a := fun v510 k0_hw207 => k0_hw207

def k0_chk208 (v512 : IVec S16 32) : Prop :=
  (∀ a x, ((![v512] : Fin 1 → IVec S16 32) a x).toNat < S65536.size a)
theorem k0_idx334_inb : ∀ (v512 : IVec S16 32) (k0_hw208 : k0_chk208 v512), ∀ a x, ((![v512] : Fin 1 → IVec S16 32) a x).toNat < S65536.size a := fun v512 k0_hw208 => k0_hw208

def k0_chk209 (v514 : IVec S16 32) : Prop :=
  (∀ a x, ((![v514] : Fin 1 → IVec S16 32) a x).toNat < S65536.size a)
theorem k0_idx335_inb : ∀ (v514 : IVec S16 32) (k0_hw209 : k0_chk209 v514), ∀ a x, ((![v514] : Fin 1 → IVec S16 32) a x).toNat < S65536.size a := fun v514 k0_hw209 => k0_hw209

def k0_chk210 (v516 : IVec S16 32) : Prop :=
  (∀ a x, ((![v516] : Fin 1 → IVec S16 32) a x).toNat < S65536.size a)
theorem k0_idx336_inb : ∀ (v516 : IVec S16 32) (k0_hw210 : k0_chk210 v516), ∀ a x, ((![v516] : Fin 1 → IVec S16 32) a x).toNat < S65536.size a := fun v516 k0_hw210 => k0_hw210

def k0_chk211 (v530 : IVec S16 32) : Prop :=
  (∀ a x, ((![v530] : Fin 1 → IVec S16 32) a x).toNat < S4000.size a) ∧
  (∀ a x, ((![v530] : Fin 1 → IVec S16 32) a x).toNat < S4000.size a) ∧
  (∀ a x, ((![v530] : Fin 1 → IVec S16 32) a x).toNat < S4000.size a) ∧
  (∀ a x, ((![v530] : Fin 1 → IVec S16 32) a x).toNat < S4000.size a)
theorem k0_idx337_inb : ∀ (v530 : IVec S16 32) (k0_hw211 : k0_chk211 v530), ∀ a x, ((![v530] : Fin 1 → IVec S16 32) a x).toNat < S4000.size a := fun v530 k0_hw211 => k0_hw211.1
theorem k0_idx338_inb : ∀ (v530 : IVec S16 32) (k0_hw211 : k0_chk211 v530), ∀ a x, ((![v530] : Fin 1 → IVec S16 32) a x).toNat < S4000.size a := fun v530 k0_hw211 => k0_hw211.2.1
theorem k0_idx339_inb : ∀ (v530 : IVec S16 32) (k0_hw211 : k0_chk211 v530), ∀ a x, ((![v530] : Fin 1 → IVec S16 32) a x).toNat < S4000.size a := fun v530 k0_hw211 => k0_hw211.2.2.1
theorem k0_idx340_inb : ∀ (v530 : IVec S16 32) (k0_hw211 : k0_chk211 v530), ∀ a x, ((![v530] : Fin 1 → IVec S16 32) a x).toNat < S4000.size a := fun v530 k0_hw211 => k0_hw211.2.2.2

def k0_chk212 (v536 : IVec S16 32) : Prop :=
  (∀ a x, ((![v536] : Fin 1 → IVec S16 32) a x).toNat < S65536.size a)
theorem k0_idx341_inb : ∀ (v536 : IVec S16 32) (k0_hw212 : k0_chk212 v536), ∀ a x, ((![v536] : Fin 1 → IVec S16 32) a x).toNat < S65536.size a := fun v536 k0_hw212 => k0_hw212

def k0_chk213 (v538 : IVec S16 32) : Prop :=
  (∀ a x, ((![v538] : Fin 1 → IVec S16 32) a x).toNat < S65536.size a)
theorem k0_idx342_inb : ∀ (v538 : IVec S16 32) (k0_hw213 : k0_chk213 v538), ∀ a x, ((![v538] : Fin 1 → IVec S16 32) a x).toNat < S65536.size a := fun v538 k0_hw213 => k0_hw213

def k0_chk214 (v540 : IVec S16 32) : Prop :=
  (∀ a x, ((![v540] : Fin 1 → IVec S16 32) a x).toNat < S65536.size a)
theorem k0_idx343_inb : ∀ (v540 : IVec S16 32) (k0_hw214 : k0_chk214 v540), ∀ a x, ((![v540] : Fin 1 → IVec S16 32) a x).toNat < S65536.size a := fun v540 k0_hw214 => k0_hw214

def k0_chk215 (v542 : IVec S16 32) : Prop :=
  (∀ a x, ((![v542] : Fin 1 → IVec S16 32) a x).toNat < S65536.size a)
theorem k0_idx344_inb : ∀ (v542 : IVec S16 32) (k0_hw215 : k0_chk215 v542), ∀ a x, ((![v542] : Fin 1 → IVec S16 32) a x).toNat < S65536.size a := fun v542 k0_hw215 => k0_hw215

def k0_chk216 (v556 : IVec S16 32) : Prop :=
  (∀ a x, ((![v556] : Fin 1 → IVec S16 32) a x).toNat < S4000.size a) ∧
  (∀ a x, ((![v556] : Fin 1 → IVec S16 32) a x).toNat < S4000.size a) ∧
  (∀ a x, ((![v556] : Fin 1 → IVec S16 32) a x).toNat < S4000.size a) ∧
  (∀ a x, ((![v556] : Fin 1 → IVec S16 32) a x).toNat < S4000.size a)
theorem k0_idx345_inb : ∀ (v556 : IVec S16 32) (k0_hw216 : k0_chk216 v556), ∀ a x, ((![v556] : Fin 1 → IVec S16 32) a x).toNat < S4000.size a := fun v556 k0_hw216 => k0_hw216.1
theorem k0_idx346_inb : ∀ (v556 : IVec S16 32) (k0_hw216 : k0_chk216 v556), ∀ a x, ((![v556] : Fin 1 → IVec S16 32) a x).toNat < S4000.size a := fun v556 k0_hw216 => k0_hw216.2.1
theorem k0_idx347_inb : ∀ (v556 : IVec S16 32) (k0_hw216 : k0_chk216 v556), ∀ a x, ((![v556] : Fin 1 → IVec S16 32) a x).toNat < S4000.size a := fun v556 k0_hw216 => k0_hw216.2.2.1
theorem k0_idx348_inb : ∀ (v556 : IVec S16 32) (k0_hw216 : k0_chk216 v556), ∀ a x, ((![v556] : Fin 1 → IVec S16 32) a x).toNat < S4000.size a := fun v556 k0_hw216 => k0_hw216.2.2.2

def k0_chk217 (v562 : IVec S16 32) : Prop :=
  (∀ a x, ((![v562] : Fin 1 → IVec S16 32) a x).toNat < S65536.size a)
theorem k0_idx349_inb : ∀ (v562 : IVec S16 32) (k0_hw217 : k0_chk217 v562), ∀ a x, ((![v562] : Fin 1 → IVec S16 32) a x).toNat < S65536.size a := fun v562 k0_hw217 => k0_hw217

def k0_chk218 (v564 : IVec S16 32) : Prop :=
  (∀ a x, ((![v564] : Fin 1 → IVec S16 32) a x).toNat < S65536.size a)
theorem k0_idx350_inb : ∀ (v564 : IVec S16 32) (k0_hw218 : k0_chk218 v564), ∀ a x, ((![v564] : Fin 1 → IVec S16 32) a x).toNat < S65536.size a := fun v564 k0_hw218 => k0_hw218

def k0_chk219 (v566 : IVec S16 32) : Prop :=
  (∀ a x, ((![v566] : Fin 1 → IVec S16 32) a x).toNat < S65536.size a)
theorem k0_idx351_inb : ∀ (v566 : IVec S16 32) (k0_hw219 : k0_chk219 v566), ∀ a x, ((![v566] : Fin 1 → IVec S16 32) a x).toNat < S65536.size a := fun v566 k0_hw219 => k0_hw219

def k0_chk220 (v568 : IVec S16 32) : Prop :=
  (∀ a x, ((![v568] : Fin 1 → IVec S16 32) a x).toNat < S65536.size a)
theorem k0_idx352_inb : ∀ (v568 : IVec S16 32) (k0_hw220 : k0_chk220 v568), ∀ a x, ((![v568] : Fin 1 → IVec S16 32) a x).toNat < S65536.size a := fun v568 k0_hw220 => k0_hw220

def k0_chk221 (v582 : IVec S16 32) : Prop :=
  (∀ a x, ((![v582] : Fin 1 → IVec S16 32) a x).toNat < S4000.size a) ∧
  (∀ a x, ((![v582] : Fin 1 → IVec S16 32) a x).toNat < S4000.size a) ∧
  (∀ a x, ((![v582] : Fin 1 → IVec S16 32) a x).toNat < S4000.size a) ∧
  (∀ a x, ((![v582] : Fin 1 → IVec S16 32) a x).toNat < S4000.size a)
theorem k0_idx353_inb : ∀ (v582 : IVec S16 32) (k0_hw221 : k0_chk221 v582), ∀ a x, ((![v582] : Fin 1 → IVec S16 32) a x).toNat < S4000.size a := fun v582 k0_hw221 => k0_hw221.1
theorem k0_idx354_inb : ∀ (v582 : IVec S16 32) (k0_hw221 : k0_chk221 v582), ∀ a x, ((![v582] : Fin 1 → IVec S16 32) a x).toNat < S4000.size a := fun v582 k0_hw221 => k0_hw221.2.1
theorem k0_idx355_inb : ∀ (v582 : IVec S16 32) (k0_hw221 : k0_chk221 v582), ∀ a x, ((![v582] : Fin 1 → IVec S16 32) a x).toNat < S4000.size a := fun v582 k0_hw221 => k0_hw221.2.2.1
theorem k0_idx356_inb : ∀ (v582 : IVec S16 32) (k0_hw221 : k0_chk221 v582), ∀ a x, ((![v582] : Fin 1 → IVec S16 32) a x).toNat < S4000.size a := fun v582 k0_hw221 => k0_hw221.2.2.2

def k0_chk222 (v588 : IVec S16 32) : Prop :=
  (∀ a x, ((![v588] : Fin 1 → IVec S16 32) a x).toNat < S65536.size a)
theorem k0_idx357_inb : ∀ (v588 : IVec S16 32) (k0_hw222 : k0_chk222 v588), ∀ a x, ((![v588] : Fin 1 → IVec S16 32) a x).toNat < S65536.size a := fun v588 k0_hw222 => k0_hw222

def k0_chk223 (v590 : IVec S16 32) : Prop :=
  (∀ a x, ((![v590] : Fin 1 → IVec S16 32) a x).toNat < S65536.size a)
theorem k0_idx358_inb : ∀ (v590 : IVec S16 32) (k0_hw223 : k0_chk223 v590), ∀ a x, ((![v590] : Fin 1 → IVec S16 32) a x).toNat < S65536.size a := fun v590 k0_hw223 => k0_hw223

def k0_chk224 (v592 : IVec S16 32) : Prop :=
  (∀ a x, ((![v592] : Fin 1 → IVec S16 32) a x).toNat < S65536.size a)
theorem k0_idx359_inb : ∀ (v592 : IVec S16 32) (k0_hw224 : k0_chk224 v592), ∀ a x, ((![v592] : Fin 1 → IVec S16 32) a x).toNat < S65536.size a := fun v592 k0_hw224 => k0_hw224

def k0_chk225 (v594 : IVec S16 32) : Prop :=
  (∀ a x, ((![v594] : Fin 1 → IVec S16 32) a x).toNat < S65536.size a)
theorem k0_idx360_inb : ∀ (v594 : IVec S16 32) (k0_hw225 : k0_chk225 v594), ∀ a x, ((![v594] : Fin 1 → IVec S16 32) a x).toNat < S65536.size a := fun v594 k0_hw225 => k0_hw225

def k0_chk226 (v608 : IVec S16 32) : Prop :=
  (∀ a x, ((![v608] : Fin 1 → IVec S16 32) a x).toNat < S4000.size a) ∧
  (∀ a x, ((![v608] : Fin 1 → IVec S16 32) a x).toNat < S4000.size a) ∧
  (∀ a x, ((![v608] : Fin 1 → IVec S16 32) a x).toNat < S4000.size a) ∧
  (∀ a x, ((![v608] : Fin 1 → IVec S16 32) a x).toNat < S4000.size a)
theorem k0_idx361_inb : ∀ (v608 : IVec S16 32) (k0_hw226 : k0_chk226 v608), ∀ a x, ((![v608] : Fin 1 → IVec S16 32) a x).toNat < S4000.size a := fun v608 k0_hw226 => k0_hw226.1
theorem k0_idx362_inb : ∀ (v608 : IVec S16 32) (k0_hw226 : k0_chk226 v608), ∀ a x, ((![v608] : Fin 1 → IVec S16 32) a x).toNat < S4000.size a := fun v608 k0_hw226 => k0_hw226.2.1
theorem k0_idx363_inb : ∀ (v608 : IVec S16 32) (k0_hw226 : k0_chk226 v608), ∀ a x, ((![v608] : Fin 1 → IVec S16 32) a x).toNat < S4000.size a := fun v608 k0_hw226 => k0_hw226.2.2.1
theorem k0_idx364_inb : ∀ (v608 : IVec S16 32) (k0_hw226 : k0_chk226 v608), ∀ a x, ((![v608] : Fin 1 → IVec S16 32) a x).toNat < S4000.size a := fun v608 k0_hw226 => k0_hw226.2.2.2

def k0_chk227 (v614 : IVec S16 32) : Prop :=
  (∀ a x, ((![v614] : Fin 1 → IVec S16 32) a x).toNat < S65536.size a)
theorem k0_idx365_inb : ∀ (v614 : IVec S16 32) (k0_hw227 : k0_chk227 v614), ∀ a x, ((![v614] : Fin 1 → IVec S16 32) a x).toNat < S65536.size a := fun v614 k0_hw227 => k0_hw227

def k0_chk228 (v616 : IVec S16 32) : Prop :=
  (∀ a x, ((![v616] : Fin 1 → IVec S16 32) a x).toNat < S65536.size a)
theorem k0_idx366_inb : ∀ (v616 : IVec S16 32) (k0_hw228 : k0_chk228 v616), ∀ a x, ((![v616] : Fin 1 → IVec S16 32) a x).toNat < S65536.size a := fun v616 k0_hw228 => k0_hw228

def k0_chk229 (v618 : IVec S16 32) : Prop :=
  (∀ a x, ((![v618] : Fin 1 → IVec S16 32) a x).toNat < S65536.size a)
theorem k0_idx367_inb : ∀ (v618 : IVec S16 32) (k0_hw229 : k0_chk229 v618), ∀ a x, ((![v618] : Fin 1 → IVec S16 32) a x).toNat < S65536.size a := fun v618 k0_hw229 => k0_hw229

def k0_chk230 (v620 : IVec S16 32) : Prop :=
  (∀ a x, ((![v620] : Fin 1 → IVec S16 32) a x).toNat < S65536.size a)
theorem k0_idx368_inb : ∀ (v620 : IVec S16 32) (k0_hw230 : k0_chk230 v620), ∀ a x, ((![v620] : Fin 1 → IVec S16 32) a x).toNat < S65536.size a := fun v620 k0_hw230 => k0_hw230

def k0_chk231 (v634 : IVec S16 32) : Prop :=
  (∀ a x, ((![v634] : Fin 1 → IVec S16 32) a x).toNat < S4000.size a) ∧
  (∀ a x, ((![v634] : Fin 1 → IVec S16 32) a x).toNat < S4000.size a) ∧
  (∀ a x, ((![v634] : Fin 1 → IVec S16 32) a x).toNat < S4000.size a) ∧
  (∀ a x, ((![v634] : Fin 1 → IVec S16 32) a x).toNat < S4000.size a)
theorem k0_idx369_inb : ∀ (v634 : IVec S16 32) (k0_hw231 : k0_chk231 v634), ∀ a x, ((![v634] : Fin 1 → IVec S16 32) a x).toNat < S4000.size a := fun v634 k0_hw231 => k0_hw231.1
theorem k0_idx370_inb : ∀ (v634 : IVec S16 32) (k0_hw231 : k0_chk231 v634), ∀ a x, ((![v634] : Fin 1 → IVec S16 32) a x).toNat < S4000.size a := fun v634 k0_hw231 => k0_hw231.2.1
theorem k0_idx371_inb : ∀ (v634 : IVec S16 32) (k0_hw231 : k0_chk231 v634), ∀ a x, ((![v634] : Fin 1 → IVec S16 32) a x).toNat < S4000.size a := fun v634 k0_hw231 => k0_hw231.2.2.1
theorem k0_idx372_inb : ∀ (v634 : IVec S16 32) (k0_hw231 : k0_chk231 v634), ∀ a x, ((![v634] : Fin 1 → IVec S16 32) a x).toNat < S4000.size a := fun v634 k0_hw231 => k0_hw231.2.2.2

def k0_chk232 (v640 : IVec S16 32) : Prop :=
  (∀ a x, ((![v640] : Fin 1 → IVec S16 32) a x).toNat < S65536.size a)
theorem k0_idx373_inb : ∀ (v640 : IVec S16 32) (k0_hw232 : k0_chk232 v640), ∀ a x, ((![v640] : Fin 1 → IVec S16 32) a x).toNat < S65536.size a := fun v640 k0_hw232 => k0_hw232

def k0_chk233 (v642 : IVec S16 32) : Prop :=
  (∀ a x, ((![v642] : Fin 1 → IVec S16 32) a x).toNat < S65536.size a)
theorem k0_idx374_inb : ∀ (v642 : IVec S16 32) (k0_hw233 : k0_chk233 v642), ∀ a x, ((![v642] : Fin 1 → IVec S16 32) a x).toNat < S65536.size a := fun v642 k0_hw233 => k0_hw233

def k0_chk234 (v644 : IVec S16 32) : Prop :=
  (∀ a x, ((![v644] : Fin 1 → IVec S16 32) a x).toNat < S65536.size a)
theorem k0_idx375_inb : ∀ (v644 : IVec S16 32) (k0_hw234 : k0_chk234 v644), ∀ a x, ((![v644] : Fin 1 → IVec S16 32) a x).toNat < S65536.size a := fun v644 k0_hw234 => k0_hw234

def k0_chk235 (v646 : IVec S16 32) : Prop :=
  (∀ a x, ((![v646] : Fin 1 → IVec S16 32) a x).toNat < S65536.size a)
theorem k0_idx376_inb : ∀ (v646 : IVec S16 32) (k0_hw235 : k0_chk235 v646), ∀ a x, ((![v646] : Fin 1 → IVec S16 32) a x).toNat < S65536.size a := fun v646 k0_hw235 => k0_hw235

def k0_chk236 (v660 : IVec S16 32) : Prop :=
  (∀ a x, ((![v660] : Fin 1 → IVec S16 32) a x).toNat < S4000.size a) ∧
  (∀ a x, ((![v660] : Fin 1 → IVec S16 32) a x).toNat < S4000.size a) ∧
  (∀ a x, ((![v660] : Fin 1 → IVec S16 32) a x).toNat < S4000.size a) ∧
  (∀ a x, ((![v660] : Fin 1 → IVec S16 32) a x).toNat < S4000.size a)
theorem k0_idx377_inb : ∀ (v660 : IVec S16 32) (k0_hw236 : k0_chk236 v660), ∀ a x, ((![v660] : Fin 1 → IVec S16 32) a x).toNat < S4000.size a := fun v660 k0_hw236 => k0_hw236.1
theorem k0_idx378_inb : ∀ (v660 : IVec S16 32) (k0_hw236 : k0_chk236 v660), ∀ a x, ((![v660] : Fin 1 → IVec S16 32) a x).toNat < S4000.size a := fun v660 k0_hw236 => k0_hw236.2.1
theorem k0_idx379_inb : ∀ (v660 : IVec S16 32) (k0_hw236 : k0_chk236 v660), ∀ a x, ((![v660] : Fin 1 → IVec S16 32) a x).toNat < S4000.size a := fun v660 k0_hw236 => k0_hw236.2.2.1
theorem k0_idx380_inb : ∀ (v660 : IVec S16 32) (k0_hw236 : k0_chk236 v660), ∀ a x, ((![v660] : Fin 1 → IVec S16 32) a x).toNat < S4000.size a := fun v660 k0_hw236 => k0_hw236.2.2.2

def k0_chk237 (v666 : IVec S16 32) : Prop :=
  (∀ a x, ((![v666] : Fin 1 → IVec S16 32) a x).toNat < S65536.size a)
theorem k0_idx381_inb : ∀ (v666 : IVec S16 32) (k0_hw237 : k0_chk237 v666), ∀ a x, ((![v666] : Fin 1 → IVec S16 32) a x).toNat < S65536.size a := fun v666 k0_hw237 => k0_hw237

def k0_chk238 (v668 : IVec S16 32) : Prop :=
  (∀ a x, ((![v668] : Fin 1 → IVec S16 32) a x).toNat < S65536.size a)
theorem k0_idx382_inb : ∀ (v668 : IVec S16 32) (k0_hw238 : k0_chk238 v668), ∀ a x, ((![v668] : Fin 1 → IVec S16 32) a x).toNat < S65536.size a := fun v668 k0_hw238 => k0_hw238

def k0_chk239 (v670 : IVec S16 32) : Prop :=
  (∀ a x, ((![v670] : Fin 1 → IVec S16 32) a x).toNat < S65536.size a)
theorem k0_idx383_inb : ∀ (v670 : IVec S16 32) (k0_hw239 : k0_chk239 v670), ∀ a x, ((![v670] : Fin 1 → IVec S16 32) a x).toNat < S65536.size a := fun v670 k0_hw239 => k0_hw239

def k0_chk240 (v672 : IVec S16 32) : Prop :=
  (∀ a x, ((![v672] : Fin 1 → IVec S16 32) a x).toNat < S65536.size a)
theorem k0_idx384_inb : ∀ (v672 : IVec S16 32) (k0_hw240 : k0_chk240 v672), ∀ a x, ((![v672] : Fin 1 → IVec S16 32) a x).toNat < S65536.size a := fun v672 k0_hw240 => k0_hw240

def k0_chk241 (v686 : IVec S16 32) : Prop :=
  (∀ a x, ((![v686] : Fin 1 → IVec S16 32) a x).toNat < S4000.size a) ∧
  (∀ a x, ((![v686] : Fin 1 → IVec S16 32) a x).toNat < S4000.size a) ∧
  (∀ a x, ((![v686] : Fin 1 → IVec S16 32) a x).toNat < S4000.size a) ∧
  (∀ a x, ((![v686] : Fin 1 → IVec S16 32) a x).toNat < S4000.size a)
theorem k0_idx385_inb : ∀ (v686 : IVec S16 32) (k0_hw241 : k0_chk241 v686), ∀ a x, ((![v686] : Fin 1 → IVec S16 32) a x).toNat < S4000.size a := fun v686 k0_hw241 => k0_hw241.1
theorem k0_idx386_inb : ∀ (v686 : IVec S16 32) (k0_hw241 : k0_chk241 v686), ∀ a x, ((![v686] : Fin 1 → IVec S16 32) a x).toNat < S4000.size a := fun v686 k0_hw241 => k0_hw241.2.1
theorem k0_idx387_inb : ∀ (v686 : IVec S16 32) (k0_hw241 : k0_chk241 v686), ∀ a x, ((![v686] : Fin 1 → IVec S16 32) a x).toNat < S4000.size a := fun v686 k0_hw241 => k0_hw241.2.2.1
theorem k0_idx388_inb : ∀ (v686 : IVec S16 32) (k0_hw241 : k0_chk241 v686), ∀ a x, ((![v686] : Fin 1 → IVec S16 32) a x).toNat < S4000.size a := fun v686 k0_hw241 => k0_hw241.2.2.2

def k0_chk242 (v692 : IVec S16 32) : Prop :=
  (∀ a x, ((![v692] : Fin 1 → IVec S16 32) a x).toNat < S65536.size a)
theorem k0_idx389_inb : ∀ (v692 : IVec S16 32) (k0_hw242 : k0_chk242 v692), ∀ a x, ((![v692] : Fin 1 → IVec S16 32) a x).toNat < S65536.size a := fun v692 k0_hw242 => k0_hw242

def k0_chk243 (v694 : IVec S16 32) : Prop :=
  (∀ a x, ((![v694] : Fin 1 → IVec S16 32) a x).toNat < S65536.size a)
theorem k0_idx390_inb : ∀ (v694 : IVec S16 32) (k0_hw243 : k0_chk243 v694), ∀ a x, ((![v694] : Fin 1 → IVec S16 32) a x).toNat < S65536.size a := fun v694 k0_hw243 => k0_hw243

def k0_chk244 (v696 : IVec S16 32) : Prop :=
  (∀ a x, ((![v696] : Fin 1 → IVec S16 32) a x).toNat < S65536.size a)
theorem k0_idx391_inb : ∀ (v696 : IVec S16 32) (k0_hw244 : k0_chk244 v696), ∀ a x, ((![v696] : Fin 1 → IVec S16 32) a x).toNat < S65536.size a := fun v696 k0_hw244 => k0_hw244

def k0_chk245 (v698 : IVec S16 32) : Prop :=
  (∀ a x, ((![v698] : Fin 1 → IVec S16 32) a x).toNat < S65536.size a)
theorem k0_idx392_inb : ∀ (v698 : IVec S16 32) (k0_hw245 : k0_chk245 v698), ∀ a x, ((![v698] : Fin 1 → IVec S16 32) a x).toNat < S65536.size a := fun v698 k0_hw245 => k0_hw245

def k0_chk246 (v712 : IVec S16 32) : Prop :=
  (∀ a x, ((![v712] : Fin 1 → IVec S16 32) a x).toNat < S4000.size a) ∧
  (∀ a x, ((![v712] : Fin 1 → IVec S16 32) a x).toNat < S4000.size a) ∧
  (∀ a x, ((![v712] : Fin 1 → IVec S16 32) a x).toNat < S4000.size a) ∧
  (∀ a x, ((![v712] : Fin 1 → IVec S16 32) a x).toNat < S4000.size a)
theorem k0_idx393_inb : ∀ (v712 : IVec S16 32) (k0_hw246 : k0_chk246 v712), ∀ a x, ((![v712] : Fin 1 → IVec S16 32) a x).toNat < S4000.size a := fun v712 k0_hw246 => k0_hw246.1
theorem k0_idx394_inb : ∀ (v712 : IVec S16 32) (k0_hw246 : k0_chk246 v712), ∀ a x, ((![v712] : Fin 1 → IVec S16 32) a x).toNat < S4000.size a := fun v712 k0_hw246 => k0_hw246.2.1
theorem k0_idx395_inb : ∀ (v712 : IVec S16 32) (k0_hw246 : k0_chk246 v712), ∀ a x, ((![v712] : Fin 1 → IVec S16 32) a x).toNat < S4000.size a := fun v712 k0_hw246 => k0_hw246.2.2.1
theorem k0_idx396_inb : ∀ (v712 : IVec S16 32) (k0_hw246 : k0_chk246 v712), ∀ a x, ((![v712] : Fin 1 → IVec S16 32) a x).toNat < S4000.size a := fun v712 k0_hw246 => k0_hw246.2.2.2

def k0_chk247 (v718 : IVec S16 32) : Prop :=
  (∀ a x, ((![v718] : Fin 1 → IVec S16 32) a x).toNat < S65536.size a)
theorem k0_idx397_inb : ∀ (v718 : IVec S16 32) (k0_hw247 : k0_chk247 v718), ∀ a x, ((![v718] : Fin 1 → IVec S16 32) a x).toNat < S65536.size a := fun v718 k0_hw247 => k0_hw247

def k0_chk248 (v720 : IVec S16 32) : Prop :=
  (∀ a x, ((![v720] : Fin 1 → IVec S16 32) a x).toNat < S65536.size a)
theorem k0_idx398_inb : ∀ (v720 : IVec S16 32) (k0_hw248 : k0_chk248 v720), ∀ a x, ((![v720] : Fin 1 → IVec S16 32) a x).toNat < S65536.size a := fun v720 k0_hw248 => k0_hw248

def k0_chk249 (v722 : IVec S16 32) : Prop :=
  (∀ a x, ((![v722] : Fin 1 → IVec S16 32) a x).toNat < S65536.size a)
theorem k0_idx399_inb : ∀ (v722 : IVec S16 32) (k0_hw249 : k0_chk249 v722), ∀ a x, ((![v722] : Fin 1 → IVec S16 32) a x).toNat < S65536.size a := fun v722 k0_hw249 => k0_hw249

def k0_chk250 (v724 : IVec S16 32) : Prop :=
  (∀ a x, ((![v724] : Fin 1 → IVec S16 32) a x).toNat < S65536.size a)
theorem k0_idx400_inb : ∀ (v724 : IVec S16 32) (k0_hw250 : k0_chk250 v724), ∀ a x, ((![v724] : Fin 1 → IVec S16 32) a x).toNat < S65536.size a := fun v724 k0_hw250 => k0_hw250
def k0_cond2 (k0_t2 : Fin k0_t2_loop.trips) : BitVec 1 :=
  let c2_i32_46 : BitVec 32 := 2#32
  let c0_i32_9 : BitVec 32 := 0#32
  let c1_i32_10 : BitVec 32 := 1#32
  let arg19 : BitVec 32 := Scf.iv c0_i32_9 c1_i32_10 k0_t2
  let v69 : BitVec 32 := Scalar.muli c2_i32_46 arg19
  let c1_i32_47 : BitVec 32 := 1#32
  let v70 : BitVec 32 := Scalar.addi v69 c1_i32_47
  let c2_i32_60 : BitVec 32 := 2#32
  let v81 : BitVec 32 := Scalar.addi v70 c2_i32_60
  let c50_i32_61 : BitVec 32 := 50#32
  let v82 : BitVec 1 := Scalar.cmpi .slt v81 c50_i32_61
  let v83 : BitVec 32 := Scalar.extui v82
  let c0_i32_62 : BitVec 32 := 0#32
  let v84 : BitVec 1 := Scalar.cmpi .ne v83 c0_i32_62
  v84

def k0_off6 (i : grid0.Coords) (k0_t2 : Fin k0_t2_loop.trips) : Fin 1 → Nat :=
  let c0_i32_65 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v10 : BitVec 32 := Scalar.muli v1 c200000_i32
  let v88 : BitVec 32 := Scalar.addi c0_i32_65 v10
  let c2_i32_46 : BitVec 32 := 2#32
  let c0_i32_9 : BitVec 32 := 0#32
  let c1_i32_10 : BitVec 32 := 1#32
  let arg19 : BitVec 32 := Scf.iv c0_i32_9 c1_i32_10 k0_t2
  let v69 : BitVec 32 := Scalar.muli c2_i32_46 arg19
  let c1_i32_47 : BitVec 32 := 1#32
  let v70 : BitVec 32 := Scalar.addi v69 c1_i32_47
  let c2_i32_63 : BitVec 32 := 2#32
  let v85 : BitVec 32 := Scalar.addi v70 c2_i32_63
  let c4000_i32_66 : BitVec 32 := 4000#32
  let v89 : BitVec 32 := Scalar.muli v85 c4000_i32_66
  let v90 : BitVec 32 := Scalar.addi v88 v89
  ![v90.toNat]
def k0_off7 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v10 : BitVec 32 := Scalar.muli v1 c200000_i32
  let c2_i32_46 : BitVec 32 := 2#32
  let c0_i32_9 : BitVec 32 := 0#32
  let c1_i32_10 : BitVec 32 := 1#32
  let arg19 : BitVec 32 := Scf.iv c0_i32_9 c1_i32_10 k0_t2
  let v69 : BitVec 32 := Scalar.muli c2_i32_46 arg19
  let c1_i32_47 : BitVec 32 := 1#32
  let v70 : BitVec 32 := Scalar.addi v69 c1_i32_47
  let c2_i32_63 : BitVec 32 := 2#32
  let v85 : BitVec 32 := Scalar.addi v70 c2_i32_63
  let c4000_i32_64 : BitVec 32 := 4000#32
  let v86 : BitVec 32 := Scalar.muli v85 c4000_i32_64
  let v87 : BitVec 32 := Scalar.addi v10 v86
  ![v87.toNat]

def k0_chk251 (v37 : IVec S16 32) : Prop :=
  (∀ a x, ((![v37] : Fin 1 → IVec S16 32) a x).toNat < S65536.size a)
theorem k0_idx401_inb : ∀ (v37 : IVec S16 32) (k0_hw251 : k0_chk251 v37), ∀ a x, ((![v37] : Fin 1 → IVec S16 32) a x).toNat < S65536.size a := fun v37 k0_hw251 => k0_hw251

def k0_chk252 (v39 : IVec S16 32) : Prop :=
  (∀ a x, ((![v39] : Fin 1 → IVec S16 32) a x).toNat < S65536.size a)
theorem k0_idx402_inb : ∀ (v39 : IVec S16 32) (k0_hw252 : k0_chk252 v39), ∀ a x, ((![v39] : Fin 1 → IVec S16 32) a x).toNat < S65536.size a := fun v39 k0_hw252 => k0_hw252

def k0_chk253 (v41 : IVec S16 32) : Prop :=
  (∀ a x, ((![v41] : Fin 1 → IVec S16 32) a x).toNat < S65536.size a)
theorem k0_idx403_inb : ∀ (v41 : IVec S16 32) (k0_hw253 : k0_chk253 v41), ∀ a x, ((![v41] : Fin 1 → IVec S16 32) a x).toNat < S65536.size a := fun v41 k0_hw253 => k0_hw253

def k0_chk254 (v43 : IVec S16 32) : Prop :=
  (∀ a x, ((![v43] : Fin 1 → IVec S16 32) a x).toNat < S65536.size a)
theorem k0_idx404_inb : ∀ (v43 : IVec S16 32) (k0_hw254 : k0_chk254 v43), ∀ a x, ((![v43] : Fin 1 → IVec S16 32) a x).toNat < S65536.size a := fun v43 k0_hw254 => k0_hw254
@[reducible] def k0_t5_loop : Scf.Loop 32 :=
  let c0_i32_13 : BitVec 32 := 0#32
  let c64_i32 : BitVec 32 := 64#32
  let v44 : BitVec 32 := Scalar.addi c0_i32_13 c64_i32
  let c1_i32_14 : BitVec 32 := 1#32
  ⟨c0_i32_13, v44, c1_i32_14⟩
def k0_off8 (k0_t5 : Fin k0_t5_loop.trips) (c0_i32_31 : BitVec 32) : Fin 1 → Nat :=
  let c0_i32_13 : BitVec 32 := 0#32
  let c1_i32_14 : BitVec 32 := 1#32
  let arg19 : BitVec 32 := Scf.iv c0_i32_13 c1_i32_14 k0_t5
  let c16_i32 : BitVec 32 := 16#32
  let v53 : BitVec 32 := Scalar.muli arg19 c16_i32
  let v54 : BitVec 32 := Scalar.addi c0_i32_31 v53
  let v55 : Index := Scalar.indexCast v54
  ![v55.toNat]
def k0_off9 (k0_t5 : Fin k0_t5_loop.trips) : Fin 2 → Nat :=
  let c0_i32_49 : BitVec 32 := 0#32
  let v134 : Index := Scalar.indexCast c0_i32_49
  let c0_i32_13 : BitVec 32 := 0#32
  let c1_i32_14 : BitVec 32 := 1#32
  let arg19 : BitVec 32 := Scf.iv c0_i32_13 c1_i32_14 k0_t5
  let c16_i32_48 : BitVec 32 := 16#32
  let v133 : BitVec 32 := Scalar.muli arg19 c16_i32_48
  let v135 : Index := Scalar.indexCast v133
  ![0, v135.toNat]
@[reducible] def k0_t6_loop : Scf.Loop 32 :=
  let c0_i32_17 : BitVec 32 := 0#32
  let c64_i32_18 : BitVec 32 := 64#32
  let v46 : BitVec 32 := Scalar.addi c0_i32_17 c64_i32_18
  let c1_i32_19 : BitVec 32 := 1#32
  ⟨c0_i32_17, v46, c1_i32_19⟩
def k0_off10 (k0_t6 : Fin k0_t6_loop.trips) (c1024_i32_31 : BitVec 32) : Fin 1 → Nat :=
  let c0_i32_17 : BitVec 32 := 0#32
  let c1_i32_19 : BitVec 32 := 1#32
  let arg19 : BitVec 32 := Scf.iv c0_i32_17 c1_i32_19 k0_t6
  let c16_i32 : BitVec 32 := 16#32
  let v53 : BitVec 32 := Scalar.muli arg19 c16_i32
  let v54 : BitVec 32 := Scalar.addi c1024_i32_31 v53
  let v55 : Index := Scalar.indexCast v54
  ![v55.toNat]
def k0_off11 (k0_t6 : Fin k0_t6_loop.trips) : Fin 2 → Nat :=
  let c1_i32_48 : BitVec 32 := 1#32
  let v134 : Index := Scalar.indexCast c1_i32_48
  let c0_i32_17 : BitVec 32 := 0#32
  let c1_i32_19 : BitVec 32 := 1#32
  let arg19 : BitVec 32 := Scf.iv c0_i32_17 c1_i32_19 k0_t6
  let c16_i32_47 : BitVec 32 := 16#32
  let v133 : BitVec 32 := Scalar.muli arg19 c16_i32_47
  let v135 : Index := Scalar.indexCast v133
  ![1, v135.toNat]
@[reducible] def k0_t7_loop : Scf.Loop 32 :=
  let c0_i32_22 : BitVec 32 := 0#32
  let c64_i32_23 : BitVec 32 := 64#32
  let v48 : BitVec 32 := Scalar.addi c0_i32_22 c64_i32_23
  let c1_i32_24 : BitVec 32 := 1#32
  ⟨c0_i32_22, v48, c1_i32_24⟩
def k0_off12 (k0_t7 : Fin k0_t7_loop.trips) (c2048_i32_31 : BitVec 32) : Fin 1 → Nat :=
  let c0_i32_22 : BitVec 32 := 0#32
  let c1_i32_24 : BitVec 32 := 1#32
  let arg19 : BitVec 32 := Scf.iv c0_i32_22 c1_i32_24 k0_t7
  let c16_i32 : BitVec 32 := 16#32
  let v53 : BitVec 32 := Scalar.muli arg19 c16_i32
  let v54 : BitVec 32 := Scalar.addi c2048_i32_31 v53
  let v55 : Index := Scalar.indexCast v54
  ![v55.toNat]
def k0_off13 (k0_t7 : Fin k0_t7_loop.trips) : Fin 2 → Nat :=
  let c2_i32_48 : BitVec 32 := 2#32
  let v134 : Index := Scalar.indexCast c2_i32_48
  let c0_i32_22 : BitVec 32 := 0#32
  let c1_i32_24 : BitVec 32 := 1#32
  let arg19 : BitVec 32 := Scf.iv c0_i32_22 c1_i32_24 k0_t7
  let c16_i32_47 : BitVec 32 := 16#32
  let v133 : BitVec 32 := Scalar.muli arg19 c16_i32_47
  let v135 : Index := Scalar.indexCast v133
  ![2, v135.toNat]
@[reducible] def k0_t8_loop : Scf.Loop 32 :=
  let c0_i32_27 : BitVec 32 := 0#32
  let c64_i32_28 : BitVec 32 := 64#32
  let v50 : BitVec 32 := Scalar.addi c0_i32_27 c64_i32_28
  let c1_i32_29 : BitVec 32 := 1#32
  ⟨c0_i32_27, v50, c1_i32_29⟩
def k0_off14 (k0_t8 : Fin k0_t8_loop.trips) (c3072_i32_31 : BitVec 32) : Fin 1 → Nat :=
  let c0_i32_27 : BitVec 32 := 0#32
  let c1_i32_29 : BitVec 32 := 1#32
  let arg19 : BitVec 32 := Scf.iv c0_i32_27 c1_i32_29 k0_t8
  let c16_i32 : BitVec 32 := 16#32
  let v53 : BitVec 32 := Scalar.muli arg19 c16_i32
  let v54 : BitVec 32 := Scalar.addi c3072_i32_31 v53
  let v55 : Index := Scalar.indexCast v54
  ![v55.toNat]
def k0_off15 (k0_t8 : Fin k0_t8_loop.trips) : Fin 2 → Nat :=
  let c3_i32 : BitVec 32 := 3#32
  let v134 : Index := Scalar.indexCast c3_i32
  let c0_i32_27 : BitVec 32 := 0#32
  let c1_i32_29 : BitVec 32 := 1#32
  let arg19 : BitVec 32 := Scf.iv c0_i32_27 c1_i32_29 k0_t8
  let c16_i32_47 : BitVec 32 := 16#32
  let v133 : BitVec 32 := Scalar.muli arg19 c16_i32_47
  let v135 : Index := Scalar.indexCast v133
  ![3, v135.toNat]
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v52 : BitVec 32 := Scalar.muli v1 c4_i32
  let c0_i32_31_r0 : BitVec 32 := 0#32
  ![v52.toNat, 0]
abbrev grid1 : Pipeline.Grid := .none

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S6400000x3 : Shape := ⟨2, ![6400000, 3]⟩
abbrev S6400000 : Shape := ⟨1, ![6400000]⟩
abbrev S_ : Shape := ⟨0, ![]⟩
abbrev S1000 : Shape := ⟨1, ![1000]⟩
abbrev S6400000x1 : Shape := ⟨2, ![6400000, 1]⟩
abbrev S1000x3 : Shape := ⟨2, ![1000, 3]⟩
abbrev S1000x1 : Shape := ⟨2, ![1000, 1]⟩

abbrev nBuf : Space → Nat
  | .hbm => 74
  | .vmem => 0
  | .smem => 0
  | _ => 0

abbrev bufTy : (tb : Table) → Fin (tcTables nBuf tb) → BufTy
  | .hbm, ⟨0, _⟩ => ⟨S6400000x3, .f32⟩
  | .hbm, ⟨1, _⟩ => ⟨S6400000x3, .f32⟩
  | .hbm, ⟨2, _⟩ => ⟨S6400000x3, .f32⟩
  | .hbm, ⟨3, _⟩ => ⟨S6400000, .i32⟩
  | .hbm, ⟨4, _⟩ => ⟨S6400000x3, .f32⟩
  | .hbm, ⟨5, _⟩ => ⟨S6400000x3, .f32⟩
  | .hbm, ⟨6, _⟩ => ⟨S_, .i32⟩
  | .hbm, ⟨7, _⟩ => ⟨S6400000, .i32⟩
  | .hbm, ⟨8, _⟩ => ⟨S6400000, .i1⟩
  | .hbm, ⟨9, _⟩ => ⟨S6400000, .f32⟩
  | .hbm, ⟨10, _⟩ => ⟨S_, .f32⟩
  | .hbm, ⟨11, _⟩ => ⟨S1000, .f32⟩
  | .hbm, ⟨12, _⟩ => ⟨S6400000x1, .i32⟩
  | .hbm, ⟨13, _⟩ => ⟨S1000, .f32⟩
  | .hbm, ⟨14, _⟩ => ⟨S6400000x1, .f32⟩
  | .hbm, ⟨15, _⟩ => ⟨S6400000x3, .f32⟩
  | .hbm, ⟨16, _⟩ => ⟨S6400000x3, .f32⟩
  | .hbm, ⟨17, _⟩ => ⟨S_, .f32⟩
  | .hbm, ⟨18, _⟩ => ⟨S1000x3, .f32⟩
  | .hbm, ⟨19, _⟩ => ⟨S6400000x1, .i32⟩
  | .hbm, ⟨20, _⟩ => ⟨S1000x3, .f32⟩
  | .hbm, ⟨21, _⟩ => ⟨S6400000x1, .f32⟩
  | .hbm, ⟨22, _⟩ => ⟨S6400000x3, .f32⟩
  | .hbm, ⟨23, _⟩ => ⟨S6400000x3, .f32⟩
  | .hbm, ⟨24, _⟩ => ⟨S_, .f32⟩
  | .hbm, ⟨25, _⟩ => ⟨S1000x3, .f32⟩
  | .hbm, ⟨26, _⟩ => ⟨S6400000x1, .i32⟩
  | .hbm, ⟨27, _⟩ => ⟨S1000x3, .f32⟩
  | .hbm, ⟨28, _⟩ => ⟨S1000, .i32⟩
  | .hbm, ⟨29, _⟩ => ⟨S_, .f32⟩
  | .hbm, ⟨30, _⟩ => ⟨S1000, .f32⟩
  | .hbm, ⟨31, _⟩ => ⟨S1000, .i1⟩
  | .hbm, ⟨32, _⟩ => ⟨S_, .i32⟩
  | .hbm, ⟨33, _⟩ => ⟨S1000, .i32⟩
  | .hbm, ⟨34, _⟩ => ⟨S1000, .i1⟩
  | .hbm, ⟨35, _⟩ => ⟨S1000, .i1⟩
  | .hbm, ⟨36, _⟩ => ⟨S_, .f32⟩
  | .hbm, ⟨37, _⟩ => ⟨S1000, .f32⟩
  | .hbm, ⟨38, _⟩ => ⟨S1000, .i1⟩
  | .hbm, ⟨39, _⟩ => ⟨S_, .i32⟩
  | .hbm, ⟨40, _⟩ => ⟨S1000, .i32⟩
  | .hbm, ⟨41, _⟩ => ⟨S1000, .i1⟩
  | .hbm, ⟨42, _⟩ => ⟨S1000, .i1⟩
  | .hbm, ⟨43, _⟩ => ⟨S_, .f32⟩
  | .hbm, ⟨44, _⟩ => ⟨S1000, .f32⟩
  | .hbm, ⟨45, _⟩ => ⟨S1000, .i1⟩
  | .hbm, ⟨46, _⟩ => ⟨S_, .f32⟩
  | .hbm, ⟨47, _⟩ => ⟨S_, .f32⟩
  | .hbm, ⟨48, _⟩ => ⟨S1000, .f32⟩
  | .hbm, ⟨49, _⟩ => ⟨S1000, .f32⟩
  | .hbm, ⟨50, _⟩ => ⟨S1000x3, .f32⟩
  | .hbm, ⟨51, _⟩ => ⟨S1000x1, .f32⟩
  | .hbm, ⟨52, _⟩ => ⟨S1000x3, .f32⟩
  | .hbm, ⟨53, _⟩ => ⟨S1000x3, .f32⟩
  | .hbm, ⟨54, _⟩ => ⟨S1000x3, .f32⟩
  | .hbm, ⟨55, _⟩ => ⟨S_, .f32⟩
  | .hbm, ⟨56, _⟩ => ⟨S1000, .f32⟩
  | .hbm, ⟨57, _⟩ => ⟨S_, .f32⟩
  | .hbm, ⟨58, _⟩ => ⟨S_, .f32⟩
  | .hbm, ⟨59, _⟩ => ⟨S1000, .f32⟩
  | .hbm, ⟨60, _⟩ => ⟨S1000, .f32⟩
  | .hbm, ⟨61, _⟩ => ⟨S_, .f32⟩
  | .hbm, ⟨62, _⟩ => ⟨S_, .f32⟩
  | .hbm, ⟨63, _⟩ => ⟨S1000, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S6400000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_call0_v0 : Ref sig .tc := ⟨.hbm, 47, rfl⟩
abbrev main_call0_v1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_cst_9 : Ref sig .tc := ⟨.hbm, 57, rfl⟩
abbrev main_call1_v0 : Ref sig .tc := ⟨.hbm, 58, rfl⟩
abbrev main_call1_v1 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_cst_14 : Ref sig .tc := ⟨.hbm, 71, rfl⟩
abbrev main_call2_v0 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.TileProg.lean ====
/-
  The kernel's tile task, written as one program of named pieces. The printed task unrolls its inner loop into twenty-five
  copies of one step and cuts the text into windows; here the step is written once (`stepP`), a trip of the inner loop is
  that step twenty-five times (`tripP`), and `trip3_eq`, `trip4_eq` say the printed trips are those programs.
-/
module

public import proofs.«01_k».proof.KernelIdeal

@[expose] public section

noncomputable section

namespace Cert.Proof

open Cert.KernelIdeal Cert.KernelIdeal.Facts₀ Cert.KernelIdeal.Facts
open Idealize.ShloMosaic Idealize.SL.Sem

variable {F : FTy → Type} [FloatOps F] [Cert.KernelIdeal.Facts]

/-- What the task carries from point to point: each lane's current label, and its sums of `dx`, `dy`, `dz` and of ones. -/
abbrev Acc (F : FTy → Type) : Type := IVec S16 32 × FVec F S16 .f32 × FVec F S16 .f32 × FVec F S16 .f32 × FVec F S16 .f32

section
variable (i : grid0.Coords)

/-- The programs of the tile at `i`. -/
abbrev TP (F : FTy → Type) [FloatOps F] (i : grid0.Coords) (α : Type) : Type 1 :=
  Prog (TpuEff nD τ sig (Elt F) Λ₀ (.scVector ((i 0).castLE hcore0) ((i 1).castLE hsub0))) α

variable (tab : Memref sig .scVector .vmem S65536 .f32)
variable (bl : Memref sig .scVector .vmem S4000 .i32) (bx by' bz : Memref sig .scVector .vmem S4000 .f32)
variable (v4 v6 : IVec S16 32)

/-- The four scatters of one step: the carried sums added into the lanes' table rows at the carried labels, under `mask`. -/
def scat4 (c : Acc F) (mask : IVec S16 1) : TP F i PUnit := do
  have ix : IVec S16 32 := addi v6 c.1
  have h1 : k0_chk2 ix := (← Prog.lift (TpuEff.assume (k0_chk2 ix) (k0_chk2.dec ix))).down
  SparseCore.vectorStoreIdx tab ![ix] c.2.1 mask true (k0_idx5_inb ix h1) (View.stores_vmem_bits_univ h_S65536 rfl)
  have iy : IVec S16 32 := addi ix (broadcast S16 1024#32)
  have h2 : k0_chk2 iy := (← Prog.lift (TpuEff.assume (k0_chk2 iy) (k0_chk2.dec iy))).down
  SparseCore.vectorStoreIdx tab ![iy] c.2.2.1 mask true (k0_idx5_inb iy h2) (View.stores_vmem_bits_univ h_S65536 rfl)
  have iz : IVec S16 32 := addi ix (broadcast S16 2048#32)
  have h3 : k0_chk2 iz := (← Prog.lift (TpuEff.assume (k0_chk2 iz) (k0_chk2.dec iz))).down
  SparseCore.vectorStoreIdx tab ![iz] c.2.2.2.1 mask true (k0_idx5_inb iz h3) (View.stores_vmem_bits_univ h_S65536 rfl)
  have ic : IVec S16 32 := addi ix (broadcast S16 3072#32)
  have h4 : k0_chk2 ic := (← Prog.lift (TpuEff.assume (k0_chk2 ic) (k0_chk2.dec ic))).down
  SparseCore.vectorStoreIdx tab ![ic] c.2.2.2.2 mask true (k0_idx5_inb ic h4) (View.stores_vmem_bits_univ h_S65536 rfl)

/-- A vector of ones. -/
abbrev ones : FVec F S16 .f32 := broadcast S16 (Scalar.ofBits .f32 0x3F800000#32)

/-- What one step carries on: lanes whose label changed (`f`) start again at the point just read, the others add it. -/
abbrev nextAcc (c : Acc F) (l : IVec S16 32) (x y z : FVec F S16 .f32) (f : IVec S16 1) : Acc F :=
  (l, select f x (addf c.2.1 x), select f y (addf c.2.2.1 y), select f z (addf c.2.2.2.1 z), select f ones (addf c.2.2.2.2 ones))

/-- One step: gather each lane's point `b + s`, scatter the carried sums of the lanes whose label changed, carry on. -/
def stepP (b s : BitVec 32) (c : Acc F) : TP F i (Acc F) := do
  have ix : IVec S16 32 := addi v4 (broadcast S16 (Scalar.addi b s))
  have hw : k0_chk1 ix := (← Prog.lift (TpuEff.assume (k0_chk1 ix) (k0_chk1.dec ix))).down
  let l : Vec F S16 .i32 ← SparseCore.vectorLoadIdx bl ![ix] (k0_idx1_inb ix hw) (View.loads_vmem h_S4000)
  let x : Vec F S16 .f32 ← SparseCore.vectorLoadIdx bx ![ix] (k0_idx1_inb ix hw) (View.loads_vmem h_S4000)
  let y : Vec F S16 .f32 ← SparseCore.vectorLoadIdx by' ![ix] (k0_idx1_inb ix hw) (View.loads_vmem h_S4000)
  let z : Vec F S16 .f32 ← SparseCore.vectorLoadIdx bz ![ix] (k0_idx1_inb ix hw) (View.loads_vmem h_S4000)
  scat4 i tab v6 c (cmpi .ne l c.1)
  pure (nextAcc c l x y z (cmpi .ne l c.1))

/-- `n` steps from step `s`. -/
def stepsP (b : BitVec 32) : Nat → Nat → Acc F → TP F i (Acc F)
  | 0, _, c => pure c
  | n + 1, s, c => stepP i tab bl bx by' bz v4 v6 b (BitVec.ofNat 32 s) c >>= stepsP b n (s + 1)

/-- One trip of the inner loop: twenty-five steps. -/
def tripP (k : BitVec 32) (c : Acc F) : TP F i (Acc F) := stepsP i tab bl bx by' bz v4 v6 (Scalar.muli k 25#32) 25 0 c

/-- The four copies of one chunk into one set of buffers, all on one semaphore. -/
def start4 (sx sy sz : Memref sig .scVector .hbm S6400000 .f32) (sl : Memref sig .scVector .hbm S6400000 .i32)
    (hbl : bl.IsWhole) (hbx : bx.IsWhole) (hby : by'.IsWhole) (hbz : bz.IsWhole) (sem : DmaSems sig S_)
    (ol ov : Fin 1 → Nat) (hl : ∀ a, ol a + S4000.size a ≤ S6400000.size a) (hv : ∀ a, ov a + S4000.size a ≤ S6400000.size a) :
    TP F i PUnit := do
  Prog.lift (.enqueueDma (sl.slice (Rect.unit (s := S6400000) ol S4000.size hl) (fun _ => rfl)) (.here bl) (.dma sem.sem) (View.wordExact_bits rfl) hbl.wordExact ⟨Or.inl rfl, trivial⟩)
  Prog.lift (.enqueueDma (sx.slice (Rect.unit (s := S6400000) ov S4000.size hv) (fun _ => rfl)) (.here bx) (.dma sem.sem) (View.wordExact_bits rfl) hbx.wordExact ⟨Or.inl rfl, trivial⟩)
  Prog.lift (.enqueueDma (sy.slice (Rect.unit (s := S6400000) ov S4000.size hv) (fun _ => rfl)) (.here by') (.dma sem.sem) (View.wordExact_bits rfl) hby.wordExact ⟨Or.inl rfl, trivial⟩)
  Prog.lift (.enqueueDma (sz.slice (Rect.unit (s := S6400000) ov S4000.size hv) (fun _ => rfl)) (.here bz) (.dma sem.sem) (View.wordExact_bits rfl) hbz.wordExact ⟨Or.inl rfl, trivial⟩)

/-- The four waits for one chunk. -/
def wait4 (sx sy sz : Memref sig .scVector .hbm S6400000 .f32) (sl : Memref sig .scVector .hbm S6400000 .i32)
    (hbl : bl.IsWhole) (hbx : bx.IsWhole) (hby : by'.IsWhole) (hbz : bz.IsWhole) (sem : DmaSems sig S_) : TP F i PUnit := do
  Prog.lift (.waitDma2 sem.sem (sl.slice (Rect.unit (s := S6400000) ![0] S4000.size inb_S6400000_S4000_0) (fun _ => rfl)) bl (View.wordExact_bits rfl) hbl.wordExact)
  Prog.lift (.waitDma2 sem.sem (sx.slice (Rect.unit (s := S6400000) ![0] S4000.size inb_S6400000_S4000_0) (fun _ => rfl)) bx (View.wordExact_bits rfl) hbx.wordExact)
  Prog.lift (.waitDma2 sem.sem (sy.slice (Rect.unit (s := S6400000) ![0] S4000.size inb_S6400000_S4000_0) (fun _ => rfl)) by' (View.wordExact_bits rfl) hby.wordExact)
  Prog.lift (.waitDma2 sem.sem (sz.slice (Rect.unit (s := S6400000) ![0] S4000.size inb_S6400000_S4000_0) (fun _ => rfl)) bz (View.wordExact_bits rfl) hbz.wordExact)

/-- A vector of zeros. -/
abbrev zeros : FVec F S16 .f32 := broadcast S16 (Scalar.ofBits .f32 0x00000000#32)

/-- One trip of the zeroing loop: `n` stores of zeros from the `s`-th sixteen of the trip. -/
def zeroP (k : Fin k0_t1_loop.trips) : Nat → Nat → TP F i PUnit
  | 0, _ => pure ⟨⟩
  | n + 1, s => do
    let _ : Vec F S16 .f32 ← Prog.lift (.load tab (Rect.unit (s := S65536) (k0_off3 k (BitVec.ofNat 32 (Fin.ofNat 8 s).val)) S16.size (k0_off3_inb k (Fin.ofNat 8 s))).toLoadRect (View.loadsAt_vmem h_S16))
    Prog.lift (.store tab (Rect.unit (s := S65536) (k0_off3 k (BitVec.ofNat 32 (Fin.ofNat 8 s).val)) S16.size (k0_off3_inb k (Fin.ofNat 8 s))) zeros Finset.univ (View.stores_vmem_bits_univ h_S16 rfl) (.inl rfl))
    zeroP k n (s + 1)

/-- Sixteen of one component's columns, summed over the lanes' rows: `n` loads from lane `s`. -/
def sumP (off : Fin 16 → Fin 1 → Nat) (hoff : ∀ l, ∀ a, off l a + S16.size a ≤ S65536.size a) :
    Nat → Nat → FVec F S16 .f32 → TP F i (FVec F S16 .f32)
  | 0, _, v => pure v
  | n + 1, s, v => do
    let w : Vec F S16 .f32 ← Prog.lift (.load tab (Rect.unit (s := S65536) (off (Fin.ofNat 16 s)) S16.size (hoff (Fin.ofNat 16 s))).toLoadRect (View.loadsAt_vmem h_S16))
    sumP off hoff n (s + 1) (addf v w)

/-- One trip of a summing loop: the sixteen columns' sums, stored into the result's row. -/
def drainP (res : Memref sig .scVector .vmem S4x1024 .f32) (off : Fin 16 → Fin 1 → Nat)
    (hoff : ∀ l, ∀ a, off l a + S16.size a ≤ S65536.size a) (o : Fin 2 → Nat)
    (ho : ∀ a, o a + S1x16.size a ≤ S4x1024.size a) : TP F i (BitVec 32) := do
  let v ← sumP i tab off hoff 16 0 zeros
  let _ : Vec F S1x16 .f32 ← Prog.lift (.load res (Rect.unit (s := S4x1024) o S1x16.size ho).toLoadRect (View.loadsAt_vmem h_S1x16))
  Prog.lift (.store res (Rect.unit (s := S4x1024) o S1x16.size ho) (shapeCast S1x16 v shapeCasts_S16_S1x16) Finset.univ (View.stores_vmem_bits_univ h_S1x16 rfl) (.inl rfl))
  pure 0#32

end

/-- Lane `l`'s first place in a chunk, and its table row's first word. -/
abbrev v4c : IVec S16 32 := muli (iota .scVector S16 32 [0] iota_S16_d0_w32_scVector) (broadcast S16 250#32)
abbrev v6c : IVec S16 32 := muli (iota .scVector S16 32 [0] iota_S16_d0_w32_scVector) (broadcast S16 4096#32)

/-- The first window of the printed task, by the pieces above. -/
def head45 (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_) : TP F i (Σ' (_ : BitVec 32) (_ : IVec S16 32) (_ : IVec S16 32) (_ : FVec F S16 .f32) (_ : IVec S16 32), BitVec 32) := do
  start4 i arg9 arg10 arg11 arg12 arg2 arg3 arg4 arg5 harg9 harg10 harg11 harg12 arg17 (k0_off1 i 0#32) (k0_off2 i 0#32) (k0_off1_inb i 0) (k0_off2_inb i 0)
  let _ ← Scf.Loop.for k0_t1_loop k0_t1_ok 0#32 fun k _ => do
    zeroP i arg7 k 8 0
    pure 0#32
  Prog.lift (.enqueueDma (arg5.slice (Rect.unit (s := S6400000) (k0_off1 i 4000#32) S4000.size (k0_off1_inb i 1)) (fun _ => rfl)) (.here arg13) (.dma arg18.sem) (View.wordExact_bits rfl) harg13.wordExact ⟨Or.inl rfl, trivial⟩)
  Prog.lift (.enqueueDma (arg2.slice (Rect.unit (s := S6400000) (k0_off2 i 4000#32) S4000.size (k0_off2_inb i 1)) (fun _ => rfl)) (.here arg14) (.dma arg18.sem) (View.wordExact_bits rfl) harg14.wordExact ⟨Or.inl rfl, trivial⟩)
  Prog.lift (.enqueueDma (arg3.slice (Rect.unit (s := S6400000) (k0_off2 i 4000#32) S4000.size (k0_off2_inb i 1)) (fun _ => rfl)) (.here arg15) (.dma arg18.sem) (View.wordExact_bits rfl) harg15.wordExact ⟨Or.inl rfl, trivial⟩)
  pure ⟨Scalar.addi (Scalar.muli (BitVec.ofNat 32 (i 1).val) 2#32) (BitVec.ofNat 32 (i 0).val), v4c, v6c, zeros, broadcast S16 0#32,
    Scalar.muli (Scalar.addi (Scalar.muli (BitVec.ofNat 32 (i 1).val) 2#32) (BitVec.ofNat 32 (i 0).val)) 200000#32⟩

set_option maxHeartbeats 4000000 in
set_option maxRecDepth 100000 in
theorem part45_eq (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_) : k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 = head45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 := by
  rfl

theorem bind_congr.{u} {E : Type → Type u} {α β : Type} {p q : Prog E α} {k l : α → Prog E β} (h : p = q) (h' : ∀ x, k x = l x) :
    Prog.bind p k = Prog.bind q l := by
  rw [h, funext h']

section
variable (i : grid0.Coords)
variable (tab : Memref sig .scVector .vmem S65536 .f32)
variable (bl : Memref sig .scVector .vmem S4000 .i32) (bx by' bz : Memref sig .scVector .vmem S4000 .f32)
variable (v4 v6 : IVec S16 32)

/-- One scatter, then `k`. -/
def scatK (ix : IVec S16 32) (v : FVec F S16 .f32) (mask : IVec S16 1) {α : Type} (k : TP F i α) : TP F i α :=
  Prog.op (TpuEff.assume (k0_chk2 ix) (k0_chk2.dec ix)) fun h =>
  Prog.op (.load tab (.whole S65536) (View.loadsAt_rect (View.stores_vmem_bits_univ h_S65536 rfl).loads)) fun f =>
  Prog.op (.store tab (.whole S65536) (storeIdx (s := S65536) f ![ix] v mask true (k0_idx5_inb ix h.down)) Finset.univ (View.stores_vmem_bits_univ h_S65536 rfl) (.inl rfl)) fun _ => k

/-- One gather, then `k`. -/
def gathK {e : EltTy} (m : Memref sig .scVector .vmem S4000 e) (ix : IVec S16 32) (h : k0_chk1 ix) {α : Type} (k : Vec F S16 e → TP F i α) : TP F i α :=
  Prog.op (.load m (.whole S4000) (View.loadsAt_whole (View.loads_vmem h_S4000))) fun f => k (loadIdx f ![ix] (k0_idx1_inb ix h))

/-- One step, then `k`. -/
def stepK (b s : BitVec 32) (l0 : IVec S16 32) (ax ay az an : FVec F S16 .f32) {α : Type}
    (k : IVec S16 32 → FVec F S16 .f32 → FVec F S16 .f32 → FVec F S16 .f32 → FVec F S16 .f32 → TP F i α) : TP F i α :=
  Prog.op (TpuEff.assume (k0_chk1 (addi v4 (broadcast S16 (Scalar.addi b s)))) (k0_chk1.dec _)) fun h =>
  gathK i bl _ h.down fun l =>
  gathK i bx _ h.down fun x =>
  gathK i by' _ h.down fun y =>
  gathK i bz _ h.down fun z =>
  scatK i tab (addi v6 l0) ax (cmpi .ne l l0) <|
  scatK i tab (addi (addi v6 l0) (broadcast S16 1024#32)) ay (cmpi .ne l l0) <|
  scatK i tab (addi (addi v6 l0) (broadcast S16 2048#32)) az (cmpi .ne l l0) <|
  scatK i tab (addi (addi v6 l0) (broadcast S16 3072#32)) an (cmpi .ne l l0) <|
  k l (select (cmpi .ne l l0) x (addf ax x)) (select (cmpi .ne l l0) y (addf ay y)) (select (cmpi .ne l l0) z (addf az z))
    (select (cmpi .ne l l0) ones (addf an ones))

/-- `n` steps from step `s`. -/
def stepsK (b : BitVec 32) : Nat → Nat → IVec S16 32 → FVec F S16 .f32 → FVec F S16 .f32 → FVec F S16 .f32 → FVec F S16 .f32 → TP F i (Acc F)
  | 0, _, l0, ax, ay, az, an => Prog.ret (l0, ax, ay, az, an)
  | n + 1, s, l0, ax, ay, az, an => stepK i tab bl bx by' bz v4 v6 b (BitVec.ofNat 32 s) l0 ax ay az an (stepsK b n (s + 1))

theorem stepsP_eq (b : BitVec 32) (n s : Nat) (c : Acc F) :
    stepsP i tab bl bx by' bz v4 v6 b n s c = stepsK i tab bl bx by' bz v4 v6 b n s c.1 c.2.1 c.2.2.1 c.2.2.2.1 c.2.2.2.2 := by
  induction n generalizing s c with
  | zero => rfl
  | succ n ih =>
    have : stepsP i tab bl bx by' bz v4 v6 b n (s + 1)
        = fun c => stepsK i tab bl bx by' bz v4 v6 b n (s + 1) c.1 c.2.1 c.2.2.1 c.2.2.2.1 c.2.2.2.2 := funext fun c => ih (s + 1) c
    simp only [stepsP, this]
    rfl

end

/-- The window of one pair of chunks: the first chunk whole, and three of the second one's waits. -/
def pair36 (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_) (v4 v6 : IVec S16 32) (k : Fin k0_t2_loop.trips) (c : Acc F) :
    TP F i (Σ' (_ : IVec S16 32) (_ : FVec F S16 .f32) (_ : FVec F S16 .f32) (_ : FVec F S16 .f32) (_ : FVec F S16 .f32), BitVec 32) := do
  wait4 i arg9 arg10 arg11 arg12 arg2 arg3 arg4 arg5 harg9 harg10 harg11 harg12 arg17
  let c ← Scf.Loop.for k0_t3_loop k0_t3_ok c fun j c => stepsK i arg7 arg9 arg10 arg11 arg12 v4 v6 (Scalar.muli (Scf.iv 0#32 1#32 j) 25#32) 25 0 c.1 c.2.1 c.2.2.1 c.2.2.2.1 c.2.2.2.2
  if h : k0_cond1 k = 1#1 then
    start4 i arg9 arg10 arg11 arg12 arg2 arg3 arg4 arg5 harg9 harg10 harg11 harg12 arg17 (k0_off4 i k) (k0_off5 i k) (k0_off4_inb i k h) (k0_off5_inb i k h)
  else pure ⟨⟩
  Prog.lift (.waitDma2 arg18.sem (arg5.slice (Rect.unit (s := S6400000) ![0] S4000.size inb_S6400000_S4000_0) (fun _ => rfl)) arg13 (View.wordExact_bits rfl) harg13.wordExact)
  Prog.lift (.waitDma2 arg18.sem (arg2.slice (Rect.unit (s := S6400000) ![0] S4000.size inb_S6400000_S4000_0) (fun _ => rfl)) arg14 (View.wordExact_bits rfl) harg14.wordExact)
  Prog.lift (.waitDma2 arg18.sem (arg3.slice (Rect.unit (s := S6400000) ![0] S4000.size inb_S6400000_S4000_0) (fun _ => rfl)) arg15 (View.wordExact_bits rfl) harg15.wordExact)
  pure ⟨c.1, c.2.1, c.2.2.1, c.2.2.2.1, c.2.2.2.2, Scalar.addi (Scalar.muli 2#32 (Scf.iv 0#32 1#32 k)) 1#32⟩

set_option maxHeartbeats 4000000 in
set_option maxRecDepth 100000 in
theorem part36_eq (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_) (v4 v6 : IVec S16 32) (v10 : BitVec 32) (k : Fin k0_t2_loop.trips) (c : Acc F) :
    k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 v4 v6 v10 0#32 1#32 k c.1 c.2.1 c.2.2.1 c.2.2.2.1 c.2.2.2.2 = pair36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 v4 v6 k c := by
  unfold k0_part36 pair36 wait4
  refine congrArg (Prog.op _) (funext fun _ => congrArg (Prog.op _) (funext fun _ => congrArg (Prog.op _) (funext fun _ => congrArg (Prog.op _) (funext fun _ => ?_))))
  refine bind_congr rfl fun _ => ?_
  refine bind_congr (congrArg (Scf.Loop.for _ _ _) (funext fun j => funext fun c => ?_)) (fun c => ?_)
  · rfl
  · rfl

/-- One pair of chunks: for each set of buffers, the waits, the chunk's ten trips and the copies of the chunk two further on. -/
def pairP (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_) (v4 v6 : IVec S16 32) (k : Fin k0_t2_loop.trips) (c : Acc F) : TP F i (Acc F) := do
  wait4 i arg9 arg10 arg11 arg12 arg2 arg3 arg4 arg5 harg9 harg10 harg11 harg12 arg17
  let c ← Scf.Loop.for k0_t3_loop k0_t3_ok c fun j c => tripP i arg7 arg9 arg10 arg11 arg12 v4 v6 (Scf.iv 0#32 1#32 j) c
  (if h : k0_cond1 k = 1#1 then
    start4 i arg9 arg10 arg11 arg12 arg2 arg3 arg4 arg5 harg9 harg10 harg11 harg12 arg17 (k0_off4 i k) (k0_off5 i k) (k0_off4_inb i k h) (k0_off5_inb i k h)
  else pure ⟨⟩ : TP F i PUnit)
  wait4 i arg13 arg14 arg15 arg16 arg2 arg3 arg4 arg5 harg13 harg14 harg15 harg16 arg18
  let c ← Scf.Loop.for k0_t4_loop k0_t4_ok c fun j c => tripP i arg7 arg13 arg14 arg15 arg16 v4 v6 (Scf.iv 0#32 1#32 j) c
  (if h : k0_cond2 k = 1#1 then
    start4 i arg13 arg14 arg15 arg16 arg2 arg3 arg4 arg5 harg13 harg14 harg15 harg16 arg18 (k0_off6 i k) (k0_off7 i k) (k0_off6_inb i k h) (k0_off7_inb i k h)
  else pure ⟨⟩ : TP F i PUnit)
  pure c

/-- The second window's part of a pair. -/
def pair46 (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_) (v4 v6 : IVec S16 32) (k : Fin k0_t2_loop.trips) (c : Acc F) : TP F i (Acc F) := do
  let r ← pair36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 v4 v6 k c
  Prog.lift (.waitDma2 arg18.sem (arg4.slice (Rect.unit (s := S6400000) ![0] S4000.size inb_S6400000_S4000_0) (fun _ => rfl)) arg16 (View.wordExact_bits rfl) harg16.wordExact)
  let c ← Scf.Loop.for k0_t4_loop k0_t4_ok (r.1, r.2.1, r.2.2.1, r.2.2.2.1, r.2.2.2.2.1) fun j c => stepsK i arg7 arg13 arg14 arg15 arg16 v4 v6 (Scalar.muli (Scf.iv 0#32 1#32 j) 25#32) 25 0 c.1 c.2.1 c.2.2.1 c.2.2.2.1 c.2.2.2.2
  if h : k0_cond2 k = 1#1 then
    start4 i arg13 arg14 arg15 arg16 arg2 arg3 arg4 arg5 harg13 harg14 harg15 harg16 arg18 (k0_off6 i k) (k0_off7 i k) (k0_off6_inb i k h) (k0_off7_inb i k h)
  else pure ⟨⟩
  pure c

theorem pair46_eq (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_) (v4 v6 : IVec S16 32) (k : Fin k0_t2_loop.trips) (c : Acc F) :
    pair46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 v4 v6 k c = pairP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 v4 v6 k c := by
  have ht : ∀ bl bx by' bz (j : BitVec 32) (c : Acc F), tripP i arg7 bl bx by' bz v4 v6 j c
      = stepsK i arg7 bl bx by' bz v4 v6 (Scalar.muli j 25#32) 25 0 c.1 c.2.1 c.2.2.1 c.2.2.2.1 c.2.2.2.2 :=
    fun bl bx by' bz j c => stepsP_eq i arg7 bl bx by' bz v4 v6 _ 25 0 c
  simp only [pair46, pairP, pair36, wait4, ht]
  by_cases h1 : k0_cond1 k = 1#1 <;> by_cases h2 : k0_cond2 k = 1#1 <;>
    simp only [h1, h2, dite_true, dite_false, reduceDIte, bind_assoc, pure_bind]

/-- The end of the task: the carried sums scattered in every lane, the lanes' rows summed into the result. -/
def tailP (i : grid0.Coords) (arg7 : Memref sig .scVector .vmem S65536 .f32) (arg8 : Memref sig .scVector .vmem S4x1024 .f32) (v6 : IVec S16 32) (c : Acc F) : TP F i PUnit := do
  scat4 i arg7 v6 c (fun _ => 1#1)
  let _ ← Scf.Loop.for k0_t5_loop k0_t5_ok 0#32 fun k _ => drainP i arg7 arg8 (fun l => k0_off8 k (BitVec.ofNat 32 (4096 * l.val))) (k0_off8_inb k) (k0_off9 k) (k0_off9_inb k)
  let _ ← Scf.Loop.for k0_t6_loop k0_t6_ok 0#32 fun k _ => drainP i arg7 arg8 (fun l => k0_off10 k (BitVec.ofNat 32 (1024 + 4096 * l.val))) (k0_off10_inb k) (k0_off11 k) (k0_off11_inb k)
  let _ ← Scf.Loop.for k0_t7_loop k0_t7_ok 0#32 fun k _ => drainP i arg7 arg8 (fun l => k0_off12 k (BitVec.ofNat 32 (2048 + 4096 * l.val))) (k0_off12_inb k) (k0_off13 k) (k0_off13_inb k)
  let _ ← Scf.Loop.for k0_t8_loop k0_t8_ok 0#32 fun k _ => drainP i arg7 arg8 (fun l => k0_off14 k (BitVec.ofNat 32 (3072 + 4096 * l.val))) (k0_off14_inb k) (k0_off15 k) (k0_off15_inb k)
  pure ⟨⟩

/-- The second window of the printed task. -/
def head46 (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_) (v4 v6 : IVec S16 32) (v7 : FVec F S16 .f32) (v9 : IVec S16 32) : TP F i PUnit := do
  Prog.lift (.enqueueDma (arg4.slice (Rect.unit (s := S6400000) (k0_off2 i 4000#32) S4000.size (k0_off2_inb i 1)) (fun _ => rfl)) (.here arg16) (.dma arg18.sem) (View.wordExact_bits rfl) harg16.wordExact ⟨Or.inl rfl, trivial⟩)
  let c ← Scf.Loop.for k0_t2_loop k0_t2_ok ((v9, v7, v7, v7, v7) : Acc F) fun k c => pair46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 v4 v6 k c
  tailP i arg7 arg8 v6 c

set_option maxHeartbeats 4000000 in
set_option maxRecDepth 100000 in
theorem part46_eq (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_) (v1 v10 : BitVec 32) (v4 v6 : IVec S16 32) (v9 : IVec S16 32) :
    k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 v1 v4 v6 zeros v9 v10 = head46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 v4 v6 zeros v9 := by
  unfold k0_part46 head46
  refine congrArg (Prog.op _) (funext fun _ => ?_)
  refine bind_congr rfl fun _ => ?_
  refine bind_congr (congrArg (Scf.Loop.for _ _ _) (funext fun k => funext fun c => ?_)) (fun c => ?_)
  · unfold pair46
    refine bind_congr (part36_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 v4 v6 v10 k c) fun r => ?_
    refine congrArg (Prog.op _) (funext fun _ => ?_)
    refine bind_congr rfl fun _ => ?_
    refine bind_congr (congrArg (Scf.Loop.for _ _ _) (funext fun j => funext fun c => ?_)) (fun c => ?_)
    · rfl
    · rfl
  · rfl

/-- The task of the tile at `i`. -/
def kerP (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_) : TP F i PUnit := do
  start4 i arg9 arg10 arg11 arg12 arg2 arg3 arg4 arg5 harg9 harg10 harg11 harg12 arg17 (k0_off1 i 0#32) (k0_off2 i 0#32) (k0_off1_inb i 0) (k0_off2_inb i 0)
  let _ ← Scf.Loop.for k0_t1_loop k0_t1_ok 0#32 fun k _ => do
    zeroP i arg7 k 8 0
    pure 0#32
  start4 i arg13 arg14 arg15 arg16 arg2 arg3 arg4 arg5 harg13 harg14 harg15 harg16 arg18 (k0_off1 i 4000#32) (k0_off2 i 4000#32) (k0_off1_inb i 1) (k0_off2_inb i 1)
  let c ← Scf.Loop.for k0_t2_loop k0_t2_ok ((broadcast S16 0#32, zeros, zeros, zeros, zeros) : Acc F) fun k c => pairP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 v4c v6c k c
  tailP i arg7 arg8 v6c c
  Prog.lift (.enqueueDma arg8 (.here (arg6.slice (Rect.unit (s := S128x1024) (k0_off16 i) S4x1024.size (k0_off16_inb i)) (fun _ => rfl))) (.dma v53_r0.sem) harg8.wordExact (View.wordExact_bits rfl) ⟨Or.inl rfl, trivial⟩)
  Prog.lift (.waitDma2 v53_r0.sem arg8 (arg6.slice (Rect.unit (s := S128x1024) (k0_off16 i) S4x1024.size (k0_off16_inb i)) (fun _ => rfl)) harg8.wordExact (View.wordExact_bits rfl))
  pure ⟨⟩

/-- The printed task is that program. -/
theorem cc0_k_eq (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_) : cc0_k (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 = kerP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 := by
  unfold cc0_k kerP
  rw [part45_eq]
  simp only [head45, bind_assoc, pure_bind, part46_eq, head46, start4, pair46_eq]
  rfl

end Cert.Proof
-- ==== Proof.Setup.lean ====
/-
  The program as the launch theorem sees it: its configuration, the resource algebra of the proof (the handshakes' rounds,
  the pipeline's rounds for the TensorCore's region, the transfers' counters) and the names the other modules share.
-/
module

public import proofs.«01_k».proof.Proof.TileProg
public import proofs.«01_k».proof.Proof.Gen.KernelIdeal
public import proofs.«01_k».proof.Proof.Gen.KernelIdeal.Launch
public import Idealize.ShloMosaic.Lib.SparseCore.Quiescent
public import Idealize.ShloMosaic.Lib.SparseCore.Ops
public import Idealize.ShloMosaic.Lib.Batch
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

abbrev ΛP := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's, and the transfers' counters. -/
abbrev UH : Type := URounds (GSem nD τ sig) ℕ
abbrev UP : Type := URounds (GSem nD τ sig) Unit
abbrev UU : Type := UH × (UP × Counters)

/-- The proof's resource model. -/
abbrev MM (F : FTy → Type) : Type := MT nD τ sig (HIx 1) (Elt F) ℕ UU ℕ

abbrev EH : Emb UH (MM F) := embL
def EP : Emb UP (MM F) := (Emb.inl : Emb UP (UP × Counters)).trans embR
instance EP_landsIn : (EP : Emb UP (MM F)).LandsIn (upEmb : UEmb _ (MM F)) := by unfold EP; infer_instance

/-- The thread of the tile at `i` on device `d`. -/
abbrev thr (d : Dev nD) (i : grid0.Coords) : Thread nD τ := V d ((i 0).castLE hcore0) ((i 1).castLE hsub0)

end Cert.Proof

end
-- ==== Proof.Step.lean ====
/-
  One step of the task: what it computes, as total functions of the table, the carried labels and sums and the gathered
  lanes; and the rule of the step's program, then of `n` steps in a row.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## Gathers and scatters over an owned buffer -/

section
variable (d : Dev nD) (i : grid0.Coords)

/-- The precondition-to-postcondition form every lemma of a tile's program has. -/
abbrev tileWp {α : Type} (p : TP F i α) (Q : α → sProp 𝕄) : sProp 𝕄 :=
  wp frame (wpE (defs₀ (F := F)) 𝒱₀ (thr d i) none) Set.univ p Q

/-- A buffer of the tile, owned outright. -/
abbrev own1 {sh : Shape} {e : EltTy} (m : Memref sig .scVector .vmem sh e) (X : sh.Idx → Elt F e) : sProp 𝕄 := owns (thr d i) m fullShare X

theorem access_whole_set {sh : Shape} {e : EltTy} (m : Memref sig .scVector .vmem sh e) : (m.access (.whole sh)).set = m.view.set := by
  unfold Memref.access
  rw [View.set_slice, Rect.set_whole]; rfl

theorem access_whole_read {sh : Shape} {e : EltTy} (m : Memref sig .scVector .vmem sh e) (f : m.view.ty.Contents (Elt F)) :
    (m.access (.whole sh)).read (Elt F) f = m.view.read (Elt F) f := by
  funext x
  show m.view.read (Elt F) f ((Rect.whole sh).emb x) = _
  rw [Rect.emb_whole_apply]

theorem wp_gather {e : EltTy} (m : Memref sig .scVector .vmem S4000 e) (X : S4000.Idx → Elt F e) (idxs : Fin S4000.rank → IVec S16 32)
    (h : ∀ a x, (idxs a x).toNat < S4000.size a) (hl : m.view.Loads) {α : Type} (k : Vec F S16 e → TP F i α) (Q : α → sProp 𝕄) :
    own1 d i m X ⊢ iprop((own1 d i m X -∗ tileWp d i (k (loadIdx X idxs h)) Q)
      -∗ tileWp d i (SparseCore.vectorLoadIdx m idxs h hl >>= k) Q) := by
  unfold own1 owns
  iintro ⟨%f, %hf, H⟩ Hk
  iapply (SparseCore.wp_vectorLoadIdx (defs := defs₀ (F := F)) 𝒱₀ (thr d i) none Set.univ (base := m) (S := m.view.set) (f := f)
    (by rw [access_whole_set])) $$ H
  iintro H
  rw [access_whole_read, hf]
  iapply Hk
  iexists f
  isplitr; · ipureintro; exact hf
  iexact H

theorem wp_scatter (m : Memref sig .scVector .vmem S65536 .f32) (X : S65536.Idx → Elt F .f32) (idxs : Fin S65536.rank → IVec S16 32)
    (v : FVec F S16 .f32) (mask : IVec S16 1) (h : ∀ a x, (idxs a x).toNat < S65536.size a) (hs : (m.access (.whole S65536)).Stores Finset.univ)
    {α : Type} (k : PUnit → TP F i α) (Q : α → sProp 𝕄) :
    own1 d i m X ⊢ iprop((own1 d i m (storeIdx (s := S65536) X idxs v mask true h) -∗ tileWp d i (k ⟨⟩) Q)
      -∗ tileWp d i (SparseCore.vectorStoreIdx m idxs v mask true h hs >>= k) Q) := by
  unfold own1 owns
  iintro ⟨%f, %hf, H⟩ Hk
  rw [← access_whole_set]
  iapply (SparseCore.wp_vectorStoreIdx (defs := defs₀ (F := F)) 𝒱₀ (thr d i) none Set.univ (base := m) (f := f)) $$ H
  iintro H
  iapply Hk
  iexists _
  isplitr; swap; · iexact H
  ipureintro
  rw [← access_whole_read, View.read_write_univ, access_whole_read, hf]

theorem wp_check {P : Prop} {dec : Decidable P} (h : P) {α : Type} (k : PLift P → TP F i α) (Q : α → sProp 𝕄) :
    tileWp d i (Prog.lift (TpuEff.assume P dec) >>= k) Q = tileWp d i (k ⟨h⟩) Q :=
  wp_assume_of 𝒱₀ (thr d i) none Set.univ h

end

/-! ## What a step computes -/

theorem bv_mul_small (a b : Nat) (h : a * b < 2 ^ 32) : (BitVec.ofNat 32 a * BitVec.ofNat 32 b).toNat = a * b := by
  rw [BitVec.toNat_mul, BitVec.toNat_ofNat, BitVec.toNat_ofNat, ← Nat.mul_mod, Nat.mod_eq_of_lt h]

theorem lane_lt (x : S16.Idx) : (x 0).val < 16 := (x 0).isLt

theorem iota_toNat (x : S16.Idx) : iota .scVector S16 32 [0] iota_S16_d0_w32_scVector x = BitVec.ofNat 32 (x 0).val := by
  simp [iota]

theorem v4c_toNat (x : S16.Idx) : (v4c x).toNat = (x 0).val * 250 := by
  have hx := lane_lt x
  show (iota .scVector S16 32 [0] iota_S16_d0_w32_scVector x * 250#32).toNat = _
  rw [iota_toNat]; exact bv_mul_small _ 250 (by omega)

theorem v6c_toNat (x : S16.Idx) : (v6c x).toNat = (x 0).val * 4096 := by
  have hx := lane_lt x
  show (iota .scVector S16 32 [0] iota_S16_d0_w32_scVector x * 4096#32).toNat = _
  rw [iota_toNat]; exact bv_mul_small _ 4096 (by omega)

/-- The carried labels are column numbers. -/
def LabOK (l : IVec S16 32) : Prop := ∀ x, (l x).toNat < 1024

/-- The word of a lane's table segment that component `q` of its carried label is kept in. -/
abbrev ixq (l : IVec S16 32) (q : BitVec 32) : IVec S16 32 := addi (addi v6c l) (broadcast S16 q)

theorem ix0_toNat {l : IVec S16 32} (hl : LabOK l) (x : S16.Idx) : (addi v6c l x).toNat = (x 0).val * 4096 + (l x).toNat := by
  have hx := lane_lt x; have := hl x
  show (v6c x + l x).toNat = _
  rw [BitVec.toNat_add, v6c_toNat]; exact Nat.mod_eq_of_lt (by omega)

theorem ixq_toNat {l : IVec S16 32} (hl : LabOK l) (q : BitVec 32) (hq : q.toNat ≤ 3072) (x : S16.Idx) :
    (ixq l q x).toNat = (x 0).val * 4096 + (l x).toNat + q.toNat := by
  have hx := lane_lt x; have := hl x
  show (addi v6c l x + q).toNat = _
  rw [BitVec.toNat_add, ix0_toNat hl]; exact Nat.mod_eq_of_lt (by omega)

theorem chk2_of {v : IVec S16 32} (h : ∀ x, (v x).toNat < 65536) : k0_chk2 v := by
  intro a x; fin_cases a; exact h x
theorem chk2_ix0 {l : IVec S16 32} (hl : LabOK l) : k0_chk2 (addi v6c l) :=
  chk2_of fun x => by have hx := lane_lt x; have := hl x; rw [ix0_toNat hl]; omega
theorem chk2_ixq {l : IVec S16 32} (hl : LabOK l) (q : BitVec 32) (hq : q.toNat ≤ 3072) : k0_chk2 (ixq l q) :=
  chk2_of fun x => by have hx := lane_lt x; have := hl x; rw [ixq_toNat hl q hq]; omega

/-- One masked scatter-add into the table; nothing if an index were out of range (none is). -/
def scat1 (X : S65536.Idx → Elt F .f32) (ix : IVec S16 32) (v : FVec F S16 .f32) (mask : IVec S16 1) : S65536.Idx → Elt F .f32 :=
  if h : k0_chk2 ix then storeIdx (s := S65536) X ![ix] v mask true (k0_idx5_inb ix h) else X

/-- The four scatters of a step. -/
def scatV (c : Acc F) (mask : IVec S16 1) (X : S65536.Idx → Elt F .f32) : S65536.Idx → Elt F .f32 :=
  scat1 (scat1 (scat1 (scat1 X (addi v6c c.1) c.2.1 mask) (ixq c.1 1024#32) c.2.2.1 mask) (ixq c.1 2048#32) c.2.2.2.1 mask)
    (ixq c.1 3072#32) c.2.2.2.2 mask

/-- The table and what is carried. -/
abbrev St (F : FTy → Type) : Type := (S65536.Idx → Elt F .f32) × Acc F

/-- One step at the gathered lanes. -/
def stepV (l : IVec S16 32) (x y z : FVec F S16 .f32) (s : St F) : St F :=
  (scatV s.2 (cmpi .ne l s.2.1) s.1, nextAcc s.2 l x y z (cmpi .ne l s.2.1))

/-- Place `n` of an argument array, as its index. -/
def at6 (n : Nat) : S6400000.Idx := fun a => ⟨n % S6400000.size a, Nat.mod_lt _ (by fin_cases a; decide)⟩

/-- Chunk `t` of tile `w`'s points of an argument array. -/
def chunk {e : EltTy} (A : S6400000.Idx → Elt F e) (w t : Nat) : S4000.Idx → Elt F e := fun p => A (at6 (w * 200000 + t * 4000 + (p 0).val))

/-- The points the sixteen lanes of tile `w` read at its step `n`. -/
def lanes {e : EltTy} (A : S6400000.Idx → Elt F e) (w n : Nat) : S16.Idx → Elt F e :=
  fun x => A (at6 (w * 200000 + n / 250 * 4000 + ((x 0).val * 250 + n % 250)))

/-- The four argument arrays of the task: labels and the three differences. -/
structure Args (F : FTy → Type) where
  l : S6400000.Idx → Elt F .i32
  x : S6400000.Idx → Elt F .f32
  y : S6400000.Idx → Elt F .f32
  z : S6400000.Idx → Elt F .f32

variable (A : Args F) (w : Nat)

/-- The state of tile `w` after `n` steps. -/
def stN : Nat → St F
  | 0 => (fun _ => Scalar.ofBits .f32 0x00000000#32, (broadcast S16 0#32, zeros, zeros, zeros, zeros))
  | n + 1 => stepV (lanes A.l w n) (lanes A.x w n) (lanes A.y w n) (lanes A.z w n) (stN n)

/-- Every label of the array is a column number. -/
def Args.OK (A : Args F) : Prop := ∀ p, (show BitVec 32 from A.l p).toNat < 1024

theorem stN_lab (h : A.OK) : ∀ n, LabOK (stN A w n).2.1
  | 0 => fun _ => by show (0#32).toNat < 1024; decide
  | n + 1 => fun _ => h _

/-! ## The rule of the step -/

theorem idx_sum_toNat {b s : BitVec 32} {j : Nat} (hj : j < 250) (h : (Scalar.addi b s).toNat = j) (x : S16.Idx) :
    (addi v4c (broadcast S16 (Scalar.addi b s)) x).toNat = (x 0).val * 250 + j := by
  have hx := lane_lt x
  show (v4c x + Scalar.addi b s).toNat = _
  rw [BitVec.toNat_add, v4c_toNat, h]; exact Nat.mod_eq_of_lt (by omega)

theorem chk1_of {b s : BitVec 32} {j : Nat} (hj : j < 250) (h : (Scalar.addi b s).toNat = j) :
    k0_chk1 (addi v4c (broadcast S16 (Scalar.addi b s))) := by
  have : ∀ (a : Fin 1) (x : S16.Idx), ((![addi v4c (broadcast S16 (Scalar.addi b s))] : Fin 1 → IVec S16 32) a x).toNat < S4000.size a := by
    intro a x; fin_cases a
    have hx := lane_lt x
    show (addi v4c (broadcast S16 (Scalar.addi b s)) x).toNat < 4000
    rw [idx_sum_toNat hj h]; omega
  exact ⟨this, this, this, this⟩

theorem loadIdx_chunk {e : EltTy} (B : S6400000.Idx → Elt F e) (t : Nat) {b s : BitVec 32} {j : Nat} (hj : j < 250) (h : (Scalar.addi b s).toNat = j)
    (hb : ∀ a x, ((![addi v4c (broadcast S16 (Scalar.addi b s))] : Fin 1 → IVec S16 32) a x).toNat < S4000.size a) :
    loadIdx (s := S4000) (chunk B w t) ![addi v4c (broadcast S16 (Scalar.addi b s))] hb = lanes B w (250 * t + j) := by
  funext x
  show B (at6 _) = B (at6 _)
  have h1 : (250 * t + j) / 250 = t := by omega
  have h2 : (250 * t + j) % 250 = j := by omega
  rw [h1, h2]
  congr 2
  exact congrArg (w * 200000 + t * 4000 + ·) (idx_sum_toNat hj h x)

section
variable (d : Dev nD) (i : grid0.Coords)

theorem wp_scat4 (m : Memref sig .scVector .vmem S65536 .f32) (X : S65536.Idx → Elt F .f32) (c : Acc F) (hc : LabOK c.1) (mask : IVec S16 1)
    {α : Type} (k : PUnit → TP F i α) (Q : α → sProp 𝕄) :
    own1 d i m X ⊢ iprop((own1 d i m (scatV c mask X) -∗ tileWp d i (k ⟨⟩) Q) -∗ tileWp d i (scat4 i m v6c c mask >>= k) Q) := by
  have h1 := chk2_ix0 hc
  have h2 := chk2_ixq hc 1024#32 (by decide)
  have h3 := chk2_ixq hc 2048#32 (by decide)
  have h4 := chk2_ixq hc 3072#32 (by decide)
  unfold scatV scat1
  rw [dif_pos h1, dif_pos h2, dif_pos h3, dif_pos h4]
  simp only [scat4, bind_assoc]
  iintro H Hk
  rw [wp_check d i h1]
  iapply (wp_scatter d i m) $$ H
  iintro H
  rw [wp_check d i h2]
  iapply (wp_scatter d i m) $$ H
  iintro H
  rw [wp_check d i h3]
  iapply (wp_scatter d i m) $$ H
  iintro H
  rw [wp_check d i h4]
  iapply (wp_scatter d i m) $$ H
  iexact Hk

variable (tab : Memref sig .scVector .vmem S65536 .f32)
variable (bl : Memref sig .scVector .vmem S4000 .i32) (bx by' bz : Memref sig .scVector .vmem S4000 .f32)

/-- What a step holds: the table and the four buffers at chunk `t`. -/
abbrev stepRes (t : Nat) (X : S65536.Idx → Elt F .f32) : sProp 𝕄 :=
  iprop(own1 d i tab X ∗ own1 d i bl (chunk A.l w t) ∗ own1 d i bx (chunk A.x w t) ∗ own1 d i by' (chunk A.y w t) ∗ own1 d i bz (chunk A.z w t))

theorem wp_stepP (hA : A.OK) (t : Nat) {b s : BitVec 32} {j : Nat} (hj : j < 250) (h : (Scalar.addi b s).toNat = j)
    {α : Type} (k : Acc F → TP F i α) (Q : α → sProp 𝕄) :
    stepRes A w d i tab bl bx by' bz t (stN A w (250 * t + j)).1
      ⊢ iprop((stepRes A w d i tab bl bx by' bz t (stN A w (250 * t + j + 1)).1 -∗ tileWp d i (k (stN A w (250 * t + j + 1)).2) Q)
        -∗ tileWp d i (stepP i tab bl bx by' bz v4c v6c b s (stN A w (250 * t + j)).2 >>= k) Q) := by
  have hw := chk1_of hj h
  have hc := stN_lab A w hA (250 * t + j)
  simp only [stepP, bind_assoc, pure_bind]
  iintro ⟨Ht, Hl, Hx, Hy, Hz⟩ Hk
  rw [wp_check d i hw]
  iapply (wp_gather d i bl) $$ Hl
  iintro Hl
  iapply (wp_gather d i bx) $$ Hx
  iintro Hx
  iapply (wp_gather d i by') $$ Hy
  iintro Hy
  iapply (wp_gather d i bz) $$ Hz
  iintro Hz
  rw [loadIdx_chunk w A.l t hj h, loadIdx_chunk w A.x t hj h, loadIdx_chunk w A.y t hj h, loadIdx_chunk w A.z t hj h]
  iapply (wp_scat4 d i tab _ _ hc) $$ Ht
  iintro Ht
  iapply Hk
  isplitl [Ht]; · iexact Ht
  isplitl [Hl]; · iexact Hl
  isplitl [Hx]; · iexact Hx
  isplitl [Hy]; · iexact Hy
  iexact Hz

theorem wp_stepsP (hA : A.OK) (t : Nat) {b : BitVec 32} {b0 : Nat} (hb : b.toNat = b0) {α : Type} (k : Acc F → TP F i α) (Q : α → sProp 𝕄) :
    ∀ (n s : Nat), b0 + s + n ≤ 250 →
    stepRes A w d i tab bl bx by' bz t (stN A w (250 * t + (b0 + s))).1
      ⊢ iprop((stepRes A w d i tab bl bx by' bz t (stN A w (250 * t + (b0 + s + n))).1 -∗ tileWp d i (k (stN A w (250 * t + (b0 + s + n))).2) Q)
        -∗ tileWp d i (stepsP i tab bl bx by' bz v4c v6c b n s (stN A w (250 * t + (b0 + s))).2 >>= k) Q)
  | 0, s, _ => by
    simp only [stepsP, pure_bind]
    iintro H Hk
    iapply Hk; iexact H
  | n + 1, s, hn => by
    simp only [stepsP, bind_assoc]
    iintro H Hk
    have h : (Scalar.addi b (BitVec.ofNat 32 s)).toNat = b0 + s := by
      show (b + BitVec.ofNat 32 s).toNat = _
      rw [BitVec.toNat_add, BitVec.toNat_ofNat, hb]; omega
    iapply (wp_stepP A w d i tab bl bx by' bz hA t (by omega) h) $$ H
    iintro H
    have e : b0 + s + (n + 1) = b0 + (s + 1) + n := by omega
    rw [e]
    iapply (wp_stepsP hA t hb k Q n (s + 1) (by omega)) $$ H
    iexact Hk

/-- The inner loop over a chunk: its two hundred and fifty steps. -/
theorem wp_chunk (hA : A.OK) (t : Nat) (l : Scf.Loop 32) (hok : l.OK) (hl : l.trips = 10) {α : Type} (k : Acc F → TP F i α) (Q : α → sProp 𝕄) :
    stepRes A w d i tab bl bx by' bz t (stN A w (250 * t)).1
      ⊢ iprop((stepRes A w d i tab bl bx by' bz t (stN A w (250 * (t + 1))).1 -∗ tileWp d i (k (stN A w (250 * (t + 1))).2) Q)
        -∗ tileWp d i (Scf.Loop.for l hok (stN A w (250 * t)).2 (fun j c => tripP i tab bl bx by' bz v4c v6c (Scf.iv 0#32 1#32 j) c) >>= k) Q) := by
  iintro H Hk
  iapply (Scf.wp_for_bind _ _ _ l.lb l.ub l.st hok (stN A w (250 * t)).2 _
    (fun j c => iprop(⌜c = (stN A w (250 * t + 25 * j)).2⌝ ∗ stepRes A w d i tab bl bx by' bz t (stN A w (250 * t + 25 * j)).1)) ?_) $$ [H]
  · intro j c
    have hj : j.val < 10 := hl ▸ j.isLt
    iintro ⟨%hc, H⟩
    subst hc
    have hb : (Scalar.muli (Scf.iv 0#32 1#32 j) 25#32).toNat = 25 * j.val := by
      show ((0#32 + BitVec.ofNat 32 j.val * 1#32) * 25#32).toNat = _
      rw [BitVec.zero_add, BitVec.mul_one, bv_mul_small _ 25 (by omega)]; omega
    have e := wp_stepsP A w d i tab bl bx by' bz hA t hb (k := Prog.ret)
      (Q := fun c => iprop(⌜c = (stN A w (250 * t + (25 * j.val + 0 + 25))).2⌝ ∗ stepRes A w d i tab bl bx by' bz t (stN A w (250 * t + (25 * j.val + 0 + 25))).1)) 25 0 (by omega)
    rw [show 25 * (j.val + 1) = 25 * j.val + 0 + 25 by omega]
    unfold tripP
    rw [show (stepsP i tab bl bx by' bz v4c v6c (Scalar.muli (Scf.iv 0#32 1#32 j) 25#32) 25 0 (stN A w (250 * t + 25 * j.val)).2)
      = (stepsP i tab bl bx by' bz v4c v6c (Scalar.muli (Scf.iv 0#32 1#32 j) 25#32) 25 0 (stN A w (250 * t + (25 * j.val + 0))).2 >>= Prog.ret) from (bind_pure _).symm]
    iapply e $$ H
    iintro H
    unfold tileWp
    rw [wp_ret]
    imodintro
    isplitr; · ipureintro; rfl
    iexact H
  · isplitr; · ipureintro; rfl
    iexact H
  · iintro %c ⟨%hc, H⟩
    have hl' : Scf.trips l.lb l.ub l.st = 10 := hl
    rw [hl'] at hc
    rw [hl']
    subst hc
    rw [show 250 * t + 25 * 10 = 250 * (t + 1) by omega]
    iapply Hk; iexact H

end

end Cert.Proof

end
-- ==== Proof.Copies.lean ====
/-
  The task's copies. A chunk comes in by four copies on one semaphore, whose waits are counted together: `Flight t` is what
  the tile holds while chunk `t` is under way to a set of four buffers, `Idle` what it holds of them otherwise.
-/
module

public import proofs.«01_k».proof.Proof.Step

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

abbrev EC : UEmb Counters (MM F) := countersEmb (U := UU)

/-- The levels of the handshakes' cells. -/
abbrev Lv : sProp 𝕄 := levAts (K (F := F)).L (K (F := F)).lev

section
variable (d : Dev nD) (i : grid0.Coords)

/-- What the tile owes, its further waits all on its own semaphores. -/
def owesN (O : CellTallies nD τ sig (HIx 1)) (W : Waits sig (HIx 1)) : sProp 𝕄 :=
  iprop(∃ W', ⌜∀ p ∈ W', p ∈ W ∨ p.2 = none⌝ ∗ owes (thr d i) O W')

/-- A share of an argument array. -/
abbrev srcOwn {e : EltTy} (s : Memref sig .scVector .hbm S6400000 e) (q : PosShare TreeShare) (X : S6400000.Idx → Elt F e) : sProp 𝕄 := owns (thr d i) s q X

/-- The part of an argument array a copy reads. -/
abbrev crect (o : Fin 1 → Nat) (ho : ∀ a, o a + S4000.size a ≤ S6400000.size a) : Rect S6400000 := Rect.unit (s := S6400000) o S4000.size ho

/-- What is kept of an argument's share while a copy reads its part of it. -/
def restOf {e : EltTy} (s : Memref sig .scVector .hbm S6400000 e) (q : PosShare TreeShare) (X : S6400000.Idx → Elt F e)
    (o : Fin 1 → Nat) (ho : ∀ a, o a + S4000.size a ≤ S6400000.size a) : sProp 𝕄 :=
  iprop(∃ f, ⌜s.view.read (Elt F) f = X⌝ ∗ s.view.loc (thr d i) ↦[s.view.set \ (s.slice (crect o ho) (fun _ => rfl)).view.set]{q} f)

/-- What a landed copy hands back: the buffer at the part read, and that part's share. -/
def landed {e : EltTy} (s : Memref sig .scVector .hbm S6400000 e) (b : Memref sig .scVector .vmem S4000 e) (q : PosShare TreeShare)
    (X : S6400000.Idx → Elt F e) (o : Fin 1 → Nat) (ho : ∀ a, o a + S4000.size a ≤ S6400000.size a) : sProp 𝕄 :=
  iprop(own1 d i b (fun p => X ((crect o ho).emb p)) ∗ owns (thr d i) (s.slice (crect o ho) (fun _ => rfl)) q (fun p => X ((crect o ho).emb p)))

instance landed_storable {e : EltTy} (s : Memref sig .scVector .hbm S6400000 e) (b : Memref sig .scVector .vmem S4000 e) (q : PosShare TreeShare)
    (X : S6400000.Idx → Elt F e) (o : Fin 1 → Nat) (ho : ∀ a, o a + S4000.size a ≤ S6400000.size a) :
    BI.Storable (upEmb : UEmb _ 𝕄) (landed d i s b q X o ho) := by unfold landed; infer_instance

theorem landed_join {e : EltTy} (s : Memref sig .scVector .hbm S6400000 e) (b : Memref sig .scVector .vmem S4000 e) (q : PosShare TreeShare)
    (X : S6400000.Idx → Elt F e) (o : Fin 1 → Nat) (ho : ∀ a, o a + S4000.size a ≤ S6400000.size a) :
    iprop(landed d i s b q X o ho ∗ restOf d i s q X o ho) ⊢ iprop(own1 d i b (fun p => X ((crect o ho).emb p)) ∗ srcOwn d i s q X) := by
  unfold landed restOf
  iintro ⟨⟨Hb, Hs⟩, %f, %hf, Hr⟩
  isplitl [Hb]; · iexact Hb
  have e : (crect o ho).overlay (s.view.read (Elt F) f) (fun p => X ((crect o ho).emb p)) = X := by
    rw [hf]; funext j
    by_cases hj : j ∈ (crect o ho).set
    · obtain ⟨p, rfl⟩ := (crect o ho).exists_idx_of_mem hj
      exact Rect.overlay_emb _ _ _ p
    · rw [Rect.overlay_of_not_mem _ _ _ hj]
  have h := owns_slice_join (Ix := HIx 1) (Name := ℕ) (U := UU) (Lvl := ℕ) (thr d i) s q (crect o ho) (fun _ => rfl) (fun p => X ((crect o ho).emb p)) f
  rw [e] at h
  iapply h
  isplitl [Hs]; · iexact Hs
  iexact Hr

/-- One copy of a counted batch of four. -/
theorem wp_copy {e : EltTy} (s : Memref sig .scVector .hbm S6400000 e) (b : Memref sig .scVector .vmem S4000 e) (q : PosShare TreeShare)
    (X : S6400000.Idx → Elt F e) (o : Fin 1 → Nat) (ho : ∀ a, o a + S4000.size a ≤ S6400000.size a) (sem : DmaSems sig S_)
    (hs : (s.slice (crect o ho) (fun _ => rfl)).view.WordExact) (hb : b.view.WordExact)
    (N : Nat) (hN : b.view.dmaCredit = N) (D : Fin 4 → sProp 𝕄) (j : Nat) (hj : j < 4)
    (hD : landed d i s b q X o ho ⊢ D ⟨j, hj⟩) {α : Type} (k : PUnit → TP F i α) (Q : α → sProp 𝕄) :
    iprop(srcOwn d i s q X ∗ (∃ f, own1 d i b f) ∗ Transfers.Batch EC (thr d i) (.dma sem.sem) none N D j 0)
      ⊢ iprop((iprop(restOf d i s q X o ho ∗ Transfers.Batch EC (thr d i) (.dma sem.sem) none N D (j + 1) 0) -∗ tileWp d i (k ⟨⟩) Q)
        -∗ tileWp d i (Prog.lift (.enqueueDma (s.slice (crect o ho) (fun _ => rfl)) (.here b) (.dma sem.sem) hs hb ⟨Or.inl rfl, trivial⟩) >>= k) Q) := by
  iintro ⟨Hs, ⟨%f, Hb⟩, HB⟩ Hk
  ihave Hs := owns_slice_split (thr d i) s q (crect o ho) (fun _ => rfl) X $$ Hs
  icases Hs with ⟨Hs, Hr⟩
  unfold own1 owns
  icases Hs with ⟨%fs, %hfs, Hs⟩
  icases Hb with ⟨%fb, %hfb, Hb⟩
  iapply (Transfers.wp_dmaBatch (defs := defs₀ (F := F)) EC 𝒱₀ (thr d i) none (src := s.slice (crect o ho) (fun _ => rfl)) (dst := b)
    (via := .same) (sm := .dma sem.sem) (hsrc := hs) (hdst := hb) (hsem := ⟨Or.inl rfl, trivial⟩) (k := k) (Q := Q) (D := D) (j := j) (u := 0)
    none N hN (Finset.Subset.refl _) hj (Nat.zero_le _) (fs := fs) (fd := fb) (q := q) ?_) $$ [Hs Hb HB]
  · refine BIBase.Entails.trans ?_ hD
    unfold landed own1 owns
    iintro ⟨Hd, Hs⟩
    isplitl [Hd]
    · iexists _
      isplitr; swap; · iexact Hd
      ipureintro
      rw [View.read_write_univ]; exact hfs
    · iexists fs
      isplitr; · ipureintro; exact hfs
      iexact Hs
  · isplitl [Hs]; · iexact Hs
    isplitl [Hb]; · iexact Hb
    iexact HB
  iintro HB
  iapply Hk
  isplitl [Hr]; · unfold restOf; iexact Hr
  iexact HB

/-! ## A chunk's four copies -/

/-- Where chunk `t` of tile `w` begins. -/
abbrev coff (w t : Nat) : Fin 1 → Nat := ![w * 200000 + t * 4000]

theorem coff_inb {w t : Nat} (hw : w < 32) (ht : t < 50) : ∀ a, coff w t a + S4000.size a ≤ S6400000.size a := by
  intro a; fin_cases a
  show w * 200000 + t * 4000 + 4000 ≤ 6400000
  omega

theorem crect_chunk {e : EltTy} (X : S6400000.Idx → Elt F e) {w t : Nat} (hw : w < 32) (ht : t < 50) :
    (fun p => X ((crect (coff w t) (coff_inb hw ht)).emb p)) = chunk X w t := by
  funext p
  refine congrArg X (funext fun a => ?_)
  fin_cases a
  have hp : (p 0).val < 4000 := (p 0).isLt
  refine Fin.ext ?_
  show w * 200000 + t * 4000 + 1 * (p 0).val = (w * 200000 + t * 4000 + (p 0).val) % 6400000
  rw [Nat.mod_eq_of_lt (by omega)]; omega

theorem landed_chunk {e : EltTy} (s : Memref sig .scVector .hbm S6400000 e) (b : Memref sig .scVector .vmem S4000 e) (q : PosShare TreeShare)
    (X : S6400000.Idx → Elt F e) {w t : Nat} (hw : w < 32) (ht : t < 50) :
    iprop(landed d i s b q X (coff w t) (coff_inb hw ht) ∗ restOf d i s q X (coff w t) (coff_inb hw ht)) ⊢ iprop(own1 d i b (chunk X w t) ∗ srcOwn d i s q X) := by
  rw [← crect_chunk X hw ht]
  exact landed_join d i s b q X _ _

variable (A : Args F) (w : Nat)
variable (sx sy sz : Memref sig .scVector .hbm S6400000 .f32) (sl : Memref sig .scVector .hbm S6400000 .i32)
variable (bl : Memref sig .scVector .vmem S4000 .i32) (bx by' bz : Memref sig .scVector .vmem S4000 .f32)
variable (q : PosShare TreeShare) (sem : DmaSems sig S_) (N : Nat)

/-- What the four copies of a chunk hand back. -/
def dlv (o : Fin 1 → Nat) (ho : ∀ a, o a + S4000.size a ≤ S6400000.size a) : Fin 4 → sProp 𝕄
  | 0 => landed d i sl bl q A.l o ho
  | 1 => landed d i sx bx q A.x o ho
  | 2 => landed d i sy by' q A.y o ho
  | 3 => landed d i sz bz q A.z o ho

instance dlv_storable (o : Fin 1 → Nat) (ho : ∀ a, o a + S4000.size a ≤ S6400000.size a) (j : Fin 4) :
    BI.Storable (upEmb : UEmb _ 𝕄) (dlv d i A sx sy sz sl bl bx by' bz q o ho j) := by
  fin_cases j <;> (unfold dlv; infer_instance)

/-- The shares of the four arguments. -/
abbrev Srcs : sProp 𝕄 := iprop(srcOwn d i sl q A.l ∗ srcOwn d i sx q A.x ∗ srcOwn d i sy q A.y ∗ srcOwn d i sz q A.z)

/-- A set of buffers with nothing under way: its semaphore at zero, the buffers at some contents, the arguments' shares. -/
def Idle : sProp 𝕄 :=
  iprop(semVal (thr d i, .dma sem.sem) 0 ∗ ((∃ f, own1 d i bl f) ∗ (∃ f, own1 d i bx f) ∗ (∃ f, own1 d i by' f) ∗ ∃ f, own1 d i bz f)
    ∗ Srcs d i A sx sy sz sl q)

/-- A set of buffers with the copies at `o` under way. -/
def Flight (o : Fin 1 → Nat) (ho : ∀ a, o a + S4000.size a ≤ S6400000.size a) : sProp 𝕄 :=
  iprop(Transfers.Batch EC (thr d i) (.dma sem.sem) none N (dlv d i A sx sy sz sl bl bx by' bz q o ho) 4 0
    ∗ restOf d i sl q A.l o ho ∗ restOf d i sx q A.x o ho ∗ restOf d i sy q A.y o ho ∗ restOf d i sz q A.z o ho)

/-- A set of buffers at chunk `t`. -/
abbrev Bufs (t : Nat) : sProp 𝕄 :=
  iprop(own1 d i bl (chunk A.l w t) ∗ own1 d i bx (chunk A.x w t) ∗ own1 d i by' (chunk A.y w t) ∗ own1 d i bz (chunk A.z w t))

variable (hbl : bl.IsWhole) (hbx : bx.IsWhole) (hby : by'.IsWhole) (hbz : bz.IsWhole)
variable (hNl : bl.view.dmaCredit = N) (hNx : bx.view.dmaCredit = N) (hNy : by'.view.dmaCredit = N) (hNz : bz.view.dmaCredit = N)

include hNl hNx hNy hNz in
theorem wp_start4 (o ol ov : Fin 1 → Nat) (ho : ∀ a, o a + S4000.size a ≤ S6400000.size a) (el : ol = o) (ev : ov = o)
    (hl : ∀ a, ol a + S4000.size a ≤ S6400000.size a) (hv : ∀ a, ov a + S4000.size a ≤ S6400000.size a)
    {α : Type} (k : PUnit → TP F i α) (Q : α → sProp 𝕄) :
    Idle d i A sx sy sz sl bl bx by' bz q sem
      ⊢ iprop((Flight d i A sx sy sz sl bl bx by' bz q sem N o ho -∗ tileWp d i (k ⟨⟩) Q)
        -∗ tileWp d i (start4 i bl bx by' bz sx sy sz sl hbl hbx hby hbz sem ol ov hl hv >>= k) Q) := by
  subst el; subst ev
  unfold Idle Srcs
  simp only [start4, bind_assoc]
  iintro ⟨Hv, ⟨Hbl, Hbx, Hby, Hbz⟩, Hl, Hx, Hy, Hz⟩ Hk
  imod (Transfers.batch_alloc' (Lvl := ℕ) EC (c := thr d i) none N (dlv d i A sx sy sz sl bl bx by' bz q ov ho) (sm := .dma sem.sem) (E := Set.univ)) $$ Hv with HB
  iapply (wp_copy d i sl bl q A.l ov ho sem _ _ N hNl (dlv d i A sx sy sz sl bl bx by' bz q ov ho) 0 (by decide) .rfl) $$ [Hl Hbl HB]
  · isplitl [Hl]; · iexact Hl
    isplitl [Hbl]; · iexact Hbl
    iexact HB
  iintro ⟨Rl, HB⟩
  iapply (wp_copy d i sx bx q A.x ov ho sem _ _ N hNx (dlv d i A sx sy sz sl bl bx by' bz q ov ho) 1 (by decide) .rfl) $$ [Hx Hbx HB]
  · isplitl [Hx]; · iexact Hx
    isplitl [Hbx]; · iexact Hbx
    iexact HB
  iintro ⟨Rx, HB⟩
  iapply (wp_copy d i sy by' q A.y ov ho sem _ _ N hNy (dlv d i A sx sy sz sl bl bx by' bz q ov ho) 2 (by decide) .rfl) $$ [Hy Hby HB]
  · isplitl [Hy]; · iexact Hy
    isplitl [Hby]; · iexact Hby
    iexact HB
  iintro ⟨Ry, HB⟩
  iapply (wp_copy d i sz bz q A.z ov ho sem _ _ N hNz (dlv d i A sx sy sz sl bl bx by' bz q ov ho) 3 (by decide) .rfl) $$ [Hz Hbz HB]
  · isplitl [Hz]; · iexact Hz
    isplitl [Hbz]; · iexact Hbz
    iexact HB
  iintro ⟨Rz, HB⟩
  iapply Hk
  unfold Flight
  isplitl [HB]; · iexact HB
  isplitl [Rl]; · iexact Rl
  isplitl [Rx]; · iexact Rx
  isplitl [Ry]; · iexact Ry
  iexact Rz

variable {O : CellTallies nD τ sig (HIx 1)} (hO : ∀ g, O g none = 0) (W : Waits sig (HIx 1))

include hO in
/-- One of a chunk's waits but the last. -/
theorem wp_wait1 {e : EltTy} (s : Memref sig .scVector .hbm S4000 e) (b : Memref sig .scVector .vmem S4000 e)
    (hs : s.view.WordExact) (hb : b.view.WordExact) (hN : b.view.dmaCredit = N) (D : Fin 4 → sProp 𝕄) (u : Nat) (hu : u + N < N * 4)
    {α : Type} (k : PUnit → TP F i α) (Q : α → sProp 𝕄) :
    iprop(Transfers.Batch EC (thr d i) (.dma sem.sem) none N D 4 u ∗ owesN d i O W ∗ Lv)
      ⊢ iprop((iprop(Transfers.Batch EC (thr d i) (.dma sem.sem) none N D 4 (u + N) ∗ owesN d i O W) -∗ tileWp d i (k ⟨⟩) Q)
        -∗ tileWp d i (Prog.lift (.waitDma2 sem.sem s b hs hb) >>= k) Q) := by
  iintro ⟨HB, HO, Hlv⟩ Hk
  unfold owesN
  icases HO with ⟨%W', %hW, HO⟩
  ihave Hmw := ((K (F := F)).mayWait_none (thr := thr d i) (.dma sem.sem) hO) $$ Hlv
  iapply (Transfers.wp_waitBatchO (defs := defs₀ (F := F)) EC 𝒱₀ (thr d i) none (k := k) (Q := Q) none hN hu) $$ [HB HO Hmw]
  · isplitl [HB]; · iexact HB
    isplitl [HO]; · iexact HO
    iexact Hmw
  iintro ⟨HB, HO⟩
  iapply Hk
  isplitl [HB]; · iexact HB
  iexists _
  isplitr; swap; · iexact HO
  ipureintro
  intro p hp
  rcases Finset.mem_insert.mp hp with rfl | hp
  · exact .inr rfl
  · exact hW p hp

include hO in
/-- A batch's last wait. -/
theorem wp_waitL {e : EltTy} (s : Memref sig .scVector .hbm S4000 e) (b : Memref sig .scVector .vmem S4000 e)
    (hs : s.view.WordExact) (hb : b.view.WordExact) (hN : b.view.dmaCredit = N) (hN0 : 0 < N) (D : Fin 4 → sProp 𝕄) (u : Nat) (hu : u + N = N * 4)
    {α : Type} (k : PUnit → TP F i α) (Q : α → sProp 𝕄) :
    iprop(Transfers.Batch EC (thr d i) (.dma sem.sem) none N D 4 u ∗ owesN d i O W ∗ Lv)
      ⊢ iprop((iprop(bigSep Finset.univ D ∗ semVal (thr d i, .dma sem.sem) 0 ∗ owesN d i O W) -∗ tileWp d i (k ⟨⟩) Q)
        -∗ tileWp d i (Prog.lift (.waitDma2 sem.sem s b hs hb) >>= k) Q) := by
  iintro ⟨HB, HO, Hlv⟩ Hk
  unfold owesN
  icases HO with ⟨%W', %hW, HO⟩
  ihave Hmw := ((K (F := F)).mayWait_none (thr := thr d i) (.dma sem.sem) hO) $$ Hlv
  iapply (Transfers.wp_waitBatchLastO (defs := defs₀ (F := F)) EC 𝒱₀ (thr d i) none (k := k) (Q := Q) none hN hN0 hu) $$ [HB HO Hmw]
  · isplitl [HB]; · iexact HB
    isplitl [HO]; · iexact HO
    iexact Hmw
  iintro ⟨HB, Hv, HO⟩
  iapply Hk
  isplitl [HB]; · iexact HB
  isplitl [Hv]; · iexact Hv
  iexists _
  isplitr; swap; · iexact HO
  ipureintro
  intro p hp
  rcases Finset.mem_insert.mp hp with rfl | hp
  · exact .inr rfl
  · exact hW p hp

include hNl hNx hNy hNz hO in
/-- The waits for chunk `t`: the buffers hold it, and the set is free for the next. -/
theorem wp_wait4 (hN0 : 0 < N) {t : Nat} (hw : w < 32) (ht : t < 50) {α : Type} (k : PUnit → TP F i α) (Q : α → sProp 𝕄) :
    iprop(Flight d i A sx sy sz sl bl bx by' bz q sem N (coff w t) (coff_inb hw ht) ∗ owesN d i O W ∗ Lv)
      ⊢ iprop((iprop(Bufs d i A w bl bx by' bz t ∗ Srcs d i A sx sy sz sl q ∗ semVal (thr d i, .dma sem.sem) 0 ∗ owesN d i O W) -∗ tileWp d i (k ⟨⟩) Q)
        -∗ tileWp d i (wait4 i bl bx by' bz sx sy sz sl hbl hbx hby hbz sem >>= k) Q) := by
  unfold Flight
  simp only [wait4, bind_assoc]
  iintro ⟨⟨HB, Rl, Rx, Ry, Rz⟩, HO, #Hlv⟩ Hk
  iapply (wp_wait1 d i sem N hO W _ bl _ _ hNl (dlv d i A sx sy sz sl bl bx by' bz q (coff w t) (coff_inb hw ht)) 0 (by omega)) $$ [HB HO]
  · isplitl [HB]; · iexact HB
    isplitl [HO]; · iexact HO
    iexact Hlv
  iintro ⟨HB, HO⟩
  iapply (wp_wait1 d i sem N hO W _ bx _ _ hNx (dlv d i A sx sy sz sl bl bx by' bz q (coff w t) (coff_inb hw ht)) (0 + N) (by omega)) $$ [HB HO]
  · isplitl [HB]; · iexact HB
    isplitl [HO]; · iexact HO
    iexact Hlv
  iintro ⟨HB, HO⟩
  iapply (wp_wait1 d i sem N hO W _ by' _ _ hNy (dlv d i A sx sy sz sl bl bx by' bz q (coff w t) (coff_inb hw ht)) (0 + N + N) (by omega)) $$ [HB HO]
  · isplitl [HB]; · iexact HB
    isplitl [HO]; · iexact HO
    iexact Hlv
  iintro ⟨HB, HO⟩
  iapply (wp_waitL d i sem N hO W _ bz _ _ hNz hN0 (dlv d i A sx sy sz sl bl bx by' bz q (coff w t) (coff_inb hw ht)) (0 + N + N + N) (by omega)) $$ [HB HO]
  · isplitl [HB]; · iexact HB
    isplitl [HO]; · iexact HO
    iexact Hlv
  iintro ⟨HD, Hv, HO⟩
  ihave HD := (show bigSep Finset.univ (dlv d i A sx sy sz sl bl bx by' bz q (coff w t) (coff_inb hw ht))
      ⊢ iprop(landed d i sl bl q A.l (coff w t) (coff_inb hw ht) ∗ landed d i sx bx q A.x (coff w t) (coff_inb hw ht)
        ∗ landed d i sy by' q A.y (coff w t) (coff_inb hw ht) ∗ landed d i sz bz q A.z (coff w t) (coff_inb hw ht) ∗ emp) from by
    rw [show (Finset.univ : Finset (Fin 4)) = insert 0 (insert 1 (insert 2 (insert 3 ∅))) from rfl,
      bigSep_insert (by decide), bigSep_insert (by decide), bigSep_insert (by decide), bigSep_insert (by decide), bigSep_empty]
    exact .rfl) $$ HD
  icases HD with ⟨Dl, Dx, Dy, Dz, -⟩
  ihave Hl := (landed_chunk d i sl bl q A.l hw ht) $$ [Dl Rl]
  · isplitl [Dl] <;> iassumption
  ihave Hx := (landed_chunk d i sx bx q A.x hw ht) $$ [Dx Rx]
  · isplitl [Dx] <;> iassumption
  ihave Hy := (landed_chunk d i sy by' q A.y hw ht) $$ [Dy Ry]
  · isplitl [Dy] <;> iassumption
  ihave Hz := (landed_chunk d i sz bz q A.z hw ht) $$ [Dz Rz]
  · isplitl [Dz] <;> iassumption
  icases Hl with ⟨Hl, Sl⟩
  icases Hx with ⟨Hx, Sx⟩
  icases Hy with ⟨Hy, Sy⟩
  icases Hz with ⟨Hz, Sz⟩
  iapply Hk
  isplitl [Hl Hx Hy Hz]
  · isplitl [Hl]; · iexact Hl
    isplitl [Hx]; · iexact Hx
    isplitl [Hy] <;> iassumption
  isplitl [Sl Sx Sy Sz]
  · isplitl [Sl]; · iexact Sl
    isplitl [Sx]; · iexact Sx
    isplitl [Sy] <;> iassumption
  isplitl [Hv] <;> iassumption

end

end Cert.Proof

end
-- ==== Proof.Pair.lean ====
/-
  The task's double-buffered loop: a chunk's half of a trip, then a trip.
-/
module

public import proofs.«01_k».proof.Proof.Copies

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

section
variable (d : Dev nD) (i : grid0.Coords)
variable (A : Args F) (w : Nat)
variable (sx sy sz : Memref sig .scVector .hbm S6400000 .f32) (sl : Memref sig .scVector .hbm S6400000 .i32)
variable (tab : Memref sig .scVector .vmem S65536 .f32)
variable (bl : Memref sig .scVector .vmem S4000 .i32) (bx by' bz : Memref sig .scVector .vmem S4000 .f32)
variable (q : PosShare TreeShare) (sem : DmaSems sig S_) (N : Nat)

/-- A set of buffers before its chunk `t`: the chunk is under way, or there is none. -/
def SetAt (hw : w < 32) (t : Nat) : sProp 𝕄 :=
  if h : t < 50 then Flight d i A sx sy sz sl bl bx by' bz q sem N (coff w t) (coff_inb hw h) else Idle d i A sx sy sz sl bl bx by' bz q sem

variable (hbl : bl.IsWhole) (hbx : bx.IsWhole) (hby : by'.IsWhole) (hbz : bz.IsWhole)
variable (hNl : bl.view.dmaCredit = N) (hNx : bx.view.dmaCredit = N) (hNy : by'.view.dmaCredit = N) (hNz : bz.view.dmaCredit = N)
variable {O : CellTallies nD τ sig (HIx 1)} (hO : ∀ g, O g none = 0) (W : Waits sig (HIx 1))

include hNl hNx hNy hNz hO in
/-- Half a trip: wait for chunk `t`, take its steps, start chunk `t + 2` if there is one. -/
theorem wp_half (hA : A.OK) (hN0 : 0 < N) (hw : w < 32) {t : Nat} (ht : t < 50) (l : Scf.Loop 32) (hok : l.OK) (hl : l.trips = 10)
    (cond : BitVec 1) (hc : cond = 1#1 ↔ t + 2 < 50) (ol ov : Fin 1 → Nat) (el : ol = coff w (t + 2)) (ev : ov = coff w (t + 2))
    (hol : cond = 1#1 → ∀ a, ol a + S4000.size a ≤ S6400000.size a) (hov : cond = 1#1 → ∀ a, ov a + S4000.size a ≤ S6400000.size a)
    {α : Type} (k : Acc F → TP F i α) (Q : α → sProp 𝕄) :
    iprop(own1 d i tab (stN A w (250 * t)).1 ∗ SetAt d i A w sx sy sz sl bl bx by' bz q sem N hw t ∗ owesN d i O W ∗ Lv)
      ⊢ iprop((iprop(own1 d i tab (stN A w (250 * (t + 1))).1 ∗ SetAt d i A w sx sy sz sl bl bx by' bz q sem N hw (t + 2) ∗ owesN d i O W)
          -∗ tileWp d i (k (stN A w (250 * (t + 1))).2) Q)
        -∗ tileWp d i (wait4 i bl bx by' bz sx sy sz sl hbl hbx hby hbz sem >>= fun _ =>
            Scf.Loop.for l hok (stN A w (250 * t)).2 (fun j c => tripP i tab bl bx by' bz v4c v6c (Scf.iv 0#32 1#32 j) c) >>= fun c =>
            (if h : cond = 1#1 then start4 i bl bx by' bz sx sy sz sl hbl hbx hby hbz sem ol ov (hol h) (hov h) else pure ⟨⟩ : TP F i PUnit) >>= fun _ => k c) Q) := by
  unfold SetAt
  rw [dif_pos ht]
  iintro ⟨Ht, HF, HO, #Hlv⟩ Hk
  iapply (wp_wait4 d i A w sx sy sz sl bl bx by' bz q sem N hbl hbx hby hbz hNl hNx hNy hNz hO W hN0 hw ht) $$ [HF HO]
  · isplitl [HF]; · iexact HF
    isplitl [HO]; · iexact HO
    iexact Hlv
  iintro ⟨HB, HS, Hv, HO⟩
  iapply (wp_chunk A w d i tab bl bx by' bz hA t l hok hl) $$ [Ht HB]
  · isplitl [Ht] <;> iassumption
  iintro ⟨Ht, Hl, Hx, Hy, Hz⟩
  ihave HI := (show iprop((semVal (thr d i, .dma sem.sem) 0 ∗ Srcs d i A sx sy sz sl q) ∗ Bufs d i A w bl bx by' bz t) ⊢ Idle d i A sx sy sz sl bl bx by' bz q sem from by
    unfold Idle
    iintro ⟨⟨Hv, HS⟩, Hl, Hx, Hy, Hz⟩
    isplitl [Hv]; · iexact Hv
    isplitr [HS]; swap; · iexact HS
    isplitl [Hl]; · iexists _; iexact Hl
    isplitl [Hx]; · iexists _; iexact Hx
    isplitl [Hy]; · iexists _; iexact Hy
    iexists _; iexact Hz) $$ [Hv HS Hl Hx Hy Hz]
  · isplitl [Hv HS]; · isplitl [Hv] <;> iassumption
    isplitl [Hl]; · iexact Hl
    isplitl [Hx]; · iexact Hx
    isplitl [Hy] <;> iassumption
  by_cases h : cond = 1#1
  · have h2 := hc.mp h
    simp only [dif_pos h, dif_pos h2]
    iapply (wp_start4 d i A sx sy sz sl bl bx by' bz q sem N hbl hbx hby hbz hNl hNx hNy hNz (coff w (t + 2)) ol ov (coff_inb hw h2) el ev) $$ HI
    iintro HF
    iapply Hk
    isplitl [Ht]; · iexact Ht
    isplitl [HF] <;> iassumption
  · have h2 : ¬ t + 2 < 50 := fun h' => h (hc.mpr h')
    simp only [dif_neg h, dif_neg h2, pure_bind]
    iapply Hk
    isplitl [Ht]; · iexact Ht
    isplitl [HI] <;> iassumption

end

/-! ## A trip of the double-buffered loop -/

/-- The number of the tile at `i`. -/
def wid (i : grid0.Coords) : Nat := 2 * (i 1).val + (i 0).val

theorem wid_lt (i : grid0.Coords) : wid i < 32 := by
  have h0 : (i 0).val < 2 := (i 0).isLt
  have h1 : (i 1).val < 16 := (i 1).isLt
  unfold wid; omega

theorem trips2 : k0_t2_loop.trips = 25 := by decide
theorem trips3 : k0_t3_loop.trips = 10 := by decide
theorem trips4 : k0_t4_loop.trips = 10 := by decide
theorem cond1_iff : ∀ k : Fin k0_t2_loop.trips, k0_cond1 k = 1#1 ↔ 2 * k.val + 2 < 50 := by decide +kernel
theorem cond2_iff : ∀ k : Fin k0_t2_loop.trips, k0_cond2 k = 1#1 ↔ 2 * k.val + 1 + 2 < 50 := by decide +kernel

theorem off_coff (i : grid0.Coords) (t a b : Nat) (h : 8000 * a + b = 4000 * t) :
    (![400000 * (i 1).val + 200000 * (i 0).val + 8000 * a + b] : Fin 1 → Nat) = coff (wid i) t := by
  unfold coff wid
  congr 1
  omega

section
variable (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_)
variable (d : Dev nD) (A : Args F) (qA qB : PosShare TreeShare) (N : Nat)
variable (O : CellTallies nD τ sig (HIx 1)) (W : Waits sig (HIx 1))

/-- What a tile holds before the `k`-th trip of the double-buffered loop. -/
def PairState (k : Nat) : sProp 𝕄 :=
  iprop(own1 d i arg7 (stN A (wid i) (250 * (2 * k))).1
    ∗ SetAt d i A (wid i) arg2 arg3 arg4 arg5 arg9 arg10 arg11 arg12 qA arg17 N (wid_lt i) (2 * k)
    ∗ SetAt d i A (wid i) arg2 arg3 arg4 arg5 arg13 arg14 arg15 arg16 qB arg18 N (wid_lt i) (2 * k + 1)
    ∗ owesN d i O W)

theorem wp_pairP (hO : ∀ g, O g none = 0) (hA : A.OK) (hN0 : 0 < N)
    (hN9 : arg9.view.dmaCredit = N) (hN10 : arg10.view.dmaCredit = N) (hN11 : arg11.view.dmaCredit = N) (hN12 : arg12.view.dmaCredit = N)
    (hN13 : arg13.view.dmaCredit = N) (hN14 : arg14.view.dmaCredit = N) (hN15 : arg15.view.dmaCredit = N) (hN16 : arg16.view.dmaCredit = N)
    (k : Fin k0_t2_loop.trips) :
    iprop(PairState i arg2 arg3 arg4 arg5 arg7 arg9 arg10 arg11 arg12 arg13 arg14 arg15 arg16 arg17 arg18 d A qA qB N O W k.val ∗ Lv)
      ⊢ tileWp d i (pairP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 v4c v6c k (stN A (wid i) (250 * (2 * k.val))).2)
          (fun c => iprop(⌜c = (stN A (wid i) (250 * (2 * (k.val + 1)))).2⌝
            ∗ PairState i arg2 arg3 arg4 arg5 arg7 arg9 arg10 arg11 arg12 arg13 arg14 arg15 arg16 arg17 arg18 d A qA qB N O W (k.val + 1) ∗ Lv)) := by
  have hk : k.val < 25 := trips2 ▸ k.isLt
  unfold PairState pairP
  iintro ⟨⟨Ht, HA, HB, HO⟩, #Hlv⟩
  iapply (wp_half d i A (wid i) arg2 arg3 arg4 arg5 arg7 arg9 arg10 arg11 arg12 qA arg17 N harg9 harg10 harg11 harg12 hN9 hN10 hN11 hN12 hO W hA hN0
    (wid_lt i) (t := 2 * k.val) (by omega) k0_t3_loop k0_t3_ok trips3 (k0_cond1 k) (cond1_iff k) (k0_off4 i k) (k0_off5 i k)
    ((k0_off4_eq i k).trans (off_coff i _ _ _ (by omega))) ((k0_off5_eq i k).trans (off_coff i _ _ _ (by omega)))
    (k0_off4_inb i k) (k0_off5_inb i k)) $$ [Ht HA HO]
  · isplitl [Ht]; · iexact Ht
    isplitl [HA]; · iexact HA
    isplitl [HO]; · iexact HO
    iexact Hlv
  iintro ⟨Ht, HA, HO⟩
  iapply (wp_half d i A (wid i) arg2 arg3 arg4 arg5 arg7 arg13 arg14 arg15 arg16 qB arg18 N harg13 harg14 harg15 harg16 hN13 hN14 hN15 hN16 hO W hA hN0
    (wid_lt i) (t := 2 * k.val + 1) (by omega) k0_t4_loop k0_t4_ok trips4 (k0_cond2 k) (cond2_iff k) (k0_off6 i k) (k0_off7 i k)
    ((k0_off6_eq i k).trans (off_coff i _ _ _ (by omega))) ((k0_off7_eq i k).trans (off_coff i _ _ _ (by omega)))
    (k0_off6_inb i k) (k0_off7_inb i k) (k := Prog.ret)) $$ [Ht HB HO]
  · isplitl [Ht]; · iexact Ht
    isplitl [HB]; · iexact HB
    isplitl [HO]; · iexact HO
    iexact Hlv
  iintro ⟨Ht, HB, HO⟩
  unfold tileWp
  rw [wp_ret]
  imodintro
  isplitr; · ipureintro; rw [show 2 * (k.val + 1) = 2 * k.val + 1 + 1 by omega]
  rw [show 2 * (k.val + 1) = 2 * k.val + 1 + 1 by omega]
  isplitl [Ht HA HB HO]; swap; · iexact Hlv
  isplitl [Ht]; · iexact Ht
  isplitl [HA]; · iexact HA
  isplitl [HB]; · iexact HB
  iexact HO

end

end Cert.Proof

end
-- ==== Proof.Table.lean ====
/-
  The task's table outside its steps: zeroed at the start, its lanes' rows summed into the result at the end.
-/
module

public import proofs.«01_k».proof.Proof.Step
public import Idealize.ShloMosaic.Lib.Pipeline.ValueKit.Geometry
public import Idealize.ShloMosaic.Lib.ValueLayout

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

section
variable (d : Dev nD) (i : grid0.Coords)

/-! ## Loads and stores through a rectangle of an owned buffer -/

theorem wp_loadRect {sh : Shape} {e : EltTy} (m : Memref sig .scVector .vmem sh e) (r : Rect sh) (X : sh.Idx → Elt F e) (hl : m.view.LoadsAt r.toLoadRect)
    {α : Type} (k : (r.shape.Idx → Elt F e) → TP F i α) (Q : α → sProp 𝕄) :
    own1 d i m X ⊢ iprop((own1 d i m X -∗ tileWp d i (k fun p => X (r.emb p)) Q) -∗ tileWp d i (Prog.lift (.load m r.toLoadRect hl) >>= k) Q) := by
  unfold own1 owns
  iintro ⟨%f, %hf, H⟩ Hk
  iapply (wp_load_rect (defs := defs₀ (F := F)) 𝒱₀ (thr d i) none Set.univ (m := m) (r := r) (k := k) (S := m.view.set) (f := f)
    (View.set_slice_subset _ r)) $$ H
  iintro H
  rw [show (m.access r).read (Elt F) f = fun p => X (r.emb p) from by subst hf; rfl]
  iapply Hk
  iexists f
  isplitr; · ipureintro; exact hf
  iexact H

theorem wp_storeRect {sh : Shape} {e : EltTy} (m : Memref sig .scVector .vmem sh e) (r : Rect sh) (X : sh.Idx → Elt F e) (v : r.shape.Idx → Elt F e)
    (hx : (m.access r).Stores Finset.univ) {α : Type} (k : PUnit → TP F i α) (Q : α → sProp 𝕄) :
    own1 d i m X ⊢ iprop((own1 d i m (r.overlay X v) -∗ tileWp d i (k ⟨⟩) Q)
      -∗ tileWp d i (Prog.lift (.store m r v Finset.univ hx (.inl rfl)) >>= k) Q) := by
  unfold own1 owns
  iintro ⟨%f, %hf, H⟩ Hk
  iapply (wp_store (defs := defs₀ (F := F)) 𝒱₀ (thr d i) none Set.univ (m := m) (r := r) (w := v) (Mk := Finset.univ) (k := k) (S := m.view.set) (f := f)
    (View.set_slice_subset _ r)) $$ H
  iintro H
  iapply Hk
  iexists _
  isplitr; swap; · iexact H
  ipureintro
  funext j
  by_cases hj : j ∈ r.set
  · obtain ⟨p, rfl⟩ := LoadRect.exists_idx_of_mem _ hj
    exact (View.read_slice_write_emb r f v (Finset.mem_univ p)).trans (Rect.overlay_emb r X v p).symm
  · rw [Rect.overlay_of_not_mem _ _ _ hj, ← hf]
    exact View.read_slice_write_of_not_mem r f v _ (by rw [Rect.map_emb_univ]; exact hj)

/-! ## The zeroing loop -/

variable (tab : Memref sig .scVector .vmem S65536 .f32)

/-- The table's first `n` words are zero. -/
def ZeroTo (n : Nat) : sProp 𝕄 := iprop(∃ X, ⌜∀ j : S65536.Idx, (j 0).val < n → X j = Scalar.ofBits .f32 0x00000000#32⌝ ∗ own1 d i tab X)

theorem wp_zeroP (t : Fin k0_t1_loop.trips) {α : Type} (k : PUnit → TP F i α) (Q : α → sProp 𝕄) : ∀ n s : Nat, s + n = 8 →
    ZeroTo d i tab (128 * t.val + 16 * s)
      ⊢ iprop((ZeroTo (F := F) d i tab (128 * t.val + 128) -∗ tileWp d i (k ⟨⟩) Q) -∗ tileWp d i (zeroP i tab t n s >>= k) Q)
  | 0, s, hs => by
    obtain rfl : s = 8 := by omega
    simp only [zeroP, pure_bind]
    iintro H Hk
    iapply Hk; iexact H
  | n + 1, s, hs => by
    simp only [zeroP, bind_assoc]
    unfold ZeroTo
    iintro ⟨%X, %hX, H⟩ Hk
    iapply (wp_loadRect d i tab _ X) $$ H
    iintro H
    iapply (wp_storeRect d i tab _ X zeros) $$ H
    iintro H
    iapply (wp_zeroP t k Q n (s + 1) (by omega)) $$ [H]
    · unfold ZeroTo
      iexists _
      isplitr; swap; · iexact H
      ipureintro
      intro j hj
      by_cases hm : j ∈ (Rect.unit (s := S65536) (k0_off3 t (BitVec.ofNat 32 (Fin.ofNat 8 s).val)) S16.size (k0_off3_inb t (Fin.ofNat 8 s))).set
      · obtain ⟨p, rfl⟩ := LoadRect.exists_idx_of_mem _ hm
        exact Rect.overlay_emb _ X zeros p
      · rw [Rect.overlay_of_not_mem _ _ _ hm]
        refine hX j ?_
        by_contra hlt
        refine hm (Rect.mem_set_unit.mpr fun a => ?_)
        fin_cases a
        rw [k0_off3_eq]
        show 128 * t.val + 16 * (s % 8) ≤ (j 0).val ∧ (j 0).val < 128 * t.val + 16 * (s % 8) + 16
        omega
    · iexact Hk

theorem trips1 : k0_t1_loop.trips = 512 := by decide

theorem wp_zeroLoop {α : Type} (k : BitVec 32 → TP F i α) (Q : α → sProp 𝕄) :
    iprop(∃ X, own1 d i tab X)
      ⊢ iprop((own1 d i tab (fun _ => (Scalar.ofBits .f32 0x00000000#32 : F .f32)) -∗ tileWp d i (k 0#32) Q)
        -∗ tileWp d i (Scf.Loop.for k0_t1_loop k0_t1_ok 0#32 (fun t _ => zeroP i tab t 8 0 >>= fun _ => pure 0#32) >>= k) Q) := by
  iintro ⟨%X, H⟩ Hk
  iapply (Scf.wp_for_bind _ _ _ _ _ _ k0_t1_ok 0#32 _ (fun t c => iprop(⌜c = 0#32⌝ ∗ ZeroTo d i tab (128 * t))) ?_) $$ [H]
  · intro t c
    iintro ⟨-, H⟩
    iapply (wp_zeroP d i tab t (fun _ => Prog.ret 0#32) _ 8 0 rfl) $$ H
    iintro H
    unfold tileWp
    rw [wp_ret]
    imodintro
    isplitr; · ipureintro; rfl
    rw [show 128 * (t.val + 1) = 128 * t.val + 128 by omega]
    iexact H
  · isplitr; · ipureintro; rfl
    unfold ZeroTo
    iexists X
    isplitr; · ipureintro; intro j hj; omega
    iexact H
  · iintro %c ⟨%hc, H⟩
    subst hc
    have ht : Scf.trips k0_t1_loop.lb k0_t1_loop.ub k0_t1_loop.st = 512 := trips1
    rw [ht]
    unfold ZeroTo
    icases H with ⟨%Y, %hY, H⟩
    obtain rfl : Y = fun _ => Scalar.ofBits .f32 0x00000000#32 := funext fun j => hY j (j 0).isLt
    iapply Hk; iexact H

/-! ## The summing loops -/

/-- Place `n` of the table, as its index. -/
def atT (n : Nat) : S65536.Idx := fun a => ⟨n % S65536.size a, Nat.mod_lt _ (by fin_cases a; decide)⟩

/-- The word at `o` of the rows `s`, `s + 1`, …, `n` of them, added to `v` one after the other. -/
def colS (X : S65536.Idx → F .f32) (o : Nat) : Nat → Nat → F .f32 → F .f32
  | 0, _, v => v
  | n + 1, s, v => colS X o n (s + 1) (FloatOps.addf v (X (atT (4096 * s + o))))

/-- A tile's four rows: each word is the sum of the table's sixteen rows at its place. -/
def resT (X : S65536.Idx → F .f32) : S4x1024.Idx → F .f32 := fun j => colS X (1024 * (j 0).val + (j 1).val) 16 0 (Scalar.ofBits .f32 0x00000000#32)

theorem wp_sumP (X : S65536.Idx → Elt F .f32) (off : Fin 16 → Fin 1 → Nat) (hoff : ∀ l, ∀ a, off l a + S16.size a ≤ S65536.size a) (o : Nat)
    (hso : ∀ l : Fin 16, off l 0 = 4096 * l.val + o) {α : Type} (k : FVec F S16 .f32 → TP F i α) (Q : α → sProp 𝕄) :
    ∀ n s : Nat, s + n = 16 → ∀ v : FVec F S16 .f32,
    own1 d i tab X ⊢ iprop((own1 d i tab X -∗ tileWp d i (k fun p => colS X (o + (p 0).val) n s (v p)) Q) -∗ tileWp d i (sumP i tab off hoff n s v >>= k) Q)
  | 0, s, hs, v => by
    simp only [sumP, pure_bind, colS]
    iintro H Hk
    iapply Hk; iexact H
  | n + 1, s, hs, v => by
    simp only [sumP, bind_assoc]
    iintro H Hk
    iapply (wp_loadRect d i tab _ X) $$ H
    iintro H
    have hv : (addf v fun p => X ((Rect.unit (s := S65536) (off (Fin.ofNat 16 s)) S16.size (hoff (Fin.ofNat 16 s))).emb p) : FVec F S16 .f32)
        = fun p => FloatOps.addf (v p) (X (atT (4096 * s + (o + (p 0).val)))) := by
      funext p
      refine congrArg (FloatOps.addf (v p)) (congrArg X ?_)
      funext a
      fin_cases a
      apply Fin.ext
      have hp : (p 0).val < 16 := (p 0).isLt
      have h1 := hoff (Fin.ofNat 16 s) 0
      rw [hso] at h1
      have h2 : (Fin.ofNat 16 s).val = s := Nat.mod_eq_of_lt (by omega)
      rw [h2] at h1
      refine (ValueKit.rect_emb_unit_val (s := S65536) (off (Fin.ofNat 16 s)) S16.size (hoff (Fin.ofNat 16 s)) p 0).trans ?_
      rw [hso, h2]
      show _ = (4096 * s + (o + (p 0).val)) % 65536
      have h3 : 4096 * s + o + 16 ≤ 65536 := h1
      rw [Nat.mod_eq_of_lt (by omega)]; omega
    have hr := wp_sumP X off hoff o hso k Q n (s + 1) (by omega)
      (addf v fun p => X ((Rect.unit (s := S65536) (off (Fin.ofNat 16 s)) S16.size (hoff (Fin.ofNat 16 s))).emb p))
    rw [show (fun p : S16.Idx => colS X (o + (p 0).val) n (s + 1)
        ((addf v fun p => X ((Rect.unit (s := S65536) (off (Fin.ofNat 16 s)) S16.size (hoff (Fin.ofNat 16 s))).emb p) : FVec F S16 .f32) p))
        = fun p => colS X (o + (p 0).val) (n + 1) s (v p) from by rw [hv]; rfl] at hr
    iapply hr $$ H
    iexact Hk

variable (res : Memref sig .scVector .vmem S4x1024 .f32)

/-- The result's words before row `q`'s column `n` are the table's sums. -/
def DrainTo (X : S65536.Idx → Elt F .f32) (q n : Nat) : sProp 𝕄 :=
  iprop(∃ R, ⌜∀ j : S4x1024.Idx, ((j 0).val < q ∨ ((j 0).val = q ∧ (j 1).val < n)) → R j = resT X j⌝ ∗ own1 d i tab X ∗ own1 d i res R)

theorem shapeCast_row (v : FVec F S16 .f32) (p : S1x16.Idx) : shapeCast S1x16 v shapeCasts_S16_S1x16 p = v (ValueIdx.ix1 (n := 16) (p 1)) := by
  have h := ValueIdx.shapeCast_a_1a_apply (a := 16) v shapeCasts_S16_S1x16 (p 0) (p 1)
  rw [← h]
  exact congrArg _ (funext fun a => by fin_cases a <;> rfl)

theorem wp_drainP (X : S65536.Idx → Elt F .f32) (q n : Nat) (off : Fin 16 → Fin 1 → Nat) (hoff : ∀ l, ∀ a, off l a + S16.size a ≤ S65536.size a)
    (o : Fin 2 → Nat) (ho : ∀ a, o a + S1x16.size a ≤ S4x1024.size a) (hso : ∀ l : Fin 16, off l 0 = 4096 * l.val + (1024 * q + n))
    (h0 : o 0 = q) (h1 : o 1 = n) (Q : BitVec 32 → sProp 𝕄) :
    DrainTo d i tab res X q n ⊢ iprop((DrainTo d i tab res X q (n + 16) -∗ Q 0#32) -∗ tileWp d i (drainP i tab res off hoff o ho) Q) := by
  unfold DrainTo drainP
  iintro ⟨%R, %hR, Ht, Hr⟩ Hk
  iapply (wp_sumP d i tab X off hoff (1024 * q + n) hso _ _ 16 0 rfl) $$ Ht
  iintro Ht
  iapply (wp_loadRect d i res _ R) $$ Hr
  iintro Hr
  iapply (wp_storeRect d i res _ R) $$ Hr
  iintro Hr
  unfold tileWp
  rw [show (pure 0#32 : TP F i (BitVec 32)) = Prog.ret 0#32 from rfl, wp_ret]
  imodintro
  iapply Hk
  iexists _
  isplitr; swap
  · isplitl [Ht]; · iexact Ht
    iexact Hr
  ipureintro
  intro j hj
  by_cases hm : j ∈ (Rect.unit (s := S4x1024) o S1x16.size ho).set
  · obtain ⟨p, rfl⟩ := LoadRect.exists_idx_of_mem _ hm
    refine (Rect.overlay_emb _ R _ p).trans ?_
    rw [shapeCast_row]
    have e0 := ValueKit.rect_emb_unit_val (s := S4x1024) o S1x16.size ho p 0
    have e1 := ValueKit.rect_emb_unit_val (s := S4x1024) o S1x16.size ho p 1
    have hp : (p 0).val < 1 := (p 0).isLt
    unfold resT
    rw [show (LoadRect.idx _ p : S4x1024.Idx) = (Rect.unit (s := S4x1024) o S1x16.size ho).emb p from rfl]
    rw [e0, e1, h0, h1]
    congr 1
    show 1024 * q + n + (p 1).val = _
    omega
  · rw [Rect.overlay_of_not_mem _ _ _ hm]
    refine hR j ?_
    rcases hj with h | ⟨h, hlt⟩
    · exact .inl h
    · refine .inr ⟨h, ?_⟩
      by_contra hge
      refine hm (Rect.mem_set_unit.mpr fun a => ?_)
      fin_cases a
      · show o 0 ≤ (j 0).val ∧ (j 0).val < o 0 + 1
        omega
      · show o 1 ≤ (j 1).val ∧ (j 1).val < o 1 + 16
        omega

/-- One summing loop, over any sixty-four trips whose offsets are the row's. -/
theorem wp_drainLoop (X : S65536.Idx → Elt F .f32) (q : Nat) (l : Scf.Loop 32) (hok : l.OK) (hl : l.trips = 64)
    (off : Fin l.trips → Fin 16 → Fin 1 → Nat) (hoff : ∀ k l, ∀ a, off k l a + S16.size a ≤ S65536.size a)
    (o : Fin l.trips → Fin 2 → Nat) (ho : ∀ k, ∀ a, o k a + S1x16.size a ≤ S4x1024.size a)
    (hso : ∀ k l, off k l 0 = 4096 * l.val + (1024 * q + 16 * k.val)) (h0 : ∀ k, o k 0 = q) (h1 : ∀ k, o k 1 = 16 * k.val)
    {α : Type} (k : BitVec 32 → TP F i α) (Q : α → sProp 𝕄) :
    DrainTo d i tab res X q 0 ⊢ iprop((DrainTo d i tab res X (q + 1) 0 -∗ tileWp d i (k 0#32) Q)
      -∗ tileWp d i (Scf.Loop.for l hok 0#32 (fun t _ => drainP i tab res (off t) (hoff t) (o t) (ho t)) >>= k) Q) := by
  iintro H Hk
  iapply (Scf.wp_for_bind _ _ _ l.lb l.ub l.st hok 0#32 _ (fun t c => iprop(⌜c = 0#32⌝ ∗ DrainTo d i tab res X q (16 * t))) ?_) $$ [H]
  · intro t c
    iintro ⟨-, H⟩
    iapply (wp_drainP d i tab res X q (16 * t.val) (off t) (hoff t) (o t) (ho t) (hso t) (h0 t) (h1 t)) $$ H
    iintro H
    isplitr; · ipureintro; rfl
    rw [show 16 * (t.val + 1) = 16 * t.val + 16 by omega]
    iexact H
  · isplitr; · ipureintro; rfl
    iexact H
  · iintro %c ⟨%hc, H⟩
    subst hc
    have ht : Scf.trips l.lb l.ub l.st = 64 := hl
    rw [ht]
    unfold DrainTo
    icases H with ⟨%R, %hR, H⟩
    iapply Hk
    iexists R
    isplitr; swap; · iexact H
    ipureintro
    intro j hj
    have := (j 1).isLt
    refine hR j ?_
    have h1024 : (j 1).val < 1024 := (j 1).isLt
    omega

theorem trips5 : k0_t5_loop.trips = 64 := by decide
theorem trips6 : k0_t6_loop.trips = 64 := by decide
theorem trips7 : k0_t7_loop.trips = 64 := by decide
theorem trips8 : k0_t8_loop.trips = 64 := by decide

theorem wp_tailP (X : S65536.Idx → Elt F .f32) (c : Acc F) (hc : LabOK c.1) {α : Type} (k : PUnit → TP F i α) (Q : α → sProp 𝕄) :
    iprop(own1 d i tab X ∗ ∃ R, own1 d i res R)
      ⊢ iprop(((own1 d i tab (scatV c (fun _ => 1#1) X) ∗ own1 d i res (resT (scatV c (fun _ => 1#1) X))) -∗ tileWp d i (k ⟨⟩) Q)
        -∗ tileWp d i (tailP i tab res v6c c >>= k) Q) := by
  unfold tailP
  simp only [bind_assoc]
  iintro ⟨Ht, %R, Hr⟩ Hk
  iapply (wp_scat4 d i tab X c hc) $$ Ht
  iintro Ht
  iapply (wp_drainLoop d i tab res (scatV c (fun _ => 1#1) X) 0 k0_t5_loop k0_t5_ok trips5
    (fun k l => k0_off8 k (BitVec.ofNat 32 (4096 * l.val))) k0_off8_inb k0_off9 k0_off9_inb
    (fun k l => by rw [k0_off8_eq]; show 4096 * l.val + 16 * k.val = _; omega) (fun k => by rw [k0_off9_eq]; rfl) (fun k => by rw [k0_off9_eq]; rfl)) $$ [Ht Hr]
  · unfold DrainTo
    iexists R
    isplitr; · ipureintro; intro j hj; omega
    isplitl [Ht]; · iexact Ht
    iexact Hr
  iintro H
  iapply (wp_drainLoop d i tab res (scatV c (fun _ => 1#1) X) 1 k0_t6_loop k0_t6_ok trips6
    (fun k l => k0_off10 k (BitVec.ofNat 32 (1024 + 4096 * l.val))) k0_off10_inb k0_off11 k0_off11_inb
    (fun k l => by rw [k0_off10_eq]; show 4096 * l.val + 16 * k.val + 1024 = _; omega) (fun k => by rw [k0_off11_eq]; rfl) (fun k => by rw [k0_off11_eq]; rfl)) $$ H
  iintro H
  iapply (wp_drainLoop d i tab res (scatV c (fun _ => 1#1) X) 2 k0_t7_loop k0_t7_ok trips7
    (fun k l => k0_off12 k (BitVec.ofNat 32 (2048 + 4096 * l.val))) k0_off12_inb k0_off13 k0_off13_inb
    (fun k l => by rw [k0_off12_eq]; show 4096 * l.val + 16 * k.val + 2048 = _; omega) (fun k => by rw [k0_off13_eq]; rfl) (fun k => by rw [k0_off13_eq]; rfl)) $$ H
  iintro H
  iapply (wp_drainLoop d i tab res (scatV c (fun _ => 1#1) X) 3 k0_t8_loop k0_t8_ok trips8
    (fun k l => k0_off14 k (BitVec.ofNat 32 (3072 + 4096 * l.val))) k0_off14_inb k0_off15 k0_off15_inb
    (fun k l => by rw [k0_off14_eq]; show 4096 * l.val + 16 * k.val + 3072 = _; omega) (fun k => by rw [k0_off15_eq]; rfl) (fun k => by rw [k0_off15_eq]; rfl)) $$ H
  unfold DrainTo
  iintro ⟨%R', %hR, Ht, Hr⟩
  obtain rfl : R' = resT (scatV c (fun _ => 1#1) X) := funext fun j => hR j (.inl (j 0).isLt)
  iapply Hk
  isplitl [Ht]; · iexact Ht
  iexact Hr

end

end Cert.Proof

end
-- ==== Proof.Tile.lean ====
/-
  A tile's whole task: from its scratch at anything and its shares of the arguments, to its four rows at the sums of its points.
-/
module

public import proofs.«01_k».proof.Proof.Pair
public import proofs.«01_k».proof.Proof.Table

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

section
variable (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S128x1024 .f32) (harg6 : arg6.IsWhole) (arg7 : Memref sig .scVector .vmem S65536 .f32) (harg7 : arg7.IsWhole) (arg8 : Memref sig .scVector .vmem S4x1024 .f32) (harg8 : arg8.IsWhole) (arg9 : Memref sig .scVector .vmem S4000 .i32) (harg9 : arg9.IsWhole) (arg10 : Memref sig .scVector .vmem S4000 .f32) (harg10 : arg10.IsWhole) (arg11 : Memref sig .scVector .vmem S4000 .f32) (harg11 : arg11.IsWhole) (arg12 : Memref sig .scVector .vmem S4000 .f32) (harg12 : arg12.IsWhole) (arg13 : Memref sig .scVector .vmem S4000 .i32) (harg13 : arg13.IsWhole) (arg14 : Memref sig .scVector .vmem S4000 .f32) (harg14 : arg14.IsWhole) (arg15 : Memref sig .scVector .vmem S4000 .f32) (harg15 : arg15.IsWhole) (arg16 : Memref sig .scVector .vmem S4000 .f32) (harg16 : arg16.IsWhole) (arg17 arg18 v53_r0 : DmaSems sig S_)
variable (d : Dev nD) (A : Args F) (qA qB : PosShare TreeShare) (N : Nat)
variable {O : CellTallies nD τ sig (HIx 1)} (hO : ∀ g, O g none = 0) (W : Waits sig (HIx 1))

/-- A tile's rows of the kernel's result. -/
abbrev outRect : Rect S128x1024 := Rect.unit (s := S128x1024) (k0_off16 i) S4x1024.size (k0_off16_inb i)
abbrev outM : Memref sig .scVector .hbm S4x1024 .f32 := arg6.slice (outRect i) (fun _ => rfl)

/-- The copy of the result into the tile's rows, and the wait for it. -/
theorem wp_outCopy (hO : ∀ g, O g none = 0) (hN : 0 < (outM i arg6).view.dmaCredit) (R : S4x1024.Idx → Elt F .f32)
    (hs : arg8.view.WordExact) (hd hd' : (outM i arg6).view.WordExact) {α : Type} (k : PUnit → TP F i α) (Q : α → sProp 𝕄) :
    iprop(own1 d i arg8 R ∗ (∃ f, owns (thr d i) (outM i arg6) fullShare f) ∗ semVal (thr d i, .dma v53_r0.sem) 0 ∗ owesN d i O W ∗ Lv)
      ⊢ iprop((iprop(own1 d i arg8 R ∗ owns (thr d i) (outM i arg6) fullShare R ∗ semVal (thr d i, .dma v53_r0.sem) 0 ∗ owesN d i O W) -∗ tileWp d i (k ⟨⟩) Q)
        -∗ tileWp d i (Prog.lift (.enqueueDma arg8 (.here (outM i arg6)) (.dma v53_r0.sem) hs hd ⟨Or.inl rfl, trivial⟩) >>= fun _ =>
            Prog.lift (.waitDma2 v53_r0.sem arg8 (outM i arg6) hs hd') >>= k) Q) := by
  iintro ⟨Hr, ⟨%f, Ho⟩, Hv, HO, #Hlv⟩ Hk
  imod (Transfers.batch_alloc' (Lvl := ℕ) EC (c := thr d i) none (outM i arg6).view.dmaCredit
    (fun _ : Fin 1 => iprop(owns (thr d i) (outM i arg6) fullShare R ∗ own1 d i arg8 R)) (sm := .dma v53_r0.sem) (E := Set.univ)) $$ Hv with HB
  ihave Hr := (show own1 d i arg8 R ⊢ iprop(∃ f, ⌜arg8.view.read (Elt F) f = R⌝ ∗ arg8.view.loc (thr d i) ↦[arg8.view.set]{fullShare} f) from .rfl) $$ Hr
  ihave Ho := (show owns (thr d i) (outM i arg6) fullShare f
    ⊢ iprop(∃ g, ⌜(outM i arg6).view.read (Elt F) g = f⌝ ∗ (outM i arg6).view.loc (thr d i) ↦[(outM i arg6).view.set]{fullShare} g) from .rfl) $$ Ho
  icases Hr with ⟨%fs, %hfs, Hr⟩
  icases Ho with ⟨%fb, %hfb, Ho⟩
  iapply (Transfers.wp_dmaBatch (defs := defs₀ (F := F)) EC 𝒱₀ (thr d i) none (src := arg8) (dst := outM i arg6)
    (via := .same) (sm := .dma v53_r0.sem) (hsrc := hs) (hdst := hd) (hsem := ⟨Or.inl rfl, trivial⟩) (Q := Q)
    (D := fun _ : Fin 1 => iprop(owns (thr d i) (outM i arg6) fullShare R ∗ own1 d i arg8 R)) (j := 0) (u := 0)
    none (outM i arg6).view.dmaCredit rfl (Finset.Subset.refl _) (by decide) (Nat.zero_le _) (fs := fs) (fd := fb) (q := fullShare) ?_) $$ [Hr Ho HB]
  · unfold own1 owns
    iintro ⟨Hd, Hs⟩
    isplitl [Hd]
    · iexists _
      isplitr; swap; · iexact Hd
      ipureintro
      rw [View.read_write_univ]; exact hfs
    · iexists fs
      isplitr; · ipureintro; exact hfs
      iexact Hs
  · isplitl [Hr]; · iexact Hr
    isplitl [Ho]; · iexact Ho
    iexact HB
  iintro HB
  unfold owesN
  icases HO with ⟨%W', %hW, HO⟩
  ihave Hmw := ((K (F := F)).mayWait_none (thr := thr d i) (.dma v53_r0.sem) hO) $$ Hlv
  iapply (Transfers.wp_waitBatchLastO (defs := defs₀ (F := F)) EC 𝒱₀ (thr d i) none (n := 1) (u := 0) (k := k) (Q := Q) none rfl hN (by omega)) $$ [HB HO Hmw]
  · isplitl [HB]; · iexact HB
    isplitl [HO]; · iexact HO
    iexact Hmw
  iintro ⟨HB, Hv, HO⟩
  ihave HB := (show bigSep Finset.univ (fun _ : Fin 1 => iprop(owns (thr d i) (outM i arg6) fullShare R ∗ own1 d i arg8 R))
      ⊢ iprop(owns (thr d i) (outM i arg6) fullShare R ∗ own1 d i arg8 R) from
    BIBase.Entails.of_eq (bigSep_univ_of_subsingleton (0 : Fin 1))) $$ HB
  icases HB with ⟨Ho, Hr⟩
  iapply Hk
  isplitl [Hr]; · iexact Hr
  isplitl [Ho]; · iexact Ho
  isplitl [Hv]; · iexact Hv
  iexists _
  isplitr; swap; · iexact HO
  ipureintro
  intro p hp
  rcases Finset.mem_insert.mp hp with rfl | hp
  · exact .inr rfl
  · exact hW p hp

/-- What a tile's table holds at the end. -/
def tabF (A : Args F) (w : Nat) : S65536.Idx → Elt F .f32 := scatV (stN A w (250 * (2 * 25))).2 (fun _ => 1#1) (stN A w (250 * (2 * 25))).1

theorem off1_at (r : Fin 2) : k0_off1 i (BitVec.ofNat 32 (4000 * r.val)) = coff (wid i) r.val :=
  (k0_off1_eq i r).trans (by unfold coff wid; congr 1; omega)
theorem off2_at (r : Fin 2) : k0_off2 i (BitVec.ofNat 32 (4000 * r.val)) = coff (wid i) r.val :=
  (k0_off2_eq i r).trans (by unfold coff wid; congr 1; omega)

theorem wp_ker (hO : ∀ g, O g none = 0) (hA : A.OK) (hN0 : 0 < N) (hNo : 0 < (outM i arg6).view.dmaCredit)
    (hN9 : arg9.view.dmaCredit = N) (hN10 : arg10.view.dmaCredit = N) (hN11 : arg11.view.dmaCredit = N) (hN12 : arg12.view.dmaCredit = N)
    (hN13 : arg13.view.dmaCredit = N) (hN14 : arg14.view.dmaCredit = N) (hN15 : arg15.view.dmaCredit = N) (hN16 : arg16.view.dmaCredit = N) :
    iprop((∃ X, own1 d i arg7 X) ∗ (∃ R, own1 d i arg8 R) ∗ Idle d i A arg2 arg3 arg4 arg5 arg9 arg10 arg11 arg12 qA arg17 ∗ Idle d i A arg2 arg3 arg4 arg5 arg13 arg14 arg15 arg16 qB arg18
        ∗ semVal (thr d i, .dma v53_r0.sem) 0 ∗ (∃ f, owns (thr d i) (outM i arg6) fullShare f) ∗ owesN d i O W ∗ Lv)
      ⊢ tileWp d i (kerP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0)
          (fun _ => iprop((∃ X, own1 d i arg7 X) ∗ (∃ R, own1 d i arg8 R) ∗ Idle d i A arg2 arg3 arg4 arg5 arg9 arg10 arg11 arg12 qA arg17 ∗ Idle d i A arg2 arg3 arg4 arg5 arg13 arg14 arg15 arg16 qB arg18
            ∗ semVal (thr d i, .dma v53_r0.sem) 0 ∗ owns (thr d i) (outM i arg6) fullShare (resT (tabF A (wid i))) ∗ owesN d i O W)) := by
  unfold kerP
  iintro ⟨Ht, Hr, HA, HB, Hv, Ho, HO, #Hlv⟩
  iapply (wp_start4 d i A arg2 arg3 arg4 arg5 arg9 arg10 arg11 arg12 qA arg17 N harg9 harg10 harg11 harg12 hN9 hN10 hN11 hN12
    (coff (wid i) 0) (k0_off1 i 0#32) (k0_off2 i 0#32) (coff_inb (wid_lt i) (by decide)) (off1_at i 0) (off2_at i 0) (k0_off1_inb i 0) (k0_off2_inb i 0)) $$ HA
  iintro HA
  iapply (wp_zeroLoop d i arg7) $$ Ht
  iintro Ht
  iapply (wp_start4 d i A arg2 arg3 arg4 arg5 arg13 arg14 arg15 arg16 qB arg18 N harg13 harg14 harg15 harg16 hN13 hN14 hN15 hN16
    (coff (wid i) 1) (k0_off1 i 4000#32) (k0_off2 i 4000#32) (coff_inb (wid_lt i) (by decide)) (off1_at i 1) (off2_at i 1) (k0_off1_inb i 1) (k0_off2_inb i 1)) $$ HB
  iintro HB
  iapply (Scf.wp_for_bind _ _ _ k0_t2_loop.lb k0_t2_loop.ub k0_t2_loop.st k0_t2_ok ((broadcast S16 0#32, zeros, zeros, zeros, zeros) : Acc F) _
    (fun k c => iprop(⌜c = (stN A (wid i) (250 * (2 * k))).2⌝ ∗ PairState i arg2 arg3 arg4 arg5 arg7 arg9 arg10 arg11 arg12 arg13 arg14 arg15 arg16 arg17 arg18 d A qA qB N O W k ∗ Lv)) ?_) $$ [Ht HA HB HO]
  · intro k c
    iintro ⟨%hc, H, #Hlv⟩
    subst hc
    iapply (wp_pairP i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v53_r0 d A qA qB N O W hO hA hN0 hN9 hN10 hN11 hN12 hN13 hN14 hN15 hN16 k)
    isplitl [H]; · iexact H
    iexact Hlv
  · isplitr; · ipureintro; rfl
    isplitl [Ht HA HB HO]; swap; · iexact Hlv
    unfold PairState SetAt
    rw [dif_pos (by decide), dif_pos (by decide)]
    isplitl [Ht]; · iexact Ht
    isplitl [HA]; · iexact HA
    isplitl [HB]; · iexact HB
    iexact HO
  iintro %c ⟨%hc, H, -⟩
  subst hc
  rw [show Scf.trips k0_t2_loop.lb k0_t2_loop.ub k0_t2_loop.st = 25 from trips2]
  unfold PairState SetAt
  rw [dif_neg (by decide), dif_neg (by decide)]
  icases H with ⟨Ht, HA, HB, HO⟩
  iapply (wp_tailP d i arg7 arg8 _ _ (stN_lab A _ hA _)) $$ [Ht Hr]
  · isplitl [Ht]; · iexact Ht
    iexact Hr
  iintro ⟨Ht, Hr⟩
  iapply (wp_outCopy i arg6 arg8 v53_r0 d W hO hNo (resT (tabF A (wid i))) _ _ _) $$ [Hr Ho Hv HO]
  · isplitl [Hr]; · iexact Hr
    isplitl [Ho]; · iexact Ho
    isplitl [Hv]; · iexact Hv
    isplitl [HO]; · iexact HO
    iexact Hlv
  iintro ⟨Hr, Ho, Hv, HO⟩
  unfold tileWp
  rw [show (pure ⟨⟩ : TP F i PUnit) = Prog.ret ⟨⟩ from rfl, wp_ret]
  imodintro
  isplitl [Ht]; · iexists _; iexact Ht
  isplitl [Hr]; · iexists _; iexact Hr
  isplitl [HA]; · iexact HA
  isplitl [HB]; · iexact HB
  isplitl [Hv]; · iexact Hv
  isplitl [Ho]; · iexact Ho
  iexact HO

end

end Cert.Proof

end
-- ==== Proof.Launch.lean ====
/-
  The call of the tiles: what each is handed and hands back, and the tile's task at the launch's own statement of it.
-/
module

public import proofs.«01_k».proof.Proof.Tile
public import Idealize.ShloMosaic.Lib.MemrefSat

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev mx : Memref sig .scVector .hbm S6400000 .f32 := Memref.whole main_v6_scv
abbrev my : Memref sig .scVector .hbm S6400000 .f32 := Memref.whole main_v11_scv
abbrev mz : Memref sig .scVector .hbm S6400000 .f32 := Memref.whole main_v16_scv
abbrev ml : Memref sig .scVector .hbm S6400000 .i32 := Memref.whole main_arg3_scv
abbrev mo : Memref sig .scVector .hbm S128x1024 .f32 := Memref.whole main_v17_scv
abbrev wT : Memref sig .scVector .vmem S65536 .f32 := Memref.whole cc0_scratch0
abbrev wR : Memref sig .scVector .vmem S4x1024 .f32 := Memref.whole cc0_scratch1
abbrev wA0 : Memref sig .scVector .vmem S4000 .i32 := Memref.whole cc0_scratch2
abbrev wA1 : Memref sig .scVector .vmem S4000 .f32 := Memref.whole cc0_scratch3
abbrev wA2 : Memref sig .scVector .vmem S4000 .f32 := Memref.whole cc0_scratch4
abbrev wA3 : Memref sig .scVector .vmem S4000 .f32 := Memref.whole cc0_scratch5
abbrev wB0 : Memref sig .scVector .vmem S4000 .i32 := Memref.whole cc0_scratch6
abbrev wB1 : Memref sig .scVector .vmem S4000 .f32 := Memref.whole cc0_scratch7
abbrev wB2 : Memref sig .scVector .vmem S4000 .f32 := Memref.whole cc0_scratch8
abbrev wB3 : Memref sig .scVector .vmem S4000 .f32 := Memref.whole cc0_scratch9

/-- A tile's share of each argument. -/
def qT (i : grid0.Coords) : PosShare TreeShare := Transfers.dealOf (Transfers.dealOf fullShare Finset.univ (i 0)) Finset.univ (i 1)

section
variable (A : Dev nD → Args F) (d : Dev nD) (i : grid0.Coords)

/-- What a tile is handed: its shares of the arguments, and its rows of the result at anything. -/
def tileIn : sProp 𝕄 := iprop(Srcs d i (A d) mx my mz ml (qT i) ∗ ∃ f, owns (thr d i) (outM i mo) fullShare f)
/-- What it hands back: the shares, and its rows at the sums of its points. -/
def tileOut : sProp 𝕄 := iprop(Srcs d i (A d) mx my mz ml (qT i) ∗ owns (thr d i) (outM i mo) fullShare (resT (tabF (A d) (wid i))))

instance tileIn_storable : BI.Storable (upEmb : UEmb _ 𝕄) (tileIn A d i) := by unfold tileIn Srcs srcOwn; infer_instance
instance tileOut_storable : BI.Storable (upEmb : UEmb _ 𝕄) (tileOut A d i) := by unfold tileOut Srcs srcOwn; infer_instance

def coordsV (c : Fin (grid0.bound 0)) (s : Fin (grid0.bound 1)) : grid0.Coords :=
  fun | 0 => c | 1 => s | ⟨_ + 2, h⟩ => absurd h (Nat.not_lt.2 (Nat.le_add_left _ _))

/-- What a SparseCore is handed: what its tiles are. -/
def coreIn (c : Fin (grid0.bound 0)) : sProp 𝕄 := bigSep Finset.univ fun s : Fin (grid0.bound 1) => tileIn A d (coordsV c s)
/-- What it hands back: what its tiles do. -/
def coreOut (c : Fin (grid0.bound 0)) : sProp 𝕄 := bigSep Finset.univ fun s : Fin (grid0.bound 1) => tileOut A d (coordsV c s)

instance coreIn_storable (c : Fin (grid0.bound 0)) : BI.Storable (upEmb : UEmb _ 𝕄) (coreIn A d c) := by unfold coreIn; exact BI.Storable.bigSep _ _ _
instance coreOut_storable (c : Fin (grid0.bound 0)) : BI.Storable (upEmb : UEmb _ 𝕄) (coreOut A d c) := by unfold coreOut; exact BI.Storable.bigSep _ _ _

/-- What the call's handshakes carry. -/
def P : (K (F := F)).Pay (nD := nD) (Val := Elt F) (Name := ℕ) (U := UU) where
  st := fun q d c => match q with | 0 => coreIn A d c
  dn := fun q d c => match q with | 0 => coreOut A d c
  go := fun q d c s => match q with | 0 => tileIn A d (coordsV c s)
  td := fun q d c s => match q with | 0 => tileOut A d (coordsV c s)
  x := fun _ _ => iprop(emp)

instance P_storable : (P (F := F) A).IsStorable where
  st q d c := match q with | 0 => coreIn_storable A d c
  dn q d c := match q with | 0 => coreOut_storable A d c
  go q d c s := match q with | 0 => tileIn_storable A d (coordsV c s)
  td q d c s := match q with | 0 => tileOut_storable A d (coordsV c s)

theorem vecSplit : (K (F := F)).VecSplit' (P A) 0 := by
  intro d c
  show coreIn A d c ⊢ |={Set.univ}=> iprop(
      (bigSep Finset.univ fun s : Fin (grid0.bound 1) => tileIn A d (coordsV c s))
      ∗ ((bigSep Finset.univ fun s : Fin (grid0.bound 1) => tileOut A d (coordsV c s))
          -∗ coreOut A d c))
  unfold coreIn coreOut
  iintro H
  imodintro
  isplitl [H]; · iexact H
  iintro H; iexact H

/-! ## A tile's scratch among its own buffers and semaphores -/

/-- The tile's scratch buffers. -/
def scr : Finset (Ref sig .scVector) :=
  {cc0_scratch0, cc0_scratch1, cc0_scratch2, cc0_scratch3, cc0_scratch4, cc0_scratch5, cc0_scratch6, cc0_scratch7, cc0_scratch8, cc0_scratch9}
/-- Its semaphores. -/
def scrSems : Finset (SemLoc sig) := {.dma cc0_scratch10.sem, .dma cc0_scratch11.sem, .dma cc0_scoped0.sem}

def refsEmb : Ref sig .scVector ↪ DevRef τ sig := ⟨(thr d i).2.devRef, Proc.devRef_injective _⟩
def semsEmb : SemLoc sig ↪ GSem nD τ sig := ⟨fun s => (thr d i, s), fun _ _ h => (Prod.mk.inj h).2⟩

theorem scr_sub : scr.map (refsEmb d i) ⊆ ownRefs (τ := τ) (thr d i).2 := by
  intro b hb
  obtain ⟨r, hr, rfl⟩ := Finset.mem_map.mp hb
  simp only [scr, Finset.mem_insert, Finset.mem_singleton] at hr
  rcases hr with rfl | rfl | rfl | rfl | rfl | rfl | rfl | rfl | rfl | rfl <;>
    exact SparseCore.Cfg.mem_ownRefs_of_owner (p := (thr d i).2) rfl

theorem scrSems_sub : scrSems.map (semsEmb d i) ⊆ ownCells (thr d i) := by
  intro b hb
  obtain ⟨r, hr, rfl⟩ := Finset.mem_map.mp hb
  refine mem_ownCells.mpr ⟨rfl, ?_⟩
  show r.isScoped .scVector = true
  revert hr; clear hb; revert r; decide

theorem ownBufs_tile : (ownBufs (thr d i) : sProp 𝕄)
    = iprop(((∃ f, own1 d i wT f) ∗ (∃ f, own1 d i wR f) ∗ (∃ f, own1 d i wA0 f) ∗ (∃ f, own1 d i wA1 f) ∗ (∃ f, own1 d i wA2 f) ∗ (∃ f, own1 d i wA3 f)
        ∗ (∃ f, own1 d i wB0 f) ∗ (∃ f, own1 d i wB1 f) ∗ (∃ f, own1 d i wB2 f) ∗ ∃ f, own1 d i wB3 f)
      ∗ bigSep (ownRefs (thr d i).2 \ scr.map (refsEmb d i)) fun b => iprop(∃ f, ((d, b) : Loc nD τ sig) ↦{fullShare} f)) := by
  unfold SparseCore.Cfg.ownBufs
  have h : ∀ r : Ref sig .scVector, iprop(∃ f, ((d, refsEmb d i r) : Loc nD τ sig) ↦{fullShare} f)
      = (iprop(∃ f, owns (thr d i) (Memref.whole r) fullShare f) : sProp 𝕄) := fun r => by simp only [owns_whole]; rfl
  refine (SparseCore.bigSep_sdiff_split' (scr_sub d i)).trans ?_
  rw [bigSep_map, bigSep_congr fun r _ => h r]
  unfold scr
  iterate 9 rw [SparseCore.bigSep_insert' (by decide)]
  rw [bigSep_singleton]; rfl

theorem ownSems0_tile : (ownSems0 (thr d i) : sProp 𝕄)
    = iprop((semVal (thr d i, .dma cc0_scratch10.sem) 0 ∗ semVal (thr d i, .dma cc0_scratch11.sem) 0 ∗ semVal (thr d i, .dma cc0_scoped0.sem) 0)
      ∗ bigSep (ownCells (thr d i) \ scrSems.map (semsEmb d i)) fun g => semVal g 0) := by
  unfold SparseCore.Cfg.ownSems0
  rw [SparseCore.bigSep_sdiff_split' (scrSems_sub d i), bigSep_map]
  unfold scrSems
  rw [SparseCore.bigSep_insert' (by decide), SparseCore.bigSep_insert' (by decide), bigSep_singleton]
  rfl

/-! ## The task -/

/-- The arguments' shares halved, one half for each of the two sets of buffers. -/
theorem srcs_halves (q : PosShare TreeShare) : Srcs d i (A d) mx my mz ml q
    ⊣⊢ iprop(Srcs d i (A d) mx my mz ml q.left ∗ Srcs d i (A d) mx my mz ml q.right) := by
  unfold Srcs srcOwn
  refine ⟨?_, ?_⟩
  · iintro ⟨Hl, Hx, Hy, Hz⟩
    ihave Hl := (owns_halves _ _ _ _).1 $$ Hl
    ihave Hx := (owns_halves _ _ _ _).1 $$ Hx
    ihave Hy := (owns_halves _ _ _ _).1 $$ Hy
    ihave Hz := (owns_halves _ _ _ _).1 $$ Hz
    icases Hl with ⟨Hl, Hl'⟩
    icases Hx with ⟨Hx, Hx'⟩
    icases Hy with ⟨Hy, Hy'⟩
    icases Hz with ⟨Hz, Hz'⟩
    isplitl [Hl Hx Hy Hz]
    · isplitl [Hl]; · iexact Hl
      isplitl [Hx]; · iexact Hx
      isplitl [Hy] <;> iassumption
    · isplitl [Hl']; · iexact Hl'
      isplitl [Hx']; · iexact Hx'
      isplitl [Hy'] <;> iassumption
  · iintro ⟨⟨Hl, Hx, Hy, Hz⟩, Hl', Hx', Hy', Hz'⟩
    isplitl [Hl Hl']; · iapply (owns_halves _ _ _ _).2; isplitl [Hl] <;> iassumption
    isplitl [Hx Hx']; · iapply (owns_halves _ _ _ _).2; isplitl [Hx] <;> iassumption
    isplitl [Hy Hy']; · iapply (owns_halves _ _ _ _).2; isplitl [Hy] <;> iassumption
    iapply (owns_halves _ _ _ _).2; isplitl [Hz] <;> iassumption

theorem tile_body (hA : (A d).OK) (O : CellTallies nD τ sig (HIx 1)) (W : Waits sig (HIx 1)) (hO : ∀ g, O g none = 0) :
    iprop(levAts (K (F := F)).L (K (F := F)).lev ∗ emp ∗ tileIn A d i ∗ scopedBufs (thr d i) ∗ scopedSems0 (thr d i) ∗ owes (thr d i) O W)
      ⊢ wp frame (wpE (defs₀ (F := F)) 𝒱₀ (thr d i) none) Set.univ
          (cc0_k i mx (Memref.isWhole_whole _) my (Memref.isWhole_whole _) mz (Memref.isWhole_whole _) ml (Memref.isWhole_whole _) mo (Memref.isWhole_whole _)
            wT (Memref.isWhole_whole _) wR (Memref.isWhole_whole _) wA0 (Memref.isWhole_whole _) wA1 (Memref.isWhole_whole _) wA2 (Memref.isWhole_whole _) wA3 (Memref.isWhole_whole _)
            wB0 (Memref.isWhole_whole _) wB1 (Memref.isWhole_whole _) wB2 (Memref.isWhole_whole _) wB3 (Memref.isWhole_whole _) cc0_scratch10 cc0_scratch11 cc0_scoped0)
          fun _ => iprop(tileOut A d i ∗ scopedBufs (thr d i) ∗ scopedSems0 (thr d i)
            ∗ ∃ W', ⌜∀ p ∈ W', p ∈ W ∨ p.2 = none⌝ ∗ owes (thr d i) O W') := by
  rw [cc0_k_eq, (K (F := F)).scopedBufs_V facts, SparseCore.Cfg.scopedSems0_V (Val := Elt F), ownSems0_tile, ownBufs_tile]
  unfold tileIn tileOut
  iintro ⟨#Hlv, -, ⟨Hs, Ho⟩, ⟨⟨Ht, Hr, Ha0, Ha1, Ha2, Ha3, Hb0, Hb1, Hb2, Hb3⟩, Hbufs⟩, ⟨⟨HsA, HsB, HsO⟩, Hsems⟩, HO⟩
  ihave Hs := (srcs_halves A d i (qT i)).1 $$ Hs
  icases Hs with ⟨HSA, HSB⟩
  have h := wp_ker i mx (Memref.isWhole_whole _) my (Memref.isWhole_whole _) mz (Memref.isWhole_whole _) ml (Memref.isWhole_whole _) mo (Memref.isWhole_whole _)
            wT (Memref.isWhole_whole _) wR (Memref.isWhole_whole _) wA0 (Memref.isWhole_whole _) wA1 (Memref.isWhole_whole _) wA2 (Memref.isWhole_whole _) wA3 (Memref.isWhole_whole _)
            wB0 (Memref.isWhole_whole _) wB1 (Memref.isWhole_whole _) wB2 (Memref.isWhole_whole _) wB3 (Memref.isWhole_whole _) cc0_scratch10 cc0_scratch11 cc0_scoped0
            d (A d) (qT i).left (qT i).right (wA0.view.dmaCredit) W hO hA (View.dmaCredit_pos _ (by decide)) (View.dmaCredit_pos _ (by decide)) rfl rfl rfl rfl rfl rfl rfl rfl
  iapply (wp_wand frame _ _) $$ [HSA HSB Ho Ht Hr Ha0 Ha1 Ha2 Ha3 Hb0 Hb1 Hb2 Hb3 HsA HsB HsO HO]
  · iapply h
    unfold Idle
    isplitl [Ht]; · iexact Ht
    isplitl [Hr]; · iexact Hr
    isplitl [HsA Ha0 Ha1 Ha2 Ha3 HSA]
    · isplitl [HsA]; · iexact HsA
      isplitl [Ha0 Ha1 Ha2 Ha3]
      · isplitl [Ha0]; · iexact Ha0
        isplitl [Ha1]; · iexact Ha1
        isplitl [Ha2] <;> iassumption
      iexact HSA
    isplitl [HsB Hb0 Hb1 Hb2 Hb3 HSB]
    · isplitl [HsB]; · iexact HsB
      isplitl [Hb0 Hb1 Hb2 Hb3]
      · isplitl [Hb0]; · iexact Hb0
        isplitl [Hb1]; · iexact Hb1
        isplitl [Hb2] <;> iassumption
      iexact HSB
    isplitl [HsO]; · iexact HsO
    isplitl [Ho]; · iexact Ho
    isplitl [HO]; swap; · iexact Hlv
    unfold owesN
    iexists W; isplitr; · ipureintro; exact fun _ h => Or.inl h
    iexact HO
  iintro %_ H
  unfold Idle owesN
  icases H with ⟨Ht, Hr, ⟨HsA, ⟨Ha0, Ha1, Ha2, Ha3⟩, HSA⟩, ⟨HsB, ⟨Hb0, Hb1, Hb2, Hb3⟩, HSB⟩, HsO, Ho, HO⟩
  isplitl [HSA HSB Ho]
  · isplitl [HSA HSB]
    · iapply (srcs_halves A d i (qT i)).2; isplitl [HSA] <;> iassumption
    iexact Ho
  isplitl [Ht Hr Ha0 Ha1 Ha2 Ha3 Hb0 Hb1 Hb2 Hb3 Hbufs]
  · isplitr [Hbufs]; swap; · iexact Hbufs
    isplitl [Ht]; · iexact Ht
    isplitl [Hr]; · iexact Hr
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hb2] <;> iassumption
  isplitl [HsA HsB HsO Hsems]
  · isplitr [Hsems]; swap; · iexact Hsems
    isplitl [HsA]; · iexact HsA
    isplitl [HsB] <;> iassumption
  iexact HO

end

theorem defs₀_vector (c : Fin τ.nSC) (s : Fin τ.nSub) :
    defs₀ (F := F) (.scVector c s) 0 ()
      = SparseCore.onTile hcore0 hsub0 (fun c s => cc0_k (coordsV c s)
          mx (Memref.isWhole_whole _) my (Memref.isWhole_whole _) mz (Memref.isWhole_whole _) ml (Memref.isWhole_whole _) mo (Memref.isWhole_whole _)
          wT (Memref.isWhole_whole _) wR (Memref.isWhole_whole _) wA0 (Memref.isWhole_whole _) wA1 (Memref.isWhole_whole _) wA2 (Memref.isWhole_whole _) wA3 (Memref.isWhole_whole _)
          wB0 (Memref.isWhole_whole _) wB1 (Memref.isWhole_whole _) wB2 (Memref.isWhole_whole _) wB3 (Memref.isWhole_whole _) cc0_scratch10 cc0_scratch11 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

-- the obligation, with the whole task's arguments in it, is unified past the default depth
set_option maxRecDepth 2048 in
theorem tileObl (A : Dev nD → Args F) (hA : ∀ d, (A d).OK) : (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body A d (coordsV ⟨_, hc.1⟩ ⟨_, hc.2⟩) (hA d) O W hO).trans (wp_mono frame _ _ fun _ => obl_post)

end Cert.Proof

end
-- ==== Proof.Deal.lean ====
/-
  The call's arrays among the tiles: each argument dealt into the tiles' shares, the result cut into the tiles' rows, and
  both put together again.
-/
module

public import proofs.«01_k».proof.Proof.Launch
public import Idealize.ShloMosaic.Lib.Memref

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- The tiles, by SparseCore and subcore. -/
abbrev Tiles : Type := Fin (grid0.bound 0) × Fin (grid0.bound 1)

abbrev co (t : Tiles) : grid0.Coords := coordsV t.1 t.2

/-- One statement per tile, by SparseCore and then by subcore. -/
theorem bigSep_tiles (Φ : Tiles → sProp 𝕄) :
    bigSep Finset.univ Φ = bigSep Finset.univ fun c : Fin (grid0.bound 0) => bigSep Finset.univ fun s : Fin (grid0.bound 1) => Φ (c, s) :=
  bigSep_univ_prod Φ

/-- A whole array dealt into the tiles' shares. -/
theorem deal (ℓ : Loc nD τ sig) (f : Buf (Elt F) ℓ) :
    (ℓ ↦{fullShare} f : sProp 𝕄) = bigSep Finset.univ fun t : Tiles => ℓ ↦{qT (co t)} f := by
  rw [bigSep_tiles, Transfers.pointsTo_deal (Finset.univ : Finset (Fin (grid0.bound 0))) ⟨⟨0, by decide⟩, Finset.mem_univ _⟩ fullShare]
  exact bigSep_congr fun c _ => Transfers.pointsTo_deal (Finset.univ : Finset (Fin (grid0.bound 1))) ⟨⟨0, by decide⟩, Finset.mem_univ _⟩ _

variable (A : Dev nD → Args F) (d : Dev nD)

/-- The four arguments dealt into the tiles' shares. -/
theorem deal_srcs :
    (iprop((((SparseCore.T d).loc main_arg3 ↦{fullShare} (A d).l)) ∗ ((SparseCore.T d).loc main_v6 ↦{fullShare} (A d).x) ∗ ((SparseCore.T d).loc main_v11 ↦{fullShare} (A d).y)
        ∗ ((SparseCore.T d).loc main_v16 ↦{fullShare} (A d).z)) : sProp 𝕄)
      = bigSep Finset.univ fun t : Tiles => Srcs d (co t) (A d) mx my mz ml (qT (co t)) := by
  unfold Srcs srcOwn
  simp only [owns_whole, bigSep_sep']
  rw [deal ((SparseCore.T d).loc main_arg3), deal ((SparseCore.T d).loc main_v6), deal ((SparseCore.T d).loc main_v11), deal ((SparseCore.T d).loc main_v16)]

def rowIx (k : Fin 4) (l : Fin 1024) : S4x1024.Idx := fun | ⟨0, _⟩ => k | ⟨1, _⟩ => l
/-- What the call leaves in the result: row `4 w + k` is component `k` of tile `w`'s sums. -/
def outV (A : Args F) : FVec F S128x1024 .f32 := fun j =>
  resT (tabF A ((j 0).val / 4)) (rowIx ⟨(j 0).val % 4, Nat.mod_lt _ (by decide)⟩ (j 1))

abbrev rc (t : Tiles) : Rect S128x1024 := outRect (co t)

theorem off_0 (t : Tiles) : k0_off16 (co t) 0 = 4 * wid (co t) := by
  rw [k0_off16_eq]; show 8 * _ + 4 * _ = _; unfold wid; omega
theorem off_1 (t : Tiles) : k0_off16 (co t) 1 = 0 := by rw [k0_off16_eq]; rfl

theorem wid_inj {t t' : Tiles} (h : wid (co t) = wid (co t')) : t = t' := by
  have h' : 2 * t.2.val + t.1.val = 2 * t'.2.val + t'.1.val := h
  have h1 : t.1.val < 2 := t.1.isLt
  have h2 : t'.1.val < 2 := t'.1.isLt
  exact Prod.ext (Fin.ext (by omega)) (Fin.ext (by omega))

theorem mem_rc (t : Tiles) (j : S128x1024.Idx) : j ∈ (rc t).set ↔ (j 0).val / 4 = wid (co t) := by
  rw [Rect.mem_set_unit]
  constructor
  · intro h
    have h0 := h 0
    rw [off_0] at h0
    have : S4x1024.size 0 = 4 := rfl
    omega
  · intro h a
    fin_cases a
    · show k0_off16 (co t) 0 ≤ (j 0).val ∧ (j 0).val < k0_off16 (co t) 0 + 4
      rw [off_0]; omega
    · show k0_off16 (co t) 1 ≤ (j 1).val ∧ (j 1).val < k0_off16 (co t) 1 + 1024
      rw [off_1]; exact ⟨Nat.zero_le _, by have : (j 1).val < 1024 := (j 1).isLt; omega⟩

theorem rc_disj (t t' : Tiles) (h : t ≠ t') : Disjoint (rc t).set (rc t').set :=
  Finset.disjoint_left.mpr fun j hj hj' => h (wid_inj (((mem_rc t j).mp hj).symm.trans ((mem_rc t' j).mp hj')))

theorem rc_cov : (Finset.univ : Finset Tiles).biUnion (fun t => (rc t).set) = Finset.univ := by
  refine Finset.eq_univ_of_forall fun j => Finset.mem_biUnion.mpr ?_
  have hj : (j 0).val < 128 := (j 0).isLt
  refine ⟨(⟨(j 0).val / 4 % 2, Nat.mod_lt _ (by decide)⟩, ⟨(j 0).val / 8, by show _ < 16; omega⟩), Finset.mem_univ _, (mem_rc _ j).mpr ?_⟩
  show _ = 2 * ((j 0).val / 8) + (j 0).val / 4 % 2
  omega

/-- A tile's rows of what the call leaves. -/
theorem outV_rc (A : Args F) (t : Tiles) : (fun j => outV A ((rc t).emb j)) = resT (tabF A (wid (co t))) := by
  funext j
  have h0 : ((rc t).emb j 0).val = 4 * wid (co t) + (j 0).val := by
    show k0_off16 (co t) 0 + 1 * (j 0).val = _
    rw [off_0]; omega
  have h1 : ((rc t).emb j 1).val = (j 1).val := by
    show k0_off16 (co t) 1 + 1 * (j 1).val = _
    rw [off_1]; omega
  have hj : (j 0).val < 4 := (j 0).isLt
  unfold outV
  rw [show ((rc t).emb j 0).val / 4 = wid (co t) by omega]
  congr 1
  funext a
  fin_cases a
  · exact Fin.ext (show ((rc t).emb j 0).val % 4 = (j 0).val by omega)
  · exact Fin.ext h1

/-- The result's points-to is the tiles' rows of it. -/
theorem cut (X : FVec F S128x1024 .f32) :
    ((SparseCore.T d).loc main_v17 ↦{fullShare} X : sProp 𝕄) = bigSep Finset.univ fun t : Tiles => owns (thr d (co t)) (outM (co t) mo) fullShare (fun j => X ((rc t).emb j)) := by
  have h := pointsTo_rects (Ix := HIx 1) (Name := ℕ) (U := UU) (Lvl := ℕ) (thr d (co (⟨0, by decide⟩, ⟨0, by decide⟩))) mo fullShare rc (fun _ _ => rfl) rc_disj rc_cov (Val := Elt F) X
  rw [show mo.view.set = Finset.univ from View.set_whole _] at h
  exact h

/-- What the call's SparseCores are handed. -/
theorem coreIn_of (X : FVec F S128x1024 .f32) :
    (iprop((((SparseCore.T d).loc main_arg3 ↦{fullShare} (A d).l) ∗ ((SparseCore.T d).loc main_v6 ↦{fullShare} (A d).x) ∗ ((SparseCore.T d).loc main_v11 ↦{fullShare} (A d).y)
        ∗ ((SparseCore.T d).loc main_v16 ↦{fullShare} (A d).z)) ∗ (SparseCore.T d).loc main_v17 ↦{fullShare} X) : sProp 𝕄)
      ⊢ bigSep Finset.univ fun c : Fin (grid0.bound 0) => coreIn A d c := by
  unfold coreIn
  rw [← bigSep_tiles fun t => tileIn A d (co t)]
  unfold tileIn
  rw [bigSep_sep', deal_srcs, cut]
  refine sep_mono_right (bigSep_mono fun t _ => ?_)
  exact (show (owns (thr d (co t)) (outM (co t) mo) fullShare (fun j => X ((rc t).emb j)) : sProp 𝕄)
      ⊢ iprop(∃ f, owns (thr d (co t)) (outM (co t) mo) fullShare f) by iintro H; iexists _; iexact H)

/-- What they hand back. -/
theorem coreOut_to :
    (bigSep Finset.univ fun c : Fin (grid0.bound 0) => coreOut A d c)
      ⊢ (iprop((((SparseCore.T d).loc main_arg3 ↦{fullShare} (A d).l) ∗ ((SparseCore.T d).loc main_v6 ↦{fullShare} (A d).x) ∗ ((SparseCore.T d).loc main_v11 ↦{fullShare} (A d).y)
        ∗ ((SparseCore.T d).loc main_v16 ↦{fullShare} (A d).z)) ∗ (SparseCore.T d).loc main_v17 ↦{fullShare} outV (A d)) : sProp 𝕄) := by
  unfold coreOut
  rw [← bigSep_tiles fun t => tileOut A d (co t)]
  unfold tileOut
  rw [bigSep_sep', deal_srcs, cut]
  exact sep_mono_right (bigSep_mono fun t _ => Entails.of_eq (congrArg (owns (thr d (co t)) (outM (co t) mo) fullShare) (outV_rc (A d) t).symm))

end Cert.Proof

end
-- ==== Proof.Loss.lean ====
/-
  The loss kernel on the TensorCore: what it stores as a function of the tiles' sums, and its region over the thread state
  "every unscoped buffer at a valuation".
-/
module

public import proofs.«01_k».proof.Proof.Setup
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit
public import Idealize.ShloMosaic.Lib.Tactic
public import Idealize.ShloMosaic.Lib.LaneScatter.Tiles

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The column sums of the rows of one component. -/
def compSum (X : FVec F S128x1024 .f32) (k : BitVec 32) : FVec F S1x1024 .f32 :=
  shapeCast S1x1024 (multiReduction .add [0] S1024
    (select (cmpi .eq (remsi (iota .tc S128x1024 32 [0] iota_S128x1024_d0_w32) (broadcast S128x1024 4#32)) (broadcast S128x1024 k)) X
      (broadcast S128x1024 (Scalar.ofBits .f32 0x00000000#32)))
    0x00000000#32 reduces_S128x1024_S1024 (.inl rfl) rfl) shapeCasts_S1024_S1x1024

/-- The squared length of each column's mean. -/
def sqLen (X : FVec F S128x1024 .f32) : FVec F S1x1024 .f32 :=
  let cnt := compSum X 3#32
  let safe := select (cmpf .ogt cnt (broadcast S1x1024 (Scalar.ofBits .f32 0x00000000#32))) cnt (broadcast S1x1024 (Scalar.ofBits .f32 0x3F800000#32))
  let mx := divf (compSum X 0#32) safe
  let my := divf (compSum X 1#32) safe
  let mz := divf (compSum X 2#32) safe
  addf (addf (mulf mx mx) (mulf my my)) (mulf mz mz)

/-- The columns but the first. -/
def cols : IVec S1x1024 1 := cmpi .sgt (iota .tc S1x1024 32 [1] iota_S1x1024_d1_w32) (broadcast S1x1024 0#32)

/-- The sum of a row. -/
def rowSum (v : FVec F S1x1024 .f32) : F .f32 :=
  extractAt ![0, 0, 0] (shapeCast S1x1x1 (multiReduction .add [1, 2] S1 (shapeCast S1x1x1024 v shapeCasts_S1x1024_S1x1x1024) 0x00000000#32
    reduces_S1x1x1024_S1 (.inl rfl) rfl) shapeCasts_S1_S1x1x1) inpos_S1x1x1_p0_0_0

/-- The loss. -/
def lossF (X : FVec F S128x1024 .f32) : F .f32 :=
  let cnt := compSum X 3#32
  let tot := rowSum (select (andi (cmpf .oge cnt (broadcast S1x1024 (Scalar.ofBits .f32 0x40000000#32))) cols) (sqLen X)
    (broadcast S1x1024 (Scalar.ofBits .f32 0x00000000#32)))
  let n := rowSum (select (andi (cmpf .oge cnt (broadcast S1x1024 (Scalar.ofBits .f32 0x3F800000#32))) cols)
    (broadcast S1x1024 (Scalar.ofBits .f32 0x3F800000#32)) (broadcast S1x1024 (Scalar.ofBits .f32 0x00000000#32)))
  Scalar.select (Scalar.cmpf .ogt n (Scalar.ofBits .f32 0x00000000#32)) (Scalar.divf tot (Scalar.maximumf n (Scalar.ofBits .f32 0x3F800000#32)))
    (Scalar.ofBits .f32 0x00000000#32)

/-- The body's loads and store with what it stores between them. -/
theorem body_eq (arg0 : Memref sig .tc .vmem S128x1024 .f32) (h0 : arg0.IsWhole) (arg1 : Memref sig .tc .vmem S1x1 .f32) (h1 : arg1.IsWhole) :
    cc1__loss_body (F := F) arg0 h0 arg1 h1 = (do
      let v0 : Vec F S128x1024 .f32 ← Prog.lift (.load arg0 (Rect.unit (s := S128x1024) ![0, 0] S128x1024.size inb_S128x1024_S128x1024_0_0).toLoadRect (View.loadsAt_vmem h_S128x1024))
      let _ : Vec F S1x1 .f32 ← Prog.lift (.load arg1 (Rect.unit (s := S1x1) ![0, 0] S1x1.size inb_S1x1_S1x1_0_0).toLoadRect (View.loadsAt_vmem h_S1x1))
      Prog.lift (.store arg1 (Rect.unit (s := S1x1) ![0, 0] S1x1.size inb_S1x1_S1x1_0_0) (broadcast S1x1 (lossF (shapeCast S128x1024 v0 shapeCasts_S128x1024_S128x1024))) Finset.univ (View.stores_vmem_bits_univ h_S1x1 rfl) (.inl rfl))
      Pure.pure ⟨⟩) := by
  unfold cc1__loss_body k1_part1
  simp only [bind_assoc, pure_bind]
  rfl

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body's run: the sums read, the loss stored. -/
theorem lossRun (c : Dev nD) (f0 : Bf (F := F) c (stage1_0 0)) (f1 : Bf (F := F) c (stage1_1 0)) (E : Set ℕ) (Q : PUnit → sProp 𝕄) :
    iprop(pt c (stage1_0 0) f0 ∗ pt c (stage1_1 0) f1 ∗ (iprop(pt c (stage1_0 0) f0 ∗ pt c (stage1_1 0) (fun _ => lossF f0)) -∗ Q ⟨⟩))
      ⊢ wp frame (wpE (defs₀ (F := F)) 𝒱₀ c none) E (cc1__loss_body (stage1_0 0) (hstage1_0 0) (stage1_1 0) (hstage1_1 0)) Q := by
  rw [body_eq]
  iintro ⟨H0, H1, Hk⟩
  sl_exec!
  sl_step
  iapply Hk
  isplitl [H0]; · iexact H0
  have e : (stage1_1 0).view.writes (Elt F) (stage1_1 0).view.junk (lossRun.sl.H1_1 c f0) = fun _ => lossF f0 := by
    sl_unfold_words
    have hr : View.readAt (Elt F) (stage1_0 0).view (Rect.unit (s := S128x1024) ![0, 0] S128x1024.size inb_S128x1024_S128x1024_0_0).toLoadRect f0 = f0 :=
      (show _ = View.ld f0 (Rect.unit (s := S128x1024) ![0, 0] S128x1024.size inb_S128x1024_S128x1024_0_0) from rfl).trans (View.ld_unit_lit (S := S128x1024) _ _ (by decide))
    rw [hr, shapeCast_self]
    exact LaneScatter.read_whole_store (Val := Elt F) (View.whole cc1_stg1_0) _ (off := ![0, 0]) (by decide) _ _
  rw [e]; iexact H1

/-! ## The region, from a valuation of the unscoped buffers -/

section
variable (W : Dev nD → Valuation τ sig (Elt F))

/-- The tiles' sums as the region finds them. -/
abbrev sums (c : Dev nD) : FVec F S128x1024 .f32 := W c (Proc.devRef .tc main_v17)

/-- The level the call's waits stay below. -/
abbrev lvB : ℕ := 8 * (inferInstance : SparseCore.Cfg.Blocks 1 1).fst 1

/-- The waits recorded before the region: none above the call's band. -/
def recd (c : Dev nD) : Set (SemLoc sig × HIx 1) := {p | (K (F := F)).lev (T c, p.1) p.2 ≤ lvB}

def dat (c : Dev nD) : Dat τ (Elt F) (HIx 1) ℕ UU ℕ cfg1 c where
  A w := W c (Proc.devRef .tc (Pipeline.arrRef spec1 w))
  after w _ := match w with
    | ⟨0, _⟩ => sums W c
    | ⟨1, _⟩ => fun _ => lossF (sums W c)
  Φ _ := Pipeline.scopedRest (Ix := HIx 1) (Name := ℕ) (U := UU) (Lvl := ℕ) (Val := Elt F) spec1 c
  q _ := fullShare
  owed _ := 0
  recorded _ := recd (F := F) c

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat W c

theorem before_in (c : Dev nD) (d : (cfg1.win 0).block.Idx → Elt F (cfg1.win 0).elt) : (dat W c).before 0 t1_0 d = sums W c := by
  unfold Dat.before; rw [if_pos (by decide)]
  show (dat W c).blockOf 0 t1_0 = _
  funext y
  blk_simp
  refine congrArg (sums W c) ?_
  have e : ∀ a, win1_0.index t1_0 a = 0 := by decide +kernel
  blk_ext [e]

theorem body_obligation (c : Dev nD) : BodyObligation (dat W c) (defs₀ (F := F)) 𝒱₀ none Set.univ := fun t => by
  obtain rfl := fin_N1 t
  rw [bigSep_W1, bigSep_W1]
  simp only [owns_whole_eq]
  rw [show (dat W c).Φ t1_0.castSucc = (dat W c).Φ t1_0.succ from rfl,
    show (dat W c).owesAt none t1_0.succ = (dat W c).owesAt none t1_0.castSucc from rfl]
  iintro ⟨HΦ, Howes, ⟨%d0, %f0, %hf0, H0⟩, ⟨%d1, %f1, -, H1⟩⟩
  rw [before_in] at hf0
  subst hf0
  iapply (lossRun c _ f1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; rfl

/-- The valuation the region leaves: the result at the loss. -/
def afterLoss (c : Dev nD) : Valuation τ sig (Elt F) := Function.update (W c) (Proc.devRef .tc main_v18) (fun _ => lossF (sums W c))

theorem afterLoss_out (c : Dev nD) : afterLoss W c (Proc.devRef .tc main_v18) = fun _ => lossF (sums W c) := Function.update_self ..
theorem afterLoss_ne (c : Dev nD) (b : Ref sig .tc) (h : b ≠ main_v18) : afterLoss W c (Proc.devRef .tc b) = W c (Proc.devRef .tc b) :=
  Function.update_of_ne (fun e => h (Proc.devRef_injective _ e)) _ _

theorem arr_out (c : Dev nD) : (dat W c).arrAt 1 cfg1.N = fun _ => lossF (sums W c) := by
  refine (dat W c).arrAt_eq_of_after_last 1 t1_0 (by decide +kernel) _ fun j => ?_
  rfl

set_option backward.isDefEq.respectTransparency.types false in
/-- The region over the thread state. -/
def reg : Pipeline.RegionSeg (pcfgs (F := F)) adm (pdats W adm) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation W c).loose
  hwaits := Pipeline.hwaits_of_owed_zero _ _ _ _ _ _ 0 fun _ _ => rfl
  pre c := iprop(unscopedBufs c (fun b => W c (Proc.devRef .tc b)) ∗ ∃ Ws, ⌜(K (F := F)).WBelow (T c) Ws (lvB)⌝ ∗ owes (c : Thread nD τ) (0 : CellTallies nD τ sig (HIx 1)) Ws)
  post c := iprop(unscopedBufs c (fun b => afterLoss W c (Proc.devRef .tc b)) ∗ ∃ Ws, ⌜(K (F := F)).WBelow (T c) Ws (lvB)⌝ ∗ owes (c : Thread nD τ) (0 : CellTallies nD τ sig (HIx 1)) Ws)
  X _ := BI.emp
  Y _ := BI.emp
  Z c := iprop(Pipeline.unscopedRest (Ix := HIx 1) (Name := ℕ) (U := UU) (Lvl := ℕ) spec1 c (fun b => W c (Proc.devRef .tc b)))
  hentry c := by
    rw [Pipeline.ownSems0_none]
    have hsplit := Pipeline.arrays_of_unscopedBufs (p := 0) (pcfgs (F := F)) adm (pdats W adm) (launch1).win (launch1).arr_whole c
      ((pdats W adm 0 c).share_full fun _ => rfl) (fun b => W c (Proc.devRef .tc b)) fun _ => rfl
    iintro ⟨⟨Hub, %Ws, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr; · ipureintro; exact fun p hp => Or.inl (hW p hp)
      iexact HO
    isplitr; · iempintro
    iexact Hrest
  hin c := by
    rw [show (pdats W adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats W adm 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats W adm) ((pdats W adm 0 c).share_full fun _ => rfl) (fun b => W c (Proc.devRef .tc b)) (fun b => afterLoss W c (Proc.devRef .tc b)) ((pdats W adm 0 c).arrAt · cfg1.N)
      (fun w => by
        fin_cases w
        · exact ((pdats W adm 0 c).arrAt_in 0 rfl _).trans (afterLoss_ne W c main_v17 (by decide)).symm
        · exact (arr_out W c).trans (afterLoss_out W c).symm)
      (fun b hb => afterLoss_ne W c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%Ws, %hW, HO⟩; iexists Ws
    isplitr; swap; · iexact HO
    ipureintro
    intro p hp
    rcases hW hp with h | ⟨w, s, rfl⟩
    · exact h
    · exact Nat.zero_le _

end

end Cert.Proof

end
-- ==== Proof.Main.lean ====
/-
  @main on the TensorCore: the host's operations, the tiles' call, the loss's region, the last reshape; and the run of the
  whole program from any memory whose labels are in range, with the result it leaves.
-/
module

public import proofs.«01_k».proof.Proof.Deal
public import proofs.«01_k».proof.Proof.Loss

@[expose] public section

noncomputable section

namespace Cert.Proof

open Cert.KernelIdeal Cert.KernelIdeal.Gen
open Idealize.ShloMosaic
open Idealize.ShloMosaic.SparseCore (S V)
open Idealize.ShloMosaic.SparseCore.Cfg (HIx)
open Idealize.ShloMosaic.StableHlo (held held_sub_split wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The host's operations -/

abbrev ops : List (HloOp τ sig (Elt F)) :=
  [StableHlo.unary main_arg1 main_v0 ((extractStridedSlice S6400000x3 ![0, 0] · slices_S6400000x3_S6400000x3_0_0) : (⟨S6400000x3, .f32⟩ : BufTy).Contents (Elt F) → (⟨S6400000x3, .f32⟩ : BufTy).Contents (Elt F)),
   StableHlo.unary main_arg2 main_v1 ((extractStridedSlice S6400000x3 ![0, 0] · slices_S6400000x3_S6400000x3_0_0) : (⟨S6400000x3, .f32⟩ : BufTy).Contents (Elt F) → (⟨S6400000x3, .f32⟩ : BufTy).Contents (Elt F)),
   StableHlo.unary main_v0 main_v2 ((extractStridedSlice S6400000x1 ![0, 0] · slices_S6400000x3_S6400000x1_0_0) : (⟨S6400000x3, .f32⟩ : BufTy).Contents (Elt F) → (⟨S6400000x1, .f32⟩ : BufTy).Contents (Elt F)),
   StableHlo.reshape main_v2 main_v3 (rfl : (.f32 : EltTy) = .f32) shapeCasts_S6400000x1_S6400000,
   StableHlo.unary main_v1 main_v4 ((extractStridedSlice S6400000x1 ![0, 0] · slices_S6400000x3_S6400000x1_0_0) : (⟨S6400000x3, .f32⟩ : BufTy).Contents (Elt F) → (⟨S6400000x1, .f32⟩ : BufTy).Contents (Elt F)),
   StableHlo.reshape main_v4 main_v5 (rfl : (.f32 : EltTy) = .f32) shapeCasts_S6400000x1_S6400000,
   StableHlo.binary main_v3 main_v5 main_v6 (subf : (⟨S6400000, .f32⟩ : BufTy).Contents (Elt F) → (⟨S6400000, .f32⟩ : BufTy).Contents (Elt F) → (⟨S6400000, .f32⟩ : BufTy).Contents (Elt F)),
   StableHlo.unary main_v0 main_v7 ((extractStridedSlice S6400000x1 ![0, 1] · slices_S6400000x3_S6400000x1_0_1) : (⟨S6400000x3, .f32⟩ : BufTy).Contents (Elt F) → (⟨S6400000x1, .f32⟩ : BufTy).Contents (Elt F)),
   StableHlo.reshape main_v7 main_v8 (rfl : (.f32 : EltTy) = .f32) shapeCasts_S6400000x1_S6400000,
   StableHlo.unary main_v1 main_v9 ((extractStridedSlice S6400000x1 ![0, 1] · slices_S6400000x3_S6400000x1_0_1) : (⟨S6400000x3, .f32⟩ : BufTy).Contents (Elt F) → (⟨S6400000x1, .f32⟩ : BufTy).Contents (Elt F)),
   StableHlo.reshape main_v9 main_v10 (rfl : (.f32 : EltTy) = .f32) shapeCasts_S6400000x1_S6400000,
   StableHlo.binary main_v8 main_v10 main_v11 (subf : (⟨S6400000, .f32⟩ : BufTy).Contents (Elt F) → (⟨S6400000, .f32⟩ : BufTy).Contents (Elt F) → (⟨S6400000, .f32⟩ : BufTy).Contents (Elt F)),
   StableHlo.unary main_v0 main_v12 ((extractStridedSlice S6400000x1 ![0, 2] · slices_S6400000x3_S6400000x1_0_2) : (⟨S6400000x3, .f32⟩ : BufTy).Contents (Elt F) → (⟨S6400000x1, .f32⟩ : BufTy).Contents (Elt F)),
   StableHlo.reshape main_v12 main_v13 (rfl : (.f32 : EltTy) = .f32) shapeCasts_S6400000x1_S6400000,
   StableHlo.unary main_v1 main_v14 ((extractStridedSlice S6400000x1 ![0, 2] · slices_S6400000x3_S6400000x1_0_2) : (⟨S6400000x3, .f32⟩ : BufTy).Contents (Elt F) → (⟨S6400000x1, .f32⟩ : BufTy).Contents (Elt F)),
   StableHlo.reshape main_v14 main_v15 (rfl : (.f32 : EltTy) = .f32) shapeCasts_S6400000x1_S6400000,
   StableHlo.binary main_v13 main_v15 main_v16 (subf : (⟨S6400000, .f32⟩ : BufTy).Contents (Elt F) → (⟨S6400000, .f32⟩ : BufTy).Contents (Elt F) → (⟨S6400000, .f32⟩ : BufTy).Contents (Elt F))]

abbrev opLast : HloOp τ sig (Elt F) := StableHlo.reshape main_v18 main_v19 (rfl : (.f32 : EltTy) = .f32) shapeCasts_S1x1_S_

abbrev EffTc (F : FTy → Type) : Type → Type := TpuEff nD τ sig (Elt F) (SparseCore.Sig (Pipeline.Sig Λ₀ (Fin 1) fun p => (pcfgs (F := F) p).Adm) 1) .tc

/-- @main is its operations, then the call, the region and the last reshape. -/
theorem main_eq (d : Dev nD) : main (F := F) d = StableHlo.seqK ops (do
    sc.run d 0
    Prog.lift (.customCall (SparseCore.inner (Pipeline.entry 0)) ())
    hlo rfl opLast (fun _ => .ret ⟨⟩)
    Pure.pure ⟨⟩) := rfl

/-- The TensorCore's unscoped arrays. -/
def uc : Finset (DevRef τ sig) := (StableHlo.tcRefs τ sig).filter fun b => ¬ b.isScoped

theorem uc_map : uc = (Finset.univ.filter fun b : Ref sig .tc => ¬ b.isScoped).map ⟨Proc.devRef (sig := sig) (.tc : Proc τ), Proc.devRef_injective _⟩ := by
  unfold uc StableHlo.tcRefs; rw [Finset.filter_map]; rfl

theorem mem_uc (b : Ref sig .tc) (h : b.isScoped = false) : Proc.devRef (τ := τ) .tc b ∈ uc := by
  rw [uc_map]; exact Finset.mem_map_of_mem _ (Finset.mem_filter.mpr ⟨Finset.mem_univ _, by rw [h]; decide⟩)

theorem unscoped_held (c : Dev nD) (W : Valuation τ sig (Elt F)) :
    (unscopedBufs c (fun b => W (Proc.devRef .tc b)) : sProp 𝕄) = held (SparseCore.T c) uc W := by
  unfold unscopedBufs held; rw [uc_map, bigSep_map]; rfl

theorem ops_uc : ∀ op ∈ (ops (F := F)), op.bufs ⊆ uc := by
  simp only [List.forall_mem_cons, List.not_mem_nil, false_imp_iff, implies_true, and_true]
  refine ⟨?_, ?_, ?_, ?_, ?_, ?_, ?_, ?_, ?_, ?_, ?_, ?_, ?_, ?_, ?_, ?_, ?_⟩ <;>
  · intro b hb
    simp only [StableHlo.unary, StableHlo.binary, StableHlo.reshape, HloOp.bufs, Finset.mem_union, Finset.mem_insert, Finset.mem_singleton] at hb
    rcases hb with rfl | rfl | rfl <;> exact mem_uc _ rfl

theorem ops_fresh : ∀ op ∈ (ops (F := F)), op.fresh = ∅ := by
  simp only [List.forall_mem_cons, List.not_mem_nil, false_imp_iff, implies_true, and_true]
  refine ⟨?_, ?_, ?_, ?_, ?_, ?_, ?_, ?_, ?_, ?_, ?_, ?_, ?_, ?_, ?_, ?_, ?_⟩ <;> rfl

/-- A line of host operations, from the unscoped arrays to the unscoped arrays after it. -/
theorem wp_seqK (d : Dev nD) (k : Prog (EffTc F) PUnit) (Q : PUnit → sProp 𝕄) :
    ∀ (l : List (HloOp τ sig (Elt F))) (_ : ∀ op ∈ l, op.bufs ⊆ uc) (_ : ∀ op ∈ l, op.fresh = ∅) (W : Valuation τ sig (Elt F)),
      iprop(boundary (SparseCore.T d) ∗ held (SparseCore.T d) uc W)
        ⊢ iprop((iprop(boundary (SparseCore.T d) ∗ held (SparseCore.T d) uc (StableHlo.after l W))
            -∗ wp frame (wpE ((K (F := F)).defs (D (F := F))) 𝒱 (SparseCore.T d) none) Set.univ k Q)
          -∗ wp frame (wpE ((K (F := F)).defs (D (F := F))) 𝒱 (SparseCore.T d) none) Set.univ (StableHlo.seqK l k) Q)
  | [], _, _, W => by
    iintro H Hk
    iapply Hk; iexact H
  | op :: l, hs, hf, W => by
    have ih := wp_seqK d k Q l (fun o ho => hs o (List.mem_cons_of_mem _ ho)) (fun o ho => hf o (List.mem_cons_of_mem _ ho)) (op.result W)
    unfold StableHlo.seqK
    rw [wp_bind]
    iintro H Hk
    iapply (wp_hlo_within 𝒱 (SparseCore.T d) none Set.univ (op := op) (S := uc) (hs op List.mem_cons_self) (V := W) (hf op List.mem_cons_self)) $$ H
    iintro H
    rw [wp_ret]; imodintro
    iapply ih $$ H
    iexact Hk

/-! ## The valuations -/

section
variable (m : (ℓ : Loc nD τ sig) → Buf (Elt F) ℓ) (ρ : Dev nD → PrngReg)

/-- The arrays at the launch, after the host's operations, after the call, after the region, at the end. -/
def V0 (d : Dev nD) : Valuation τ sig (Elt F) := fun b => m (d, b)
def Vh (d : Dev nD) : Valuation τ sig (Elt F) := StableHlo.after ops (V0 m d)

/-- The call's arguments. -/
def argsOf (d : Dev nD) : Args F where
  l := Vh m d (Proc.devRef .tc main_arg3)
  x := Vh m d (Proc.devRef .tc main_v6)
  y := Vh m d (Proc.devRef .tc main_v11)
  z := Vh m d (Proc.devRef .tc main_v16)

def V1 (d : Dev nD) : Valuation τ sig (Elt F) := Function.update (Vh m d) (Proc.devRef .tc main_v17) (outV (argsOf m d))
def V2 (d : Dev nD) : Valuation τ sig (Elt F) := afterLoss (V1 m) d
def V3 (d : Dev nD) : Valuation τ sig (Elt F) := (opLast (F := F)).result (V2 m d)

theorem V1_ne (d : Dev nD) (b : Ref sig .tc) (h : b ≠ main_v17) : V1 m d (Proc.devRef .tc b) = Vh m d (Proc.devRef .tc b) :=
  Function.update_of_ne (fun e => h (Proc.devRef_injective _ e)) _ _
theorem V1_out (d : Dev nD) : V1 m d (Proc.devRef .tc main_v17) = outV (argsOf m d) := Function.update_self ..

/-- The call's arrays. -/
def S5 : Finset (DevRef τ sig) :=
  {Proc.devRef .tc main_arg3, Proc.devRef .tc main_v6, Proc.devRef .tc main_v11, Proc.devRef .tc main_v16, Proc.devRef .tc main_v17}

theorem S5_sub : S5 ⊆ uc := by
  intro b hb
  simp only [S5, Finset.mem_insert, Finset.mem_singleton] at hb
  rcases hb with rfl | rfl | rfl | rfl | rfl <;> exact mem_uc _ rfl

theorem held_S5 (d : Dev nD) (W : Valuation τ sig (Elt F)) :
    (held (SparseCore.T d) S5 W : sProp 𝕄) = iprop(((SparseCore.T d).loc main_arg3 ↦{fullShare} W (Proc.devRef .tc main_arg3))
      ∗ ((SparseCore.T d).loc main_v6 ↦{fullShare} W (Proc.devRef .tc main_v6)) ∗ ((SparseCore.T d).loc main_v11 ↦{fullShare} W (Proc.devRef .tc main_v11))
      ∗ ((SparseCore.T d).loc main_v16 ↦{fullShare} W (Proc.devRef .tc main_v16)) ∗ (SparseCore.T d).loc main_v17 ↦{fullShare} W (Proc.devRef .tc main_v17)) := by
  unfold held S5
  rw [SparseCore.bigSep_insert' (by decide), SparseCore.bigSep_insert' (by decide), SparseCore.bigSep_insert' (by decide),
    SparseCore.bigSep_insert' (by decide), bigSep_singleton]

/-- The unscoped arrays before the call: what the SparseCores are handed, and the rest. -/
theorem call_in (d : Dev nD) : (held (SparseCore.T d) uc (Vh m d) : sProp 𝕄)
    ⊢ iprop((bigSep Finset.univ fun c : Fin (grid0.bound 0) => coreIn (argsOf m) d c) ∗ held (SparseCore.T d) (uc \ S5) (Vh m d)) := by
  rw [held_sub_split _ S5_sub, held_S5]
  refine sep_mono_left (BIBase.Entails.trans ?_ (coreIn_of (argsOf m) d (Vh m d (Proc.devRef .tc main_v17))))
  iintro ⟨Hl, Hx, Hy, Hz, Ho⟩
  isplitr [Ho]; swap; · iexact Ho
  isplitl [Hl]; · iexact Hl
  isplitl [Hx]; · iexact Hx
  isplitl [Hy]; · iexact Hy
  iexact Hz

/-- And after it. -/
theorem call_out (d : Dev nD) : iprop((bigSep Finset.univ fun c : Fin (grid0.bound 0) => coreOut (argsOf m) d c) ∗ held (SparseCore.T d) (uc \ S5) (Vh m d))
    ⊢ (held (SparseCore.T d) uc (V1 m d) : sProp 𝕄) := by
  rw [held_sub_split _ S5_sub (V1 m d), held_S5, V1_out, V1_ne m d main_arg3 (by decide), V1_ne m d main_v6 (by decide), V1_ne m d main_v11 (by decide),
    V1_ne m d main_v16 (by decide), StableHlo.held_congr (SparseCore.T d) (S := uc \ S5) (V := V1 m d) (V' := Vh m d) fun b hb =>
      Function.update_of_ne (fun e => (Finset.mem_sdiff.mp hb).2 (by rw [e]; simp [S5])) _ _]
  refine sep_mono_left (BIBase.Entails.trans (coreOut_to (argsOf m) d) ?_)
  iintro ⟨⟨Hl, Hx, Hy, Hz⟩, Ho⟩
  isplitl [Hl]; · iexact Hl
  isplitl [Hx]; · iexact Hx
  isplitl [Hy]; · iexact Hy
  isplitl [Hz]; · iexact Hz
  iexact Ho

/-! ## The region -/

abbrev adm₀ : (p : Fin 1) → (pcfgs (F := F) p).Adm := fun p => (cfgs p).toPCfg_adm

/-- The pipeline's rounds on a device, as they are dealt at the launch. -/
def Gp (d : Dev nD) : sProp 𝕄 :=
  iprop(Pipeline.cellsGhost (Pipeline.pin (pcfgs (F := F)) adm₀) EP 0 d ∗ Pipeline.toksInit (Pipeline.pin (pcfgs (F := F)) adm₀) EP 0 d)

theorem Otc_one (d : Dev nD) : (K (F := F)).Otc d 1 = 0 := by
  unfold SparseCore.Cfg.Otc; exact Finset.sum_eq_zero fun q _ => if_neg (by have := q.isLt; omega)

theorem pin_inj : Function.Injective (Pipeline.cellOf (nD := nD) (τ := τ) (Pipeline.pin (pcfgs (F := F)) adm₀)) := cellOf_inj

/-- The region in the kernel's own table. -/
theorem wp_region₀ [∀ e, Nonempty (Elt F e)] (d : Dev nD) (Q : PUnit → sProp 𝕄) :
    iprop((iprop(boundary (d.tc : Thread nD τ) ∗ (reg (V1 m) adm₀).post d) -∗ wp frame (wpE (D (F := F)) 𝒱 (d.tc : Thread nD τ) none) Set.univ (.ret ⟨⟩) Q)
        ∗ boundary (d.tc : Thread nD τ) ∗ (reg (V1 m) adm₀).pre d ∗ levAts (K (F := F)).L (K (F := F)).lev ∗ Gp d)
      ⊢ wp frame (wpE (D (F := F)) 𝒱 (d.tc : Thread nD τ) none) Set.univ (.op (.customCall (Pipeline.entry 0) ()) fun x => .ret x) Q :=
  Pipeline.RegionSeg.wp (pcfgs (F := F)) adm₀ (pdats (V1 m) adm₀) none pin_inj EP defs₀ 𝒱₀ (K (F := F)).L (K (F := F)).lev
    (reg (V1 m) adm₀) d none (fun _ h => nomatch h) (fun x => .ret x) Q

/-- The region under the launch's table: from the arrays before it to the arrays after it. -/
theorem wp_region [∀ e, Nonempty (Elt F e)] (d : Dev nD) (Q : PUnit → sProp 𝕄) :
    iprop((iprop(boundary (d.tc : Thread nD τ) ∗ (reg (V1 m) adm₀).post d) -∗ Q ⟨⟩)
        ∗ boundary (d.tc : Thread nD τ) ∗ (reg (V1 m) adm₀).pre d ∗ levAts (K (F := F)).L (K (F := F)).lev ∗ Gp d)
      ⊢ wp frame (wpE ((K (F := F)).defs (D (F := F))) 𝒱 (d.tc : Thread nD τ) none) Set.univ
          (Prog.lift (.customCall (SparseCore.inner (Pipeline.entry 0)) ()) : Prog (EffTc F) PUnit) Q := by
  have h₁ := (K (F := F)).wp_liftProg (D (F := F)) 𝒱 (d.tc : Thread nD τ) Set.univ none
    (.op (.customCall (Pipeline.entry 0) ()) fun x => .ret x : Prog (TpuEff nD τ sig (Elt F) (ΛP (F := F)) .tc) PUnit) Q
  have h₀ : iprop(iprop(boundary (d.tc : Thread nD τ) ∗ (reg (V1 m) adm₀).post d) -∗ Q ⟨⟩)
      ⊢ iprop(iprop(boundary (d.tc : Thread nD τ) ∗ (reg (V1 m) adm₀).post d) -∗ wp frame (wpE (D (F := F)) 𝒱 (d.tc : Thread nD τ) none) Set.univ (.ret ⟨⟩) Q) := by
    iintro Hk H
    rw [wp_ret]; imodintro; iapply Hk; iexact H
  exact (sep_mono_left h₀).trans ((wp_region₀ m d Q).trans h₁)

/-! ## @main -/

theorem opLast_uc : (opLast (F := F)).bufs ⊆ uc := by
  intro b hb
  simp only [StableHlo.reshape, HloOp.bufs, Finset.mem_union, Finset.mem_insert, Finset.mem_singleton] at hb
  rcases hb with rfl | rfl <;> exact mem_uc _ rfl

/-- What @main leaves: its arrays at their last contents. -/
def FIN (d : Dev nD) : sProp 𝕄 := held (SparseCore.T d) uc (V3 m d)

theorem hmain [∀ e, Nonempty (Elt F e)] (κ : GSem nD τ sig → ℕ) (d : Dev nD) :
    iprop((K (F := F)).ctx EH (P (argsOf m)) κ ∗ (K (F := F)).tcSt EH d 0 ∗ (K (F := F)).tcRes m ρ d ∗ Gp d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) uc (V0 m d) from unscoped_held d (V0 m d), main_eq]
  iintro ⟨#Hctx, Hst, ⟨Hb, Hheld, Hts, -⟩, HG⟩
  iapply (wp_seqK d _ _ ops ops_uc ops_fresh (V0 m d)) $$ [Hb Hheld]
  · isplitl [Hb] <;> iassumption
  iintro ⟨Hb, Hheld⟩
  ihave Hh := (show (held (SparseCore.T d) uc (StableHlo.after ops (V0 m d)) : sProp 𝕄) ⊢ _ from call_in m d) $$ Hheld
  icases Hh with ⟨Hin, Hrest⟩
  simp only [wp_bind, wp_pure]
  iapply ((K (F := F)).wp_run (D (F := F)) 𝒱 (EH := EH) (P := P (argsOf m)) κ d 0) $$ [Hst Hin Hb Hrest Hts HG]
  isplitr; · iexact Hctx
  isplitl [Hst]; · iexact Hst
  isplitl [Hin]; · iexact Hin
  iintro ⟨Hst, Hdn⟩
  ihave Hheld := (call_out m d) $$ [Hdn Hrest]
  · isplitl [Hdn]; · iexact Hdn
    iexact Hrest
  ihave Hub := (Entails.of_eq (unscoped_held d (V1 m d)).symm) $$ Hheld
  ihave Hst := (show (K (F := F)).tcSt EH d ((0 : Fin 1).val + 1) ⊢ iprop((∃ W, ⌜(K (F := F)).WBelow (SparseCore.T d) W lvB⌝ ∗ owes (SparseCore.T d) ((K (F := F)).Otc d 1) W)
    ∗ _) from .rfl) $$ Hst
  icases Hst with ⟨⟨%W, %hW, HO⟩, Hst⟩
  rw [Otc_one]
  iapply (wp_region m d _) $$ [Hb Hub HO HG Hst Hts]
  isplitl [Hst Hts]; swap
  · isplitl [Hb]; · iexact Hb
    isplitl [Hub HO]
    · unfold reg; isplitl [Hub]; · iexact Hub
      iexists W; isplitr; · ipureintro; exact hW
      iexact HO
    isplitr [HG]; swap; · iexact HG
    iapply ((K (F := F)).ctx_levAts κ) $$ Hctx
  unfold reg
  iintro ⟨Hb, Hub, %W', %hW', HO⟩
  ihave Hheld := (show (unscopedBufs d (fun b => afterLoss (V1 m) d (Proc.devRef .tc b)) : sProp 𝕄) ⊢ held (SparseCore.T d) uc (V2 m d) from
    Entails.of_eq (unscoped_held d (V2 m d))) $$ Hub
  iapply (wp_hlo_within 𝒱 (SparseCore.T d) none Set.univ (op := opLast) (S := uc) opLast_uc (V := V2 m d)) $$ [Hb Hheld]
  · isplitl [Hb] <;> iassumption
  iintro ⟨Hb, Hheld⟩
  rw [wp_ret]; imodintro; imodintro
  isplitl [HO Hst]
  · unfold SparseCore.Cfg.tcSt
    isplitl [HO]
    · iexists W'; isplitr; · ipureintro; exact hW'
      rw [Otc_one]; iexact HO
    iexact Hst
  isplitl [Hheld]; · unfold FIN V3; iexact Hheld
  isplitl [Hb] <;> iassumption

/-! ## The launch element -/

/-- The handshakes' rounds, the pipeline's, and nothing in the counters. -/
def u₀ : UU := (initOf (K (F := F)).hsCells (K (F := F)).hsToks, (initOf (Pipeline.cells (Pipeline.pin (pcfgs (F := F)) adm₀) pin_inj)
  (Pipeline.launchToks (Pipeline.pin (pcfgs (F := F)) adm₀) pin_inj), 1))

theorem ghost_eq (Φ : Fin 1 → Dev nD → sProp 𝕄) :
    (bigSep Finset.univ fun c : Dev nD => bigSep Finset.univ fun p => Φ p c) = bigSep Finset.univ fun c : Dev nD => Φ 0 c :=
  bigSep_congr fun _ _ => bigSep_univ_of_subsingleton (0 : Fin 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gp d)
        ∗ bigSep Finset.univ fun thr : Thread nD τ => bigSep Finset.univ fun q : Fin 1 => (P (argsOf m)).x q thr) := by
  unfold u₀
  iintro Hu
  ihave H := (ownU_pair _ _) $$ Hu
  icases H with ⟨HH, HR⟩
  ihave HR := (own_pair_emb embR _ _) $$ HR
  icases HR with ⟨HP, -⟩
  imod (show (BI.own (((Emb.inl : Emb UP (UP × Counters)).trans embR : Emb UP 𝕄) (initOf (Pipeline.cells (Pipeline.pin (pcfgs (F := F)) adm₀) pin_inj)
    (Pipeline.launchToks (Pipeline.pin (pcfgs (F := F)) adm₀) pin_inj))) : sProp 𝕄) ⊢ _ from
      Pipeline.fund_ghost (Pipeline.pin (pcfgs (F := F)) adm₀) EP pin_inj) $$ HP with ⟨Hg, Ht⟩
  imodintro
  isplitl [HH]; · iexact HH
  isplitl [Hg Ht]
  · unfold Gp
    rw [bigSep_sep', ← ghost_eq fun p c => Pipeline.cellsGhost (Pipeline.pin (pcfgs (F := F)) adm₀) EP p c,
      ← ghost_eq fun p c => Pipeline.toksInit (Pipeline.pin (pcfgs (F := F)) adm₀) EP p c]
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program's run -/

def fq (d : Dev nD) (s' : Phys nD τ sig (Elt F)) : Prop := ∀ b : {b : Ref sig .tc // b.isScoped = false}, s'.mem.mem ((SparseCore.T d).loc b.1) = V3 m d (Proc.devRef .tc b.1)

theorem hfin_at (d : Dev nD) (s' : Phys nD τ sig (Elt F)) (b : Ref sig .tc) (h : b.isScoped = false) :
    iprop(FIN m d ∗ SI s') ⊢ (⌜s'.mem.mem ((SparseCore.T d).loc b) = V3 m d (Proc.devRef .tc b)⌝ : sProp 𝕄) := by
  unfold FIN
  rw [held_sub_split (SparseCore.T d) (T := {Proc.devRef .tc b}) (S := uc) (Finset.singleton_subset_iff.mpr (mem_uc b h))]
  iintro ⟨⟨Hx, -⟩, HSI⟩
  ihave Hx := (show (held (SparseCore.T d) {Proc.devRef .tc b} (V3 m d) : sProp 𝕄) ⊢ ((SparseCore.T d).loc b ↦{fullShare} V3 m d (Proc.devRef .tc b)) from by
    unfold held; rw [bigSep_singleton]) $$ Hx
  ihave H := (SI_pointsTo_agree (st := s') (ℓ := (SparseCore.T d).loc b) (I := Finset.univ) (q := fullShare) (f := V3 m d (Proc.devRef .tc b))) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  (forall_intro fun b : {b : Ref sig .tc // b.isScoped = false} => hfin_at m d s' b.1 b.2).trans pure_forall.2

def QC : PUnit × MemSt nD τ sig (Elt F) → Prop := fun r =>
  (∀ (c : Dev nD) (b : {b : Ref sig .tc // b.isScoped = false}), r.2.mem ((SparseCore.T c).loc b.1) = V3 m c (Proc.devRef .tc b.1)) ∧ r.2.sem = fun _ => 0

/-- The program's run: it ends with @main's arrays at their last contents and every counter at zero. -/
theorem run_main [∀ e, Nonempty (Elt F e)] (hA : ∀ d, (argsOf m d).OK) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (argsOf m)) (A := ∅) facts v₀
    (fun q hq => match q with | 0 => nomatch hq)
    (fun q _ => match q with | 0 => tileObl (argsOf m) hA)
    (fun q _ => match q with | 0 => SparseCore.Cfg.VecSplit.of_plain (vecSplit (argsOf m)))
    m ρ main Gp (FIN m) (u₀ (F := F)) (sep_elim_left.trans (hu₀ m)) (hmain m ρ) (fq m) (hfin m) (QC m) (fun _ h hz => ⟨h, hz⟩)

end

end Cert.Proof

end
-- ==== Proof.Frames.lean ====
/-
  What the preconditions say of the arguments, element by element; that the arguments end unchanged; and the frames.
-/
module

public import proofs.«01_k».proof.Defs
public import proofs.«01_k».proof.Proof.Main
public import proofs.«01_k».proof.Proof.Gen.Kernel
public import proofs.«01_k».proof.Proof.Gen.Pre_in_range
public import proofs.«01_k».proof.Proof.Gen.Pre_labels_in_range
public import proofs.«01_k».proof.Proof.Gen.ReferenceIdeal.Run
public import Idealize.ShloMosaic.Lib.ReduceAll
public import Idealize.ShloMosaic.Lib.Quiescent

@[expose] public section

noncomputable section

namespace Cert.Proof

open Cert.KernelIdeal Cert.KernelIdeal.Gen
open Idealize.ShloMosaic
open Idealize.SL.Sem

variable {F : FTy → Type} [FloatOps F]

/-! ## The precondition -/

theorem andi_eq_one {p q : BitVec 1} : IntOp.andi p q = 1#1 ↔ p = 1#1 ∧ q = 1#1 := by
  revert p q; decide

/-- What the value claim's precondition says of the arrays: the coordinates below infinity in size, the labels in the table. -/
structure InRange (c : FVec F S6400000x3 .f32) (l : IVec S6400000 32) : Prop where
  c_lt : ∀ i, FloatOps.cmpf .olt (FloatOps.hostAbsf (c i)) (FloatOps.ofBits .f32 0x7F800000#32) = 1#1
  lab : ∀ i, (l i).toNat < 1000

theorem lab_of {v : BitVec 32} (e : IntOp.andi (IntOp.cmpi .sge v 0#32) (IntOp.cmpi .slt v 1000#32) = 1#1) : v.toNat < 1000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The frames' precondition: the labels in the table. -/
theorem labels_of (c oi ot : FVec F S6400000x3 .f32) (l : IVec S6400000 32)
    (h : Cert.Pre_labels_in_range.fn (F := F) c oi ot l = fun _ => 1#1) : ∀ i, (l i).toNat < 1000 := by
  have e := congrFun h (fun i : Fin 0 => i.elim0)
  have : Subsingleton Cert.Pre_labels_in_range.S_.Idx := ⟨fun a b => funext fun i => i.elim0⟩
  exact fun i => lab_of (Host.reduce_andi_all _ _ _ _ _ e i)

theorem inRange_of (c oi ot : FVec F S6400000x3 .f32) (l : IVec S6400000 32)
    (h : Cert.Pre_in_range.fn (F := F) c oi ot l = fun _ => 1#1) : InRange c l := by
  have e := congrFun h (fun i : Fin 0 => i.elim0)
  simp only [Cert.Pre_in_range.fn, andi, andi_eq_one] at e
  have : Subsingleton Cert.Pre_in_range.S_.Idx := ⟨fun a b => funext fun i => i.elim0⟩
  exact ⟨Host.reduce_andi_all _ _ _ _ _ e.1, fun i => lab_of (Host.reduce_andi_all _ _ _ _ _ e.2 i)⟩

/-! ## The arguments at the end -/

section
variable (m : (ℓ : Loc nD τ sig) → Buf (Elt F) ℓ)

/-- An array that no operation of @main writes ends at its contents at the launch. -/
theorem V3_kept (d : Dev nD) (b : Ref sig .tc) (h17 : b ≠ main_v17) (h18 : b ≠ main_v18)
    (h19 : Proc.devRef (τ := τ) .tc b ∉ (opLast (F := F)).writes) (hh : Vh m d (Proc.devRef .tc b) = m ((SparseCore.T d).loc b)) :
    V3 m d (Proc.devRef .tc b) = m ((SparseCore.T d).loc b) := by
  unfold V3
  rw [(opLast (F := F)).result_of_not_mem _ h19]
  exact (afterLoss_ne (V1 m) d b h18).trans ((V1_ne m d b h17).trans hh)

theorem last_writes (b : Ref sig .tc) (h : b ≠ main_v19) : Proc.devRef (τ := τ) .tc b ∉ (opLast (F := F)).writes := fun e =>
  h (Proc.devRef_injective _ (Finset.mem_singleton.mp e))

theorem Vh_arg0 (d : Dev nD) : Vh m d (Proc.devRef .tc main_arg0) = m ((SparseCore.T d).loc main_arg0) := by
  unfold Vh; after_results_simp <;> rfl
theorem Vh_arg1 (d : Dev nD) : Vh m d (Proc.devRef .tc main_arg1) = m ((SparseCore.T d).loc main_arg1) := by
  unfold Vh; after_results_simp <;> rfl
theorem Vh_arg2 (d : Dev nD) : Vh m d (Proc.devRef .tc main_arg2) = m ((SparseCore.T d).loc main_arg2) := by
  unfold Vh; after_results_simp <;> rfl
theorem Vh_arg3 (d : Dev nD) : Vh m d (Proc.devRef .tc main_arg3) = m ((SparseCore.T d).loc main_arg3) := by
  unfold Vh; after_results_simp <;> rfl

/-- The arguments of every device as the run leaves them. -/
theorem args_kept (r : PUnit × MemSt nD τ sig (Elt F)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.1 c ⟨main_arg0, rfl⟩).trans (V3_kept m c _ (by decide) (by decide) (last_writes _ (by decide)) (Vh_arg0 m c)),
    (h.1 c ⟨main_arg1, rfl⟩).trans (V3_kept m c _ (by decide) (by decide) (last_writes _ (by decide)) (Vh_arg1 m c)),
    (h.1 c ⟨main_arg2, rfl⟩).trans (V3_kept m c _ (by decide) (by decide) (last_writes _ (by decide)) (Vh_arg2 m c)),
    (h.1 c ⟨main_arg3, rfl⟩).trans (V3_kept m c _ (by decide) (by decide) (last_writes _ (by decide)) (Vh_arg3 m c))⟩

/-- Labels in range are what the run asks for. -/
theorem args_ok (d : Dev nD) (h : ∀ i, ((m ((SparseCore.T d).loc main_arg3) : IVec S6400000 32) i).toNat < 1000) : (argsOf m d).OK := fun p => by
  have e : (argsOf m d).l = m ((SparseCore.T d).loc main_arg3) := Vh_arg3 m d
  rw [e]; exact (h p).trans (by decide)

end

/-! ## The frames -/

/-- The run with the arguments read, for any float values: the two programs differ in these alone. -/
theorem run_frame [∀ e, Nonempty (Elt F e)] (m : (ℓ : Loc nD τ sig) → Buf (Elt F) ℓ) (ρ : Dev nD → PrngReg)
    (hpre : ∀ (c : Dev nD) (i : S6400000.Idx), ((m ((c.tc : Thread nD τ).loc main_arg3) : IVec S6400000 32) i).toNat < 1000) :
    θ_run (Cert.KernelIdeal.defs (F := F)) (Cert.KernelIdeal.threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run Cert.KernelIdeal.defs _ _).mono (fun r h => ⟨args_kept m r h, h.2⟩)
    (run_main m ρ fun d => args_ok m d (hpre d))

theorem frame_kernelIdeal : Cert.quiescent_KernelIdeal := fun m ρ hpre =>
  run_frame (F := Ideal) m ρ fun c => labels_of _ _ _ _ (hpre c)

theorem frame_kernelIdeal_in_range : Cert.quiescent_KernelIdeal_pre_in_range := fun m ρ hpre =>
  run_frame (F := Ideal) m ρ fun c => (inRange_of _ _ _ _ (hpre c)).lab

set_option maxRecDepth 20000 in
/-- The two programs' bodies are the same text. -/
theorem bodies_eq : Cert.Kernel.defs₀ (F := Bits) = Cert.KernelIdeal.defs₀ (F := Bits) := by
  funext p l a
  match p, l, a with
  | .scVector c s, (0 : Fin 2), _ => rfl
  | .scVector c s, (1 : Fin 2), _ => rfl
  | .scScalar c, (0 : Fin 2), _ => rfl
  | .scScalar c, (1 : Fin 2), _ => rfl
  | .tc, (0 : Fin 2), _ => rfl
  | .tc, (1 : Fin 2), (t, s) => rfl

theorem defs_eq : Cert.Kernel.defs (F := Bits) = Cert.KernelIdeal.defs (F := Bits) :=
  congrArg (fun D => Cert.KernelIdeal.sc.defs (Pipeline.defs Cert.KernelIdeal.pcfgs D)) bodies_eq

set_option maxRecDepth 20000 in
theorem frame_kernel : Cert.quiescent_Kernel := fun m ρ hpre => by
  have h := run_frame (F := Bits) m ρ fun c => labels_of _ _ _ _ (hpre c)
  rw [← defs_eq] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_in_range : Cert.quiescent_ReferenceIdeal_pre_in_range := fun m ρ _ => frame_reference m ρ trivial

end Cert.Proof

end
-- ==== Proof.Sums.lean ====
/-
  A tile's table over the extended reals: a scatter adds to each word the lanes that name it, and after the task's steps the
  word of a lane, a component and a column holds the sum of that component over the lane's points of that column.
-/
module

public import proofs.«01_k».proof.Proof.Tile
public import Idealize.ShloMosaic.PureOps.Ideal.Laws

@[expose] public section

noncomputable section

namespace Cert.Proof

open Cert.KernelIdeal Cert.KernelIdeal.Gen
open Idealize.ShloMosaic

/-- Lane `k` of a vector of sixteen. -/
def x16 (k : Fin 16) : S16.Idx := Shape.ofLane (d := ![16]) k

theorem x16_val (k : Fin 16) : (x16 k 0).val = k.val := rfl

/-! ## Scatters -/

theorem foldl_add {J K : Type} (step : (J → EReal) → K → J → EReal) (t : K → J → EReal) (hs : ∀ g k j, step g k j = g j + t k j) (j : J) :
    ∀ (l : List K) (X : J → EReal), l.foldl step X j = X j + (l.map fun k => t k j).sum
  | [], X => by simp
  | k :: l, X => by rw [List.foldl_cons, foldl_add step t hs j l, hs, List.map_cons, List.sum_cons, add_assoc]

theorem scat1_apply (X : S65536.Idx → EReal) (ix : IVec S16 32) (h : k0_chk2 ix) (v : FVec Ideal S16 .f32) (mask : IVec S16 1) (j : S65536.Idx) :
    (scat1 (F := Ideal) X ix v mask j : EReal)
      = X j + ∑ k : Fin 16, if mask (x16 k) = 1 ∧ (ix (x16 k)).toNat = (j 0).val then (v (x16 k) : EReal) else 0 := by
  unfold scat1
  rw [dif_pos h]
  unfold storeIdx
  refine (foldl_add _ (fun (k : Fin 16) j => if mask (x16 k) = 1 ∧ (ix (x16 k)).toNat = (j 0).val then (v (x16 k) : EReal) else 0) ?_ j _ X).trans ?_
  · intro g k j
    show (if mask (x16 k) = 1 then _ else g) j = _
    by_cases hm : mask (x16 k) = 1
    · rw [if_pos hm]
      have hi : (∀ a, (j a).val = (idxAt (s := S65536) ![ix] (k0_idx5_inb ix h) (x16 k) a).val) ↔ (ix (x16 k)).toNat = (j 0).val :=
        ⟨fun e => (e 0).symm, fun e a => by obtain rfl := Fin.eq_zero a; exact e.symm⟩
      by_cases hj : (ix (x16 k)).toNat = (j 0).val
      · rw [if_pos (show mask (x16 k) = 1 ∧ (ix (x16 k)).toNat = (j 0).val from ⟨hm, hj⟩)]
        refine (if_pos (hi.2 hj)).trans ?_
        show (g (idxAt (s := S65536) ![ix] (k0_idx5_inb ix h) (x16 k)) + v (x16 k) : EReal) = _
        have : idxAt (s := S65536) ![ix] (k0_idx5_inb ix h) (x16 k) = j := by
          funext a; exact Fin.ext (hi.2 hj a).symm
        rw [this]
      · rw [if_neg (show ¬(mask (x16 k) = 1 ∧ (ix (x16 k)).toNat = (j 0).val) from fun e => hj e.2), add_zero]
        exact if_neg fun e => hj (hi.1 e)
    · rw [if_neg hm, if_neg (fun e => hm e.1), add_zero]
  · exact congrArg (X j + ·) (Fin.sum_univ_def _).symm

/-! ## The four scatters of a step -/

/-- Component `q` of what is carried. -/
def accQ (c : Acc Ideal) : Fin 4 → FVec Ideal S16 .f32
  | 0 => c.2.1
  | 1 => c.2.2.1
  | 2 => c.2.2.2.1
  | 3 => c.2.2.2.2

/-- The word of lane `x`, component `q` and column `c`. -/
abbrev word (x : Fin 16) (q : Fin 4) (c : Nat) : S65536.Idx := atT (4096 * x.val + 1024 * q.val + c)

theorem word_val (x : Fin 16) (q : Fin 4) {c : Nat} (hc : c < 1024) : (word x q c 0).val = 4096 * x.val + 1024 * q.val + c := by
  show (4096 * x.val + 1024 * q.val + c) % 65536 = _
  omega

theorem hit (l : IVec S16 32) (hl : LabOK l) (ix : IVec S16 32) (q' : Fin 4) (hix : ∀ x, (ix x).toNat = (x 0).val * 4096 + (l x).toNat + 1024 * q'.val)
    (v : FVec Ideal S16 .f32) (mask : IVec S16 1) (X : S65536.Idx → EReal) (x : Fin 16) (q : Fin 4) {c : Nat} (hc : c < 1024) :
    (scat1 (F := Ideal) X ix v mask (word x q c) : EReal)
      = X (word x q c) + if q' = q ∧ mask (x16 x) = 1 ∧ (l (x16 x)).toNat = c then (v (x16 x) : EReal) else 0 := by
  have hk : k0_chk2 ix := chk2_of fun y => by have h1 := lane_lt y; have h2 := hl y; have h3 := q'.isLt; rw [hix]; omega
  rw [scat1_apply X ix hk, word_val x q hc, Finset.sum_eq_single x]
  · congr 1
    refine if_congr ?_ rfl rfl
    rw [hix, x16_val]
    have h2 := hl (x16 x)
    constructor
    · rintro ⟨h3, h4⟩
      have : q' = q := Fin.ext (by omega)
      exact ⟨this, h3, by subst this; omega⟩
    · rintro ⟨rfl, h3, h4⟩
      exact ⟨h3, by omega⟩
  · intro k _ hk
    refine if_neg ?_
    rintro ⟨_, h4⟩
    rw [hix, x16_val] at h4
    have h2 := hl (x16 k)
    exact hk (Fin.ext (by omega))
  · intro h; exact absurd (Finset.mem_univ _) h

theorem scatV_apply (a : Acc Ideal) (ha : LabOK a.1) (mask : IVec S16 1) (X : S65536.Idx → EReal) (x : Fin 16) (q : Fin 4) {c : Nat} (hc : c < 1024) :
    (scatV (F := Ideal) a mask X (word x q c) : EReal)
      = X (word x q c) + if mask (x16 x) = 1 ∧ (a.1 (x16 x)).toNat = c then (accQ a q (x16 x) : EReal) else 0 := by
  unfold scatV
  rw [hit a.1 ha _ 3 (fun y => by have := ixq_toNat ha 3072#32 (by decide) y; simpa using this) _ _ _ x q hc,
    hit a.1 ha _ 2 (fun y => by have := ixq_toNat ha 2048#32 (by decide) y; simpa using this) _ _ _ x q hc,
    hit a.1 ha _ 1 (fun y => by have := ixq_toNat ha 1024#32 (by decide) y; simpa using this) _ _ _ x q hc,
    hit a.1 ha _ 0 (fun y => by have := ix0_toNat ha y; simpa using this) _ _ _ x q hc]
  fin_cases q <;> simp [accQ]

/-! ## The table after the steps -/

/-- Component `q` of a point: the three differences, and one. -/
def valQ (A : Args Ideal) : Fin 4 → S6400000.Idx → EReal
  | 0 => A.x
  | 1 => A.y
  | 2 => A.z
  | 3 => fun _ => 1

/-- Component `q` of point `p` where its label is `c`, zero elsewhere. -/
def term (A : Args Ideal) (q : Fin 4) (c : Nat) (p : S6400000.Idx) : EReal :=
  if (show BitVec 32 from A.l p).toNat = c then valQ A q p else 0

/-- The point lane `x` of tile `w` reads at step `n`. -/
def point (w : Nat) (x : Fin 16) (n : Nat) : S6400000.Idx := at6 (w * 200000 + n / 250 * 4000 + (x.val * 250 + n % 250))

variable (A : Args Ideal) (w : Nat)

theorem one_f32 : (Scalar.ofBits (F := Ideal) .f32 0x3F800000#32 : EReal) = 1 := by
  show Ideal.ofBits .f32 0x3F800000#32 = 1
  simp [Ideal.ofBits, Ideal.ieee, -EReal.coe_mul]
  norm_num

theorem accQ_next (a : Acc Ideal) (n : Nat) (f : IVec S16 1) (q : Fin 4) (x : Fin 16) :
    (accQ (nextAcc a (lanes A.l w n) (lanes A.x w n) (lanes A.y w n) (lanes A.z w n) f) q (x16 x) : EReal)
      = if f (x16 x) = 1 then valQ A q (point w x n) else accQ a q (x16 x) + valQ A q (point w x n) := by
  fin_cases q
  · rfl
  · rfl
  · rfl
  · show (if f (x16 x) = 1 then (Scalar.ofBits (F := Ideal) .f32 0x3F800000#32 : EReal)
      else accQ a 3 (x16 x) + (Scalar.ofBits (F := Ideal) .f32 0x3F800000#32 : EReal)) = _
    rw [one_f32]; rfl

theorem cmpi_ne_one (a b : BitVec 32) : IntOp.cmpi .ne a b = 1 ↔ a ≠ b := by
  unfold IntOp.cmpi
  by_cases h : a = b
  · simp [h]
  · have hb : (a != b) = true := bne_iff_ne.2 h
    simp [h, hb]

theorem stN_sum (hA : A.OK) (x : Fin 16) (q : Fin 4) {c : Nat} (hc : c < 1024) : ∀ n,
    ((stN A w n).1 (word x q c) : EReal) + (if ((stN A w n).2.1 (x16 x)).toNat = c then (accQ (stN A w n).2 q (x16 x) : EReal) else 0)
      = ∑ k ∈ Finset.range n, term A q c (point w x k)
  | 0 => by
    have h0 : (accQ (stN A w 0).2 q (x16 x) : EReal) = 0 := by
      fin_cases q <;> exact Ideal.ofBits_zero_f32
    rw [h0, ite_self, add_zero, Finset.range_zero, Finset.sum_empty]
    exact Ideal.ofBits_zero_f32
  | n + 1 => by
    rw [Finset.sum_range_succ, ← stN_sum hA x q hc n]
    show (scatV (F := Ideal) (stN A w n).2 (cmpi .ne (lanes A.l w n) (stN A w n).2.1) (stN A w n).1 (word x q c) : EReal)
      + (if (show BitVec 32 from A.l (point w x n)).toNat = c then
          (accQ (nextAcc (stN A w n).2 (lanes A.l w n) (lanes A.x w n) (lanes A.y w n) (lanes A.z w n)
            (cmpi .ne (lanes A.l w n) (stN A w n).2.1)) q (x16 x) : EReal) else 0) = _
    rw [scatV_apply _ (stN_lab A w hA n) _ _ x q hc, accQ_next]
    have hf : cmpi .ne (lanes A.l w n) (stN A w n).2.1 (x16 x) = 1 ↔ (show BitVec 32 from A.l (point w x n)) ≠ (stN A w n).2.1 (x16 x) :=
      cmpi_ne_one _ _
    unfold term
    by_cases he : (show BitVec 32 from A.l (point w x n)) = (stN A w n).2.1 (x16 x)
    · have hn := fun e => hf.1 e he
      rw [if_neg (fun e => hn e.1), if_neg hn, he, add_zero]
      split_ifs
      · rw [add_assoc]
      · simp only [add_zero]
    · rw [if_pos (hf.2 he)]
      simp only [hf.2 he, true_and]

theorem tabF_sum (hA : A.OK) (x : Fin 16) (q : Fin 4) {c : Nat} (hc : c < 1024) :
    (tabF A w (word x q c) : EReal) = ∑ k ∈ Finset.range 12500, term A q c (point w x k) := by
  unfold tabF
  rw [scatV_apply _ (stN_lab A w hA _) _ _ x q hc, ← stN_sum A w hA x q hc 12500]
  simp

end Cert.Proof

end
-- ==== Proof.Totals.lean ====
/-
  The tiles' tables summed: component `q` of column `c` of the result, over all rows, is the sum of that component over
  every point of that column.
-/
module

public import proofs.«01_k».proof.Proof.Sums
public import proofs.«01_k».proof.Proof.Deal
public import proofs.«01_k».proof.Proof.Loss
public import Idealize.ShloMosaic.Lib.ValueIdxRank1
public import Idealize.ShloMosaic.Lib.Pointwise.Reduce

@[expose] public section

noncomputable section

namespace Cert.Proof

open Cert.KernelIdeal Cert.KernelIdeal.Gen
open Idealize.ShloMosaic
open Idealize.ShloMosaic.ValueIdx (idxEquiv1)

/-! ## A tile's rows -/

theorem colS_sum (X : S65536.Idx → EReal) (o : Nat) : ∀ n s (v : EReal),
    (colS (F := Ideal) X o n s v : EReal) = v + ∑ k ∈ Finset.range n, X (atT (4096 * (s + k) + o))
  | 0, s, v => by simp [colS]
  | n + 1, s, v => by
    show (colS (F := Ideal) X o n (s + 1) (v + X (atT (4096 * s + o)) : EReal) : EReal) = _
    rw [colS_sum X o n, Finset.sum_range_succ', add_assoc]
    congr 1
    rw [add_comm]
    congr 1
    refine Finset.sum_congr rfl fun k _ => ?_
    rw [show s + 1 + k = s + (k + 1) from by omega]

theorem resT_sum (X : S65536.Idx → EReal) (q : Fin 4) (c : Fin 1024) :
    (resT (F := Ideal) X (rowIx q c) : EReal) = ∑ x : Fin 16, X (word x q c.val) := by
  unfold resT
  rw [colS_sum, show (Scalar.ofBits (F := Ideal) .f32 0x00000000#32 : EReal) = 0 from Ideal.ofBits_zero_f32, zero_add, Finset.sum_range]
  refine Finset.sum_congr rfl fun x _ => ?_
  show X (atT (4096 * (0 + x.val) + (1024 * q.val + c.val))) = X (atT (4096 * x.val + 1024 * q.val + c.val))
  rw [Nat.zero_add, Nat.add_assoc]

/-! ## The points, tile by tile -/

theorem sum_range_mul (f : Nat → EReal) (b : Nat) : ∀ a, ∑ n ∈ Finset.range (a * b), f n = ∑ i ∈ Finset.range a, ∑ j ∈ Finset.range b, f (i * b + j)
  | 0 => by simp
  | a + 1 => by rw [Nat.succ_mul, Finset.sum_range_add, sum_range_mul f b a, Finset.sum_range_succ]

theorem sum_points (g : S6400000.Idx → EReal) : ∑ p, g p = ∑ n ∈ Finset.range 6400000, g (at6 n) := by
  rw [Finset.sum_range, ← Equiv.sum_comp (idxEquiv1 (n := 6400000)).symm g]
  refine Finset.sum_congr rfl fun n _ => congrArg g ?_
  funext a
  obtain rfl := Fin.eq_zero a
  exact Fin.ext (Nat.mod_eq_of_lt n.isLt).symm

theorem sum_tile (g : S6400000.Idx → EReal) (w : Nat) :
    ∑ x : Fin 16, ∑ k ∈ Finset.range 12500, g (point w x k) = ∑ r ∈ Finset.range 200000, g (at6 (w * 200000 + r)) := by
  rw [show (200000 : Nat) = 50 * 4000 from rfl, sum_range_mul _ 4000 50]
  have hk : ∀ x : Fin 16, ∑ k ∈ Finset.range 12500, g (point w x k)
      = ∑ t ∈ Finset.range 50, ∑ j ∈ Finset.range 250, g (at6 (w * 200000 + (t * 4000 + (x.val * 250 + j)))) := by
    intro x
    rw [show (12500 : Nat) = 50 * 250 from rfl, sum_range_mul _ 250 50]
    refine Finset.sum_congr rfl fun t _ => Finset.sum_congr rfl fun j hj => ?_
    have hj := Finset.mem_range.1 hj
    unfold point
    rw [show (t * 250 + j) / 250 = t from by omega, show (t * 250 + j) % 250 = j from by omega, Nat.add_assoc]
  rw [Finset.sum_congr rfl fun x _ => hk x, Finset.sum_comm]
  refine Finset.sum_congr rfl fun t _ => ?_
  rw [show (4000 : Nat) = 16 * 250 from rfl, sum_range_mul _ 250 16, Finset.sum_range]

theorem sum_tiles (g : S6400000.Idx → EReal) :
    ∑ w : Fin 32, ∑ x : Fin 16, ∑ k ∈ Finset.range 12500, g (point w.val x k) = ∑ p, g p := by
  rw [sum_points, show (6400000 : Nat) = 32 * 200000 from rfl, sum_range_mul _ 200000 32, Finset.sum_range]
  exact Finset.sum_congr rfl fun w _ => sum_tile g w.val

/-! ## The result's rows -/

variable (A : Args Ideal)

theorem outV_row (hA : A.OK) (w : Fin 32) (q : Fin 4) (c : Fin 1024) (r : Fin 128) (hr : r.val = 4 * w.val + q.val) :
    (outV A (ValueIdx.ix2 r c) : EReal) = ∑ x : Fin 16, ∑ k ∈ Finset.range 12500, term A q c.val (point w.val x k) := by
  have h1 : r.val / 4 = w.val := by have := q.isLt; omega
  have h2 : (⟨r.val % 4, Nat.mod_lt _ (by decide)⟩ : Fin 4) = q := Fin.ext (by show r.val % 4 = _; have := q.isLt; omega)
  show (resT (tabF A (r.val / 4)) (rowIx ⟨r.val % 4, _⟩ c) : EReal) = _
  rw [h1, h2]
  refine (resT_sum (tabF A w.val) q c).trans ?_
  exact Finset.sum_congr rfl fun x _ => tabF_sum A w.val hA x q c.isLt

theorem rem_row : ∀ (r : Fin 128) (q : Fin 4), IntOp.cmpi .eq (IntOp.remsi .vector (BitVec.ofNat 32 r.val) 4#32) (BitVec.ofNat 32 q.val) = 1#1 ↔ r.val % 4 = q.val := by
  decide +kernel

/-- Component `q` of column `c` over every point. -/
def total (q : Fin 4) (c : Nat) : EReal := ∑ p, term A q c p

theorem compSum_outV (hA : A.OK) (q : Fin 4) (c : Fin 1024) :
    (compSum (outV A) (BitVec.ofNat 32 q.val) (ValueIdx.ix2 0 c) : EReal) = total A q c.val := by
  unfold compSum
  rw [ValueIdx.shapeCast_a_1a_apply]
  refine (Ideal.reduceAdd_r2_a0 (n0 := 128) (n1 := 1024) reduces_S128x1024_S1024 _ (ValueIdx.ix1 c)).trans ?_
  have hrow : ∀ r : Fin 128, (select (cmpi .eq (remsi (iota .tc S128x1024 32 [0] iota_S128x1024_d0_w32) (broadcast S128x1024 4#32))
        (broadcast S128x1024 (BitVec.ofNat 32 q.val))) (outV A) (broadcast S128x1024 (Scalar.ofBits (F := Ideal) .f32 0x00000000#32)) (ValueIdx.ix2 r c) : EReal)
      = if r.val % 4 = q.val then (outV A (ValueIdx.ix2 r c) : EReal) else 0 := by
    intro r
    have hi : iota .tc S128x1024 32 [0] iota_S128x1024_d0_w32 (ValueIdx.ix2 r c) = BitVec.ofNat 32 r.val := by simp [iota]
    show (if IntOp.cmpi .eq (IntOp.remsi .vector (iota .tc S128x1024 32 [0] iota_S128x1024_d0_w32 (ValueIdx.ix2 r c)) 4#32) (BitVec.ofNat 32 q.val) = 1#1
      then (outV A (ValueIdx.ix2 r c) : EReal) else (Ideal.ofBits .f32 0x00000000#32 : EReal)) = _
    rw [hi]
    exact if_congr (rem_row r q) rfl Ideal.ofBits_zero_f32
  refine (Finset.sum_congr rfl fun r _ => hrow r).trans ?_
  show ∑ r : Fin (32 * 4), (if r.val % 4 = q.val then (outV A (ValueIdx.ix2 (n0 := 128) r c) : EReal) else 0) = _
  rw [← Equiv.sum_comp finProdFinEquiv, Fintype.sum_prod_type]
  unfold total
  rw [← sum_tiles]
  refine Finset.sum_congr rfl fun w _ => ?_
  have hm : ∀ k : Fin 4, (finProdFinEquiv (w, k)).val = 4 * w.val + k.val := fun k => Nat.add_comm _ _
  rw [Finset.sum_eq_single q]
  · rw [if_pos (by rw [hm]; have := q.isLt; omega)]
    exact outV_row A hA w q c _ (hm q)
  · intro k _ hk
    refine if_neg fun e => hk (Fin.ext ?_)
    rw [hm] at e
    have := q.isLt; have := k.isLt; omega
  · intro h; exact absurd (Finset.mem_univ _) h

end Cert.Proof

end
-- ==== Proof.LossValue.lean ====
/-
  The loss kernel's result over the extended reals, as one formula of the columns' totals; the columns no label names add nothing.
-/
module

public import proofs.«01_k».proof.Proof.Totals
public import proofs.«01_k».proof.Proof.Frames

@[expose] public section

noncomputable section

namespace Cert.Proof

open Cert.KernelIdeal Cert.KernelIdeal.Gen
open Idealize.ShloMosaic

/-! ## Comparisons and constants -/

theorem cmp_oge (x y : EReal) : Ideal.cmp .oge x y = 1#1 ↔ y ≤ x := by
  by_cases h : y ≤ x <;> simp [Ideal.cmp, h]
theorem cmp_ogt (x y : EReal) : Ideal.cmp .ogt x y = 1#1 ↔ y < x := by
  by_cases h : y < x <;> simp [Ideal.cmp, h]

theorem ofBits_zero : (Ideal.ofBits .f32 0x00000000#32 : EReal) = 0 := Ideal.ofBits_zero_f32
theorem ofBits_one : (Ideal.ofBits .f32 0x3F800000#32 : EReal) = 1 := one_f32
theorem ofBits_two : (Ideal.ofBits .f32 0x40000000#32 : EReal) = 2 := by
  simp [Ideal.ofBits, Ideal.ieee, -EReal.coe_mul]
  norm_num
  rfl

theorem col_pos : ∀ c : Fin 1024, IntOp.cmpi .sgt (BitVec.ofNat 32 c.val) 0#32 = 1#1 ↔ 0 < c.val := by
  decide +kernel

/-! ## The formula -/

/-- A count, or one where it is zero. -/
def safeOf (n : EReal) : EReal := if 0 < n then n else 1

/-- The squared length of a column's mean, from the sums of its three components and its count. -/
def lenOf (x y z n : EReal) : EReal :=
  Ideal.div x (safeOf n) * Ideal.div x (safeOf n) + Ideal.div y (safeOf n) * Ideal.div y (safeOf n) + Ideal.div z (safeOf n) * Ideal.div z (safeOf n)

/-- The loss of `N` columns: the mean over the columns but the first that have a point, of the squared lengths of those with two. -/
def lossOf (N : Nat) (cnt len : Nat → EReal) : EReal :=
  let tot := ∑ c ∈ Finset.range N, if 2 ≤ cnt c ∧ 0 < c then len c else 0
  let n := ∑ c ∈ Finset.range N, if 1 ≤ cnt c ∧ 0 < c then (1 : EReal) else 0
  if 0 < n then Ideal.div tot (max n 1) else 0

theorem lossOf_shrink {N M : Nat} (hNM : N ≤ M) {cnt len : Nat → EReal} (h : ∀ c, N ≤ c → cnt c = 0) : lossOf M cnt len = lossOf N cnt len := by
  have hs : Finset.range N ⊆ Finset.range M := fun c hc => Finset.mem_range.2 ((Finset.mem_range.1 hc).trans_le hNM)
  unfold lossOf
  rw [← Finset.sum_subset hs (f := fun c => if 2 ≤ cnt c ∧ 0 < c then len c else 0),
    ← Finset.sum_subset hs (f := fun c => if 1 ≤ cnt c ∧ 0 < c then (1 : EReal) else 0)]
  · intro c _ hc
    refine if_neg fun e => ?_
    have h1 := e.1
    rw [h c (not_lt.1 fun hl => hc (Finset.mem_range.2 hl))] at h1
    exact absurd h1 (by norm_num)
  · intro c _ hc
    refine if_neg fun e => ?_
    have h1 := e.1
    rw [h c (not_lt.1 fun hl => hc (Finset.mem_range.2 hl))] at h1
    exact absurd h1 (by norm_num)

/-! ## The kernel's result -/

theorem rowSum_ideal (v : FVec Ideal S1x1024 .f32) (f : Nat → EReal) (hf : ∀ c : Fin 1024, (v (ValueIdx.ix2 0 c) : EReal) = f c.val) :
    (rowSum v : EReal) = ∑ c ∈ Finset.range 1024, f c := by
  unfold rowSum extractAt
  have h1 : ∀ k : S1x1x1.Idx, (shapeCast S1x1x1 (multiReduction .add [1, 2] S1 (shapeCast S1x1x1024 v shapeCasts_S1x1024_S1x1x1024) 0x00000000#32
      reduces_S1x1x1024_S1 (.inl rfl) rfl) shapeCasts_S1_S1x1x1 k : EReal) = ∑ i : S1x1x1024.Idx, (shapeCast S1x1x1024 v shapeCasts_S1x1024_S1x1x1024 i : EReal) :=
    fun k => Ideal.reduceAdd_total (t := S1) reduces_S1x1x1024_S1 (by intro b; fin_cases b; rfl) _ _
  refine (h1 _).trans ?_
  rw [sum_idx3]
  rw [Finset.sum_range]
  simp only [Finset.univ_unique, Finset.sum_singleton]
  refine Finset.sum_congr rfl fun c _ => ?_
  refine Eq.trans ?_ (hf c)
  exact ValueIdx.shapeCast_ab_1ab_apply v _ _ _ c

variable (A : Args Ideal)

/-- The squared length of the mean of column `c`. -/
def len (c : Nat) : EReal := lenOf (total A 0 c) (total A 1 c) (total A 2 c) (total A 3 c)

theorem sqLen_outV (hA : A.OK) (c : Fin 1024) : (sqLen (outV A) (ValueIdx.ix2 0 c) : EReal) = len A c.val := by
  have h0 := compSum_outV A hA 0 c
  have h1 := compSum_outV A hA 1 c
  have h2 := compSum_outV A hA 2 c
  have h3 := compSum_outV A hA 3 c
  unfold len lenOf safeOf
  rw [← h0, ← h1, ← h2, ← h3]
  have hs : ∀ n : EReal, (Scalar.select (Ideal.cmp .ogt n (Ideal.ofBits .f32 0x00000000#32)) n (Ideal.ofBits .f32 0x3F800000#32) : EReal) = if 0 < n then n else 1 := by
    intro n
    unfold Scalar.select
    rw [ofBits_zero, ofBits_one]
    exact if_congr (cmp_ogt _ _) rfl rfl
  simp only [← hs]
  rfl

theorem cols_at (c : Fin 1024) : cols (ValueIdx.ix2 0 c) = 1#1 ↔ 0 < c.val := by
  have hi : iota .tc S1x1024 32 [1] iota_S1x1024_d1_w32 (ValueIdx.ix2 0 c) = BitVec.ofNat 32 c.val := by simp [iota]
  show IntOp.cmpi .sgt (iota .tc S1x1024 32 [1] iota_S1x1024_d1_w32 (ValueIdx.ix2 0 c)) 0#32 = 1#1 ↔ _
  rw [hi]; exact col_pos c

theorem lossF_outV (hA : A.OK) : (lossF (outV A) : EReal) = lossOf 1024 (total A 3) (len A) := by
  have htot : (rowSum (select (andi (cmpf .oge (compSum (outV A) 3#32) (broadcast S1x1024 (Scalar.ofBits .f32 0x40000000#32))) cols) (sqLen (outV A))
      (broadcast S1x1024 (Scalar.ofBits .f32 0x00000000#32))) : EReal) = ∑ c ∈ Finset.range 1024, if 2 ≤ total A 3 c ∧ 0 < c then len A c else 0 := by
    refine rowSum_ideal _ _ fun c => ?_
    show (if IntOp.andi (Ideal.cmp .oge (compSum (outV A) 3#32 (ValueIdx.ix2 0 c)) (Ideal.ofBits .f32 0x40000000#32)) (cols (ValueIdx.ix2 0 c)) = 1#1
      then (sqLen (outV A) (ValueIdx.ix2 0 c) : EReal) else (Ideal.ofBits .f32 0x00000000#32 : EReal)) = _
    rw [sqLen_outV A hA, ofBits_zero, ofBits_two]
    refine if_congr (andi_eq_one.trans (and_congr ?_ (cols_at c))) rfl rfl
    rw [cmp_oge]
    exact iff_of_eq (congrArg (2 ≤ ·) (compSum_outV A hA 3 c))
  have hn : (rowSum (select (andi (cmpf .oge (compSum (outV A) 3#32) (broadcast S1x1024 (Scalar.ofBits .f32 0x3F800000#32))) cols)
      (broadcast S1x1024 (Scalar.ofBits (F := Ideal) .f32 0x3F800000#32)) (broadcast S1x1024 (Scalar.ofBits (F := Ideal) .f32 0x00000000#32))) : EReal)
      = ∑ c ∈ Finset.range 1024, if 1 ≤ total A 3 c ∧ 0 < c then (1 : EReal) else 0 := by
    refine rowSum_ideal _ _ fun c => ?_
    show (if IntOp.andi (Ideal.cmp .oge (compSum (outV A) 3#32 (ValueIdx.ix2 0 c)) (Ideal.ofBits .f32 0x3F800000#32)) (cols (ValueIdx.ix2 0 c)) = 1#1
      then (Ideal.ofBits .f32 0x3F800000#32 : EReal) else (Ideal.ofBits .f32 0x00000000#32 : EReal)) = _
    rw [ofBits_zero, ofBits_one]
    refine if_congr (andi_eq_one.trans (and_congr ?_ (cols_at c))) rfl rfl
    rw [cmp_oge]
    exact iff_of_eq (congrArg (1 ≤ ·) (compSum_outV A hA 3 c))
  unfold lossOf
  rw [← htot, ← hn]
  have hl : ∀ t n : EReal, (Scalar.select (Ideal.cmp .ogt n (Ideal.ofBits .f32 0x00000000#32)) (Ideal.div t (max n (Ideal.ofBits .f32 0x3F800000#32)))
      (Ideal.ofBits .f32 0x00000000#32) : EReal) = if 0 < n then Ideal.div t (max n 1) else 0 := by
    intro t n
    unfold Scalar.select
    rw [ofBits_zero, ofBits_one]
    exact if_congr (cmp_ogt _ _) rfl rfl
  exact hl _ _

theorem total_high (h : ∀ p, (show BitVec 32 from A.l p).toNat < 1000) (q : Fin 4) (c : Nat) (hc : 1000 ≤ c) : total A q c = 0 :=
  Finset.sum_eq_zero fun p _ => if_neg fun e => by have := h p; omega

/-- The loss of the first thousand columns. -/
theorem lossF_eq (h : ∀ p, (show BitVec 32 from A.l p).toNat < 1000) : (lossF (outV A) : EReal) = lossOf 1000 (total A 3) (len A) := by
  rw [lossF_outV A fun p => (h p).trans (by decide)]
  exact lossOf_shrink (by decide) fun c hc => total_high A h 3 c hc

end Cert.Proof

end
-- ==== Proof.RefValue.lean ====
/-
  The reference's result over the extended reals: its segment sums are sums over the points of a column, and its result is
  the loss of its thousand columns.
-/
module

public import proofs.«01_k».proof.Proof.LossValue
public import proofs.«01_k».proof.Proof.Gen.ReferenceIdeal.Run
public import Idealize.ShloMosaic.Lib.Routing.OpsPair

@[expose] public section

noncomputable section

namespace Cert.Proof

open Cert.ReferenceIdeal Cert.ReferenceIdeal.Gen
open Idealize.ShloMosaic Idealize.ShloMosaic.TcCoe Idealize.SL.Sem

/-! ## The reference's term, in parts -/

/-- A point's weight: one where its label is positive. -/
def refW (l : IVec S6400000 32) : FVec Ideal S6400000 .f32 := uitofp .f32 (cmpi .sgt l (broadcastInDim S6400000 ![] bcast_S_S6400000 (constantI S_ 32 0#32)))

/-- The points of each column. -/
def refCnt (l : IVec S6400000 32) : FVec Ideal S1000 .f32 :=
  Host.scatterAdd scatter_S1000_S6400000x1_S6400000_n_0_0_1 (broadcastInDim S1000 ![] bcast_S_S1000 (constant S_ .f32 0x00000000#32))
    (broadcastInDim S6400000x1 ![0] bcast_S6400000_S6400000x1_0 l) (refW l)

/-- The sums of each column of the points `x + y`. -/
def refSum (x y : FVec Ideal S6400000x3 .f32) (l : IVec S6400000 32) : FVec Ideal S1000x3 .f32 :=
  Host.scatterAdd scatter_S1000x3_S6400000x1_S6400000x3_1_0_0_1 (broadcastInDim S1000x3 ![] bcast_S_S1000x3 (constant S_ .f32 0x00000000#32))
    (broadcastInDim S6400000x1 ![0] bcast_S6400000_S6400000x1_0 l)
    (mulf (addf x y) (broadcastInDim S6400000x3 ![0, 1] bcast_S6400000x1_S6400000x3_0_1 (broadcastInDim S6400000x1 ![0] bcast_S6400000_S6400000x1_0 (refW l))))

/-- Each column's mean difference. -/
def refMean (x y z : FVec Ideal S6400000x3 .f32) (l : IVec S6400000 32) : FVec Ideal S1000x3 .f32 :=
  Host.divf (subf (refSum x y l) (refSum x z l)) (broadcastInDim S1000x3 ![0, 1] bcast_S1000x1_S1000x3_0_1 (broadcastInDim S1000x1 ![0] bcast_S1000_S1000x1_0
    (select (cmpf .ogt (refCnt l) (broadcastInDim S1000 ![] bcast_S_S1000 (constant S_ .f32 0x00000000#32))) (refCnt l)
      (broadcastInDim S1000 ![] bcast_S_S1000 (id (constant S_ .f32 0x3F800000#32))))))

/-- The columns with `n` points or more, but the first. -/
def refMask (l : IVec S6400000 32) (n : BitVec 32) : IVec S1000 1 :=
  andi (cmpf .oge (refCnt l) (broadcastInDim S1000 ![] bcast_S_S1000 (constant S_ .f32 n)))
    (cmpi .sgt (iotaInDim S1000 32 0) (broadcastInDim S1000 ![] bcast_S_S1000 (constantI S_ 32 0#32)))

def refN (l : IVec S6400000 32) : FVec Ideal S_ .f32 :=
  Host.reduceAdd (uitofp .f32 (refMask l 0x3F800000#32)) (constant S_ .f32 0x00000000#32) reducesTo_S1000_S_d0 h_S_

def refTot (x y z : FVec Ideal S6400000x3 .f32) (l : IVec S6400000 32) : FVec Ideal S_ .f32 :=
  Host.reduceAdd (select (refMask l 0x40000000#32)
    (Host.reduceAdd (mulf (refMean x y z l) (refMean x y z l)) (constant S_ .f32 0x00000000#32) reducesTo_S1000x3_S1000_d1 h_S_)
    (broadcastInDim S1000 ![] bcast_S_S1000 (id (constant S_ .f32 0x00000000#32)))) (constant S_ .f32 0x00000000#32) reducesTo_S1000_S_d0 h_S_

def refLoss (x y z : FVec Ideal S6400000x3 .f32) (l : IVec S6400000 32) : FVec Ideal S_ .f32 :=
  select (cmpf .ogt (refN l) (constant S_ .f32 0x00000000#32)) (Host.divf (refTot x y z l) (maximumf (refN l) (constant S_ .f32 0x3F800000#32)))
    (id (constant S_ .f32 0x00000000#32))

theorem res_eq (m : (ℓ : Loc nD τ sig) → Buf (Elt Ideal) ℓ) (c : Dev nD) :
    Cert.ReferenceIdeal.Value.res_main_v47 m c = refLoss (m ((c.tc : Thread nD τ).loc main_arg0)) (m ((c.tc : Thread nD τ).loc main_arg1))
      (m ((c.tc : Thread nD τ).loc main_arg2)) (m ((c.tc : Thread nD τ).loc main_arg3)) := by
  unfold Cert.ReferenceIdeal.Value.res_main_v47
  rfl

/-! ## Where an update lands -/

theorem scatterAdd_at {s si u : Shape} {w : Nat} (d : ScatterDims s si u) (x : FVec Ideal s .f32) (idx : IVec si w) (upd : FVec Ideal u .f32) (i : s.Idx) :
    (Host.scatterAdd d x idx upd i : EReal) = (x i : EReal) + ∑ j, if d.resultIdx? j idx = some i then (upd j : EReal) else 0 := by
  rw [← Finset.sum_filter]
  rfl

theorem sum_idx1 {n : Nat} (f : (⟨1, ![n]⟩ : Shape).Idx → EReal) : ∑ p, f p = ∑ a : Fin n, f (ValueIdx.ix1 a) :=
  (Equiv.sum_comp (ValueIdx.idxEquiv1 (n := n)).symm f).symm

variable (l : IVec S6400000 32)

/-- The labels as the scatter's index column. -/
abbrev labCol : IVec S6400000x1 32 := broadcastInDim S6400000x1 ![0] bcast_S6400000_S6400000x1_0 l

theorem start1 (p : Fin 6400000) : scatter_S1000_S6400000x1_S6400000_n_0_0_1.start (ValueIdx.ix1 p) (labCol l) 0 = (l (ValueIdx.ix1 p)).toInt := by
  unfold ScatterDims.start
  rw [dif_pos (by exact List.mem_singleton.2 rfl)]
  unfold labCol broadcastInDim
  congr 2
  funext a
  obtain rfl := Fin.eq_zero a
  rfl

theorem window1 (p : Fin 6400000) : scatter_S1000_S6400000x1_S6400000_n_0_0_1.window (ValueIdx.ix1 p) 0 = 0 := by
  rfl

theorem start3 (p : Fin 6400000) (k : Fin 3) :
    scatter_S1000x3_S6400000x1_S6400000x3_1_0_0_1.start (ValueIdx.ix2 p k) (labCol l) 0 = (l (ValueIdx.ix1 p)).toInt := by
  unfold ScatterDims.start
  rw [dif_pos (by exact List.mem_singleton.2 rfl)]
  unfold labCol broadcastInDim
  congr 2
  funext a
  obtain rfl := Fin.eq_zero a
  rfl

theorem start3' (p : Fin 6400000) (k : Fin 3) :
    scatter_S1000x3_S6400000x1_S6400000x3_1_0_0_1.start (ValueIdx.ix2 p k) (labCol l) 1 = 0 := by
  rfl

theorem window3 (p : Fin 6400000) (k : Fin 3) : scatter_S1000x3_S6400000x1_S6400000x3_1_0_0_1.window (ValueIdx.ix2 p k) 0 = 0 := by
  rfl

theorem window3' (p : Fin 6400000) (k : Fin 3) : scatter_S1000x3_S6400000x1_S6400000x3_1_0_0_1.window (ValueIdx.ix2 p k) 1 = k.val := by
  rfl

variable (hl : ∀ p, (l p).toNat < 1000)
include hl

theorem toInt_lab (p : S6400000.Idx) : (l p).toInt = (l p).toNat :=
  BitVec.toInt_eq_toNat_of_lt (by have := hl p; omega)

theorem lands1 (p : Fin 6400000) (c : Fin 1000) :
    scatter_S1000_S6400000x1_S6400000_n_0_0_1.resultIdx? (ValueIdx.ix1 p) (labCol l) = some (ValueIdx.ix1 c) ↔ (l (ValueIdx.ix1 p)).toNat = c.val := by
  rw [Routing.resultIdx?_eq_some]
  constructor
  · intro h
    have := h 0
    rw [start1, window1, toInt_lab l hl] at this
    exact_mod_cast this
  · intro h a
    obtain rfl := Fin.eq_zero a
    rw [start1, window1, toInt_lab l hl]
    exact_mod_cast h

theorem lands3 (p : Fin 6400000) (k : Fin 3) (c : Fin 1000) (q : Fin 3) :
    scatter_S1000x3_S6400000x1_S6400000x3_1_0_0_1.resultIdx? (ValueIdx.ix2 p k) (labCol l) = some (ValueIdx.ix2 c q)
      ↔ (l (ValueIdx.ix1 p)).toNat = c.val ∧ k = q := by
  rw [Routing.resultIdx?_eq_some]
  constructor
  · intro h
    have h0 := h 0
    have h1 := h 1
    rw [start3, window3, toInt_lab l hl] at h0
    rw [start3', window3'] at h1
    exact ⟨by exact_mod_cast h0, Fin.ext (by have : (0 : Int) + (k.val : Int) = (q.val : Int) := h1; omega)⟩
  · rintro ⟨h, rfl⟩ a
    match a with
    | ⟨0, _⟩ =>
      show scatter_S1000x3_S6400000x1_S6400000x3_1_0_0_1.start (ValueIdx.ix2 p k) (labCol l) 0
        + (scatter_S1000x3_S6400000x1_S6400000x3_1_0_0_1.window (ValueIdx.ix2 p k) 0 : Int) = (c.val : Int)
      rw [start3, window3, toInt_lab l hl]
      exact_mod_cast h
    | ⟨1, _⟩ =>
      show scatter_S1000x3_S6400000x1_S6400000x3_1_0_0_1.start (ValueIdx.ix2 p k) (labCol l) 1
        + (scatter_S1000x3_S6400000x1_S6400000x3_1_0_0_1.window (ValueIdx.ix2 p k) 1 : Int) = (k.val : Int)
      rw [start3', window3', Int.zero_add]

/-! ## The segment sums at a column but the first -/

theorem refW_pos (p : S6400000.Idx) (h : 0 < (l p).toNat) : (refW l p : EReal) = 1 := by
  have hb : IntOp.cmpi .sgt (l p) 0#32 = 1#1 := by
    have : (0#32).slt (l p) = true := by
      rw [BitVec.slt_iff_toInt_lt, toInt_lab l hl]
      show (0 : Int) < _
      exact_mod_cast h
    simp [IntOp.cmpi, this]
  show (((IntOp.cmpi .sgt (l p) 0#32).toNat : ℝ) : EReal) = 1
  rw [hb]; norm_num

theorem refCnt_at (c : Fin 1000) (hc : 0 < c.val) : (refCnt l (ValueIdx.ix1 c) : EReal) = ∑ p, if (l p).toNat = c.val then (1 : EReal) else 0 := by
  have h0 : (broadcastInDim S1000 ![] bcast_S_S1000 (constant (F := Ideal) S_ .f32 0x00000000#32) (ValueIdx.ix1 c) : EReal) = 0 := ofBits_zero
  unfold refCnt
  rw [scatterAdd_at, h0, zero_add, sum_idx1, sum_idx1]
  refine Finset.sum_congr rfl fun p _ => ?_
  by_cases e : (l (ValueIdx.ix1 p)).toNat = c.val
  · rw [if_pos ((lands1 l hl p c).2 e), if_pos e, refW_pos l hl _ (by omega)]
  · rw [if_neg fun h => e ((lands1 l hl p c).1 h), if_neg e]

omit hl in
theorem refW_col (p : Fin 6400000) (k : Fin 3) : (broadcastInDim S6400000x3 ![0, 1] bcast_S6400000x1_S6400000x3_0_1
    (broadcastInDim S6400000x1 ![0] bcast_S6400000_S6400000x1_0 (refW l)) (ValueIdx.ix2 p k) : EReal) = refW l (ValueIdx.ix1 p) := by
  unfold broadcastInDim
  refine congrArg (refW l) ?_
  funext a
  obtain rfl := Fin.eq_zero a
  rfl

theorem refSum_at (x y : FVec Ideal S6400000x3 .f32) (c : Fin 1000) (hc : 0 < c.val) (q : Fin 3) :
    (refSum x y l (ValueIdx.ix2 c q) : EReal)
      = ∑ p : Fin 6400000, if (l (ValueIdx.ix1 p)).toNat = c.val then (x (ValueIdx.ix2 p q) + y (ValueIdx.ix2 p q) : EReal) else 0 := by
  have h0 : (broadcastInDim S1000x3 ![] bcast_S_S1000x3 (constant (F := Ideal) S_ .f32 0x00000000#32) (ValueIdx.ix2 c q) : EReal) = 0 := ofBits_zero
  unfold refSum
  rw [scatterAdd_at, h0, zero_add, ValueIdx.sum_idx2]
  refine Finset.sum_congr rfl fun p _ => ?_
  rw [Finset.sum_eq_single q]
  · by_cases e : (l (ValueIdx.ix1 p)).toNat = c.val
    · rw [if_pos ((lands3 l hl p q c q).2 ⟨e, rfl⟩), if_pos e]
      show ((x (ValueIdx.ix2 p q) + y (ValueIdx.ix2 p q)) * (broadcastInDim S6400000x3 ![0, 1] bcast_S6400000x1_S6400000x3_0_1
        (broadcastInDim S6400000x1 ![0] bcast_S6400000_S6400000x1_0 (refW l)) (ValueIdx.ix2 p q)) : EReal) = _
      rw [refW_col l, refW_pos l hl _ (by omega), mul_one]
    · rw [if_neg fun h => e ((lands3 l hl p q c q).1 h).1, if_neg e]
  · intro k _ hk
    exact if_neg fun h => hk ((lands3 l hl p k c q).1 h).2
  · intro h; exact absurd (Finset.mem_univ _) h

end Cert.Proof

end
-- ==== Proof.RefLoss.lean ====
/-
  The reference's result as the loss of its thousand columns, and its sums' difference beside the sum of the differences. The
  coordinates are finite and cancel. Where every offset of a column is finite the two are equal; otherwise both are infinite, maybe
  of different sign, and their squares are equal.
-/
module

public import proofs.«01_k».proof.Proof.RefValue

@[expose] public section

noncomputable section

namespace Cert.Proof

open Cert.ReferenceIdeal Cert.ReferenceIdeal.Gen
open Idealize.ShloMosaic Idealize.ShloMosaic.TcCoe Idealize.SL.Sem

/-! ## Finite sums of reals -/

theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_sub_real {ι : Type} [Fintype ι] (P : ι → Prop) [DecidablePred P] (a b c : ι → ℝ) :
    (∑ i, if P i then ((a i : EReal) + (b i : EReal)) else 0) - (∑ i, if P i then ((a i : EReal) + (c i : EReal)) else 0)
      = ∑ i, if P i then ((b i : EReal) - (c i : EReal)) else 0 := by
  have h1 : ∀ d : ι → ℝ, (∑ i, if P i then ((a i : EReal) + (d i : EReal)) else 0) = ((∑ i, if P i then a i + d i else 0 : ℝ) : EReal) := by
    intro d
    rw [coe_sum_real]
    refine Finset.sum_congr rfl fun i _ => ?_
    split_ifs
    · rw [EReal.coe_add]
    · rfl
  have h2 : (∑ i, if P i then ((b i : EReal) - (c i : EReal)) else 0) = ((∑ i, if P i then b i - c i else 0 : ℝ) : EReal) := by
    rw [coe_sum_real]
    refine Finset.sum_congr rfl fun i _ => ?_
    split_ifs
    · rw [EReal.coe_sub]
    · rfl
  rw [h1, h1, h2, ← EReal.coe_sub, ← Finset.sum_sub_distrib]
  congr 1
  refine Finset.sum_congr rfl fun i _ => ?_
  split_ifs <;> ring

/-- Infinite, of either sign. -/
def Inf (v : EReal) : Prop := v = ⊤ ∨ v = ⊥

theorem inf_add {u v : EReal} (h : Inf u ∨ Inf v) : Inf (u + v) := by
  unfold Inf at *
  induction u <;> induction v <;> simp_all

theorem inf_neg {v : EReal} (h : Inf v) : Inf (-v) := by
  rcases h with rfl | rfl
  · exact .inr EReal.neg_top
  · exact .inl EReal.neg_bot

theorem inf_sub {u v : EReal} (h : Inf u ∨ Inf v) : Inf (u - v) := by
  rw [sub_eq_add_neg]
  exact inf_add (h.imp_right inf_neg)

theorem inf_sum {ι : Type} [Fintype ι] (f : ι → EReal) (i : ι) (h : Inf (f i)) : Inf (∑ j, f j) := by
  classical
  rw [← Finset.add_sum_erase _ f (Finset.mem_univ i)]
  exact inf_add (.inl h)

theorem real_of_not_inf {v : EReal} (h : ¬ Inf v) : ((v.toReal : ℝ) : EReal) = v :=
  EReal.coe_toReal (fun e => h (.inl e)) (fun e => h (.inr e))

/-- Equal, or both infinite. -/
def Alike (u v : EReal) : Prop := u = v ∨ Inf u ∧ Inf v

/-- The first numbers are finite and cancel; the sums are infinite together. -/
theorem sum_sub_alike {ι : Type} [Fintype ι] (P : ι → Prop) [DecidablePred P] (a : ι → ℝ) (b c : ι → EReal) :
    Alike ((∑ i, if P i then ((a i : EReal) + b i) else 0) - (∑ i, if P i then ((a i : EReal) + c i) else 0)) (∑ i, if P i then (b i - c i) else 0) := by
  by_cases h : ∃ i, P i ∧ (Inf (b i) ∨ Inf (c i))
  · obtain ⟨i, hi, hbc⟩ := h
    refine .inr ⟨inf_sub (hbc.imp (fun hb => ?_) fun hc => ?_), inf_sum _ i ?_⟩
    · exact inf_sum _ i (by rw [if_pos hi]; exact inf_add (.inr hb))
    · exact inf_sum _ i (by rw [if_pos hi]; exact inf_add (.inr hc))
    · rw [if_pos hi]; exact inf_sub hbc
  · have hb : ∀ i, P i → (((b i).toReal : ℝ) : EReal) = b i := fun i hi => real_of_not_inf fun e => h ⟨i, hi, .inl e⟩
    have hc : ∀ i, P i → (((c i).toReal : ℝ) : EReal) = c i := fun i hi => real_of_not_inf fun e => h ⟨i, hi, .inr e⟩
    refine .inl (Eq.trans ?_ ((sum_sub_real P a (fun i => (b i).toReal) (fun i => (c i).toReal)).trans ?_))
    · refine congrArg₂ (fun u v : EReal => u - v) ?_ ?_ <;> refine Finset.sum_congr rfl fun i _ => ?_
      · split_ifs with hi
        · rw [hb i hi]
        · rfl
      · split_ifs with hi
        · rw [hc i hi]
        · rfl
    · refine Finset.sum_congr rfl fun i _ => ?_
      split_ifs with hi
      · rw [hb i hi, hc i hi]
      · rfl

/-- Quotients of such numbers by one number have the same square. -/
theorem div_sq {u v : EReal} (h : Alike u v) (s : EReal) : Ideal.div u s * Ideal.div u s = Ideal.div v s * Ideal.div v s := by
  have hb : ∀ w : EReal, Inf w → Ideal.div w s * Ideal.div w s = Ideal.div ⊤ s * Ideal.div ⊤ s := by
    rintro w (rfl | rfl)
    · rfl
    · unfold Ideal.div
      by_cases h0 : s = 0
      · rw [if_pos h0, if_pos h0, if_neg not_lt_bot, if_pos EReal.zero_lt_top]
        rfl
      · rw [if_neg h0, if_neg h0, ← EReal.neg_top, neg_mul, neg_mul_neg]
  rcases h with rfl | ⟨hu, hv⟩
  · rfl
  · rw [hb u hu, hb v hv]

theorem ofBits_top : (Ideal.ofBits .f32 0x7F800000#32 : EReal) = ⊤ := by
  simp [Ideal.ofBits, Ideal.ieee]

/-- A number below infinity in size is a real. -/
theorem real_of_lt (v : EReal) (h : Ideal.cmp .olt (max v (-v)) (Ideal.ofBits .f32 0x7F800000#32) = 1#1) : ∃ r : ℝ, (r : EReal) = v := by
  rw [ofBits_top] at h
  have hlt : max v (-v) < ⊤ := by
    by_contra hn
    simp [Ideal.cmp, hn] at h
  have h1 : v ≠ ⊤ := ne_of_lt ((le_max_left _ _).trans_lt hlt)
  have h2 : v ≠ ⊥ := by
    rintro rfl
    exact absurd hlt (by simp)
  exact ⟨v.toReal, EReal.coe_toReal h1 h2⟩

/-! ## The columns -/

variable (x y z : FVec Ideal S6400000x3 .f32) (l : IVec S6400000 32)

theorem diff_at (h : InRange x l) (c : Fin 1000) (hc : 0 < c.val) (q : Fin 3) :
    Alike ((refSum x y l (ValueIdx.ix2 c q) : EReal) - refSum x z l (ValueIdx.ix2 c q))
      (∑ p : Fin 6400000, if (l (ValueIdx.ix1 p)).toNat = c.val then (y (ValueIdx.ix2 p q) - z (ValueIdx.ix2 p q) : EReal) else 0) := by
  rw [refSum_at l h.lab x y c hc q, refSum_at l h.lab x z c hc q]
  choose fx hx using fun p : Fin 6400000 => real_of_lt (x (ValueIdx.ix2 p q)) (h.c_lt _)
  have := sum_sub_alike (fun p : Fin 6400000 => (l (ValueIdx.ix1 p)).toNat = c.val) fx (fun p => y (ValueIdx.ix2 p q)) fun p => z (ValueIdx.ix2 p q)
  simp only [hx] at this
  exact this

theorem refMask_at (n : BitVec 32) (c : Fin 1000) :
    refMask l n (ValueIdx.ix1 c) = 1#1 ↔ (Ideal.ofBits .f32 n : EReal) ≤ refCnt l (ValueIdx.ix1 c) ∧ 0 < c.val := by
  show IntOp.andi (Ideal.cmp .oge (refCnt l (ValueIdx.ix1 c)) (Ideal.ofBits .f32 n)) (IntOp.cmpi .sgt (BitVec.ofNat 32 c.val) 0#32) = 1#1 ↔ _
  rw [andi_eq_one, cmp_oge]
  exact and_congr Iff.rfl (col_pos ⟨c.val, c.isLt.trans (by decide)⟩)

/-- Counts, one where zero. -/
def refSafe (n : FVec Ideal S1000 .f32) : FVec Ideal S1000 .f32 :=
  select (cmpf .ogt n (broadcastInDim S1000 ![] bcast_S_S1000 (constant S_ .f32 0x00000000#32))) n
    (broadcastInDim S1000 ![] bcast_S_S1000 (id (constant S_ .f32 0x3F800000#32)))

theorem refSafe_at (n : FVec Ideal S1000 .f32) (c : Fin 1000) : (refSafe n (ValueIdx.ix1 c) : EReal) = safeOf (n (ValueIdx.ix1 c)) := by
  show (if Ideal.cmp .ogt (n (ValueIdx.ix1 c)) (Ideal.ofBits .f32 0x00000000#32) = 1#1 then (n (ValueIdx.ix1 c) : EReal)
    else (Ideal.ofBits .f32 0x3F800000#32 : EReal)) = _
  rw [ofBits_zero, ofBits_one]
  exact if_congr (cmp_ogt _ _) rfl rfl

theorem col_bcast (s : FVec Ideal S1000 .f32) (c : Fin 1000) (q : Fin 3) : (broadcastInDim S1000x3 ![0, 1] bcast_S1000x1_S1000x3_0_1
    (broadcastInDim S1000x1 ![0] bcast_S1000_S1000x1_0 s) (ValueIdx.ix2 c q) : EReal) = s (ValueIdx.ix1 c) := by
  unfold broadcastInDim
  refine congrArg s ?_
  funext a
  obtain rfl := Fin.eq_zero a
  rfl

theorem refMean_at (c : Fin 1000) (q : Fin 3) : (refMean x y z l (ValueIdx.ix2 c q) : EReal)
    = Ideal.div (refSum x y l (ValueIdx.ix2 c q) - refSum x z l (ValueIdx.ix2 c q)) (safeOf (refCnt l (ValueIdx.ix1 c))) := by
  have h : ∀ a b s : FVec Ideal S1000x3 .f32, ∀ j, (Host.divf (subf a b) s j : EReal) = Ideal.div (a j - b j) (s j) := fun _ _ _ _ => rfl
  have hm : refMean x y z l = Host.divf (subf (refSum x y l) (refSum x z l)) (broadcastInDim S1000x3 ![0, 1] bcast_S1000x1_S1000x3_0_1
    (broadcastInDim S1000x1 ![0] bcast_S1000_S1000x1_0 (refSafe (refCnt l)))) := by
    unfold refMean refSafe
    rfl
  rw [hm, h, col_bcast, refSafe_at]

theorem hostSum_def {s t u : Shape} {axes : List (Fin s.rank)} (v : FVec Ideal s .f32) (init : FVec Ideal u .f32) (h : s.ReducesTo axes t) (hu : 0 < u.numel) (j : t.Idx) :
    (Host.reduceAdd v init h hu j : EReal) = Ideal.hostReduceAdd h v (init (Shape.Idx.first hu)) j := rfl

theorem zero_at (j : S_.Idx) : (constant (F := Ideal) S_ .f32 0x00000000#32 j : EReal) = 0 := ofBits_zero

/-- The host's sum of a vector of a thousand columns. -/
theorem hostSum_at (v : FVec Ideal S1000 .f32) (f : Nat → EReal) (hf : ∀ c : Fin 1000, (v (ValueIdx.ix1 c) : EReal) = f c.val) (j : S_.Idx) :
    (Host.reduceAdd v (constant (F := Ideal) S_ .f32 0x00000000#32) reducesTo_S1000_S_d0 h_S_ j : EReal) = ∑ c ∈ Finset.range 1000, f c := by
  have h1 : (Host.reduceAdd v (constant (F := Ideal) S_ .f32 0x00000000#32) reducesTo_S1000_S_d0 h_S_ j : EReal)
      = Ideal.hostReduceAdd reducesTo_S1000_S_d0 v 0 j := by rw [hostSum_def, zero_at]
  have h2 : Ideal.hostReduceAdd reducesTo_S1000_S_d0 v 0 j = 0 + ∑ i : S1000.Idx, (v i : EReal) :=
    Ideal.hostReduceAdd_total reducesTo_S1000_S_d0 (fun b => b.elim0) v 0 j
  have h3 : ∑ i : S1000.Idx, (v i : EReal) = ∑ c : Fin 1000, (v (ValueIdx.ix1 c) : EReal) := by rw [sum_idx1]
  have h4 : ∑ c : Fin 1000, (v (ValueIdx.ix1 c) : EReal) = ∑ c ∈ Finset.range 1000, f c := by
    rw [Finset.sum_range]
    exact Finset.sum_congr rfl fun c _ => hf c
  rw [h1, h2, zero_add, h3, h4]

/-- A column's squared length. -/
theorem rowLen_at (a : FVec Ideal S1000x3 .f32) (c : Fin 1000) :
    (Host.reduceAdd (mulf a a) (constant (F := Ideal) S_ .f32 0x00000000#32) reducesTo_S1000x3_S1000_d1 h_S_ (ValueIdx.ix1 c) : EReal)
      = a (ValueIdx.ix2 c 0) * a (ValueIdx.ix2 c 0) + a (ValueIdx.ix2 c 1) * a (ValueIdx.ix2 c 1) + a (ValueIdx.ix2 c 2) * a (ValueIdx.ix2 c 2) := by
  have h1 : (Host.reduceAdd (mulf a a) (constant (F := Ideal) S_ .f32 0x00000000#32) reducesTo_S1000x3_S1000_d1 h_S_ (ValueIdx.ix1 c) : EReal)
      = Ideal.hostReduceAdd reducesTo_S1000x3_S1000_d1 (mulf a a) 0 (ValueIdx.ix1 c) := by rw [hostSum_def, zero_at]
  have h2 : Ideal.hostReduceAdd reducesTo_S1000x3_S1000_d1 (mulf a a) 0 (ValueIdx.ix1 c) = 0 + ∑ k : Fin 3, (mulf a a (ValueIdx.ix2 c k) : EReal) :=
    Ideal.hostReduceAdd_r2_a1 (n0 := 1000) (n1 := 3) reducesTo_S1000x3_S1000_d1 (mulf a a) 0 (ValueIdx.ix1 c)
  rw [h1, h2, zero_add, Fin.sum_univ_three]
  rfl

/-- The last choice. -/
theorem last_at (n t : FVec Ideal S_ .f32) (j : S_.Idx) :
    (select (cmpf .ogt n (constant S_ .f32 0x00000000#32)) (Host.divf t (maximumf n (constant S_ .f32 0x3F800000#32))) (id (constant (F := Ideal) S_ .f32 0x00000000#32)) j : EReal)
      = if 0 < (n j : EReal) then Ideal.div (t j) (max (n j) 1) else 0 := by
  show (if Ideal.cmp .ogt (n j) (Ideal.ofBits .f32 0x00000000#32) = 1#1 then
    (Ideal.div (t j) (max (n j) (Ideal.ofBits .f32 0x3F800000#32)) : EReal) else (Ideal.ofBits .f32 0x00000000#32 : EReal)) = _
  rw [ofBits_zero, ofBits_one]
  exact if_congr (cmp_ogt _ _) rfl rfl

/-- A mask as numbers. -/
theorem bit_at (b : IVec S1000 1) (j : S1000.Idx) : (uitofp (F := Ideal) .f32 b j : EReal) = if b j = 1#1 then 1 else 0 := by
  show (((b j).toNat : ℝ) : EReal) = _
  by_cases e : b j = 1#1
  · rw [if_pos e, e]; norm_num
  · rw [if_neg e, (BitVec.eq_zero_or_eq_one _).resolve_right e]; norm_num

/-- Numbers under a mask. -/
theorem pick_at (b : IVec S1000 1) (v : FVec Ideal S1000 .f32) (j : S1000.Idx) :
    (select b v (broadcastInDim S1000 ![] bcast_S_S1000 (id (constant (F := Ideal) S_ .f32 0x00000000#32))) j : EReal) = if b j = 1#1 then (v j : EReal) else 0 := by
  show (if b j = 1#1 then (v j : EReal) else (Ideal.ofBits .f32 0x00000000#32 : EReal)) = _
  rw [ofBits_zero]

/-! ## The result -/

/-- The task's arrays hold the labels and the three differences of `y` and `z`. -/
structure ArgsAre (A : Args Ideal) : Prop where
  hl : A.l = l
  hx : ∀ p : Fin 6400000, (A.x (ValueIdx.ix1 p) : EReal) = y (ValueIdx.ix2 p 0) - z (ValueIdx.ix2 p 0)
  hy : ∀ p : Fin 6400000, (A.y (ValueIdx.ix1 p) : EReal) = y (ValueIdx.ix2 p 1) - z (ValueIdx.ix2 p 1)
  hz : ∀ p : Fin 6400000, (A.z (ValueIdx.ix1 p) : EReal) = y (ValueIdx.ix2 p 2) - z (ValueIdx.ix2 p 2)

variable (A : Args Ideal) (hA : ArgsAre y z l A) (h : InRange x l)
include hA h

theorem cnt_eq (c : Fin 1000) (hc : 0 < c.val) : (refCnt l (ValueIdx.ix1 c) : EReal) = total A 3 c.val := by
  rw [refCnt_at l h.lab c hc]
  unfold total term
  rw [hA.hl]
  exact Finset.sum_congr rfl fun p _ => if_congr Iff.rfl rfl rfl

theorem diff_alike (c : Fin 1000) (hc : 0 < c.val) (q : Fin 3) :
    Alike ((refSum x y l (ValueIdx.ix2 c q) : EReal) - refSum x z l (ValueIdx.ix2 c q)) (total A q.castSucc c.val) := by
  refine (congrArg (Alike _) ?_).mp (diff_at x y z l h c hc q)
  symm
  unfold total term
  rw [sum_idx1, hA.hl]
  refine Finset.sum_congr rfl fun p _ => ?_
  refine if_congr Iff.rfl ?_ rfl
  fin_cases q
  · exact hA.hx p
  · exact hA.hy p
  · exact hA.hz p

theorem refLoss_eq (j : S_.Idx) : (refLoss x y z l j : EReal) = lossOf 1000 (total A 3) (len A) := by
  have hmask : ∀ (n : BitVec 32) (t : EReal), (Ideal.ofBits .f32 n : EReal) = t → ∀ c : Fin 1000,
      (refMask l n (ValueIdx.ix1 c) = 1#1 ↔ t ≤ total A 3 c.val ∧ 0 < c.val) := by
    intro n t ht c
    rw [refMask_at, ht]
    exact and_congr_left fun hc => by rw [cnt_eq x y z l A hA h c hc]
  have hn : (refN l j : EReal) = ∑ c ∈ Finset.range 1000, if 1 ≤ total A 3 c ∧ 0 < c then (1 : EReal) else 0 := by
    unfold refN
    refine hostSum_at (uitofp .f32 (refMask l 0x3F800000#32)) _ (fun c => ?_) j
    rw [bit_at]
    exact if_congr (hmask _ _ ofBits_one c) rfl rfl
  have ht : (refTot x y z l j : EReal) = ∑ c ∈ Finset.range 1000, if 2 ≤ total A 3 c ∧ 0 < c then len A c else 0 := by
    unfold refTot
    refine hostSum_at _ _ (fun c => ?_) j
    rw [pick_at, rowLen_at]
    have hm := hmask _ _ ofBits_two c
    by_cases e : refMask l 0x40000000#32 (ValueIdx.ix1 c) = 1#1
    · have hc := (hm.1 e).2
      rw [if_pos e, if_pos (hm.1 e), refMean_at, refMean_at, refMean_at, div_sq (diff_alike x y z l A hA h c hc 0), div_sq (diff_alike x y z l A hA h c hc 1),
        div_sq (diff_alike x y z l A hA h c hc 2), cnt_eq x y z l A hA h c hc]
      rfl
    · rw [if_neg e, if_neg fun k => e (hm.2 k)]
  have hl : refLoss x y z l j = _ := last_at (refN l) (refTot x y z l) j
  rw [hl, hn, ht]
  rfl

end Cert.Proof

end
-- ==== Proof.Algebraic.lean ====
/-
  The value claim: the idealized kernel and the idealized reference end with the same loss, every device's arguments unchanged.
-/
module

public import proofs.«01_k».proof.Proof.RefLoss

@[expose] public section

noncomputable section

namespace Cert.Proof

open Cert.KernelIdeal Cert.KernelIdeal.Gen
open Idealize.ShloMosaic Idealize.ShloMosaic.TcCoe Idealize.ShloMosaic.Tactic Idealize.SL.Sem
open Idealize.ShloMosaic.StableHlo

/-! ## The task's arrays -/

/-- One column of an array of points, as a vector. -/
def column (off : Fin 2 → Nat) (h : S6400000x3.Slices off S6400000x1) (y : FVec Ideal S6400000x3 .f32) : FVec Ideal S6400000 .f32 :=
  shapeCast S6400000 (extractStridedSlice S6400000x1 off (extractStridedSlice S6400000x3 ![0, 0] y slices_S6400000x3_S6400000x3_0_0) h) shapeCasts_S6400000x1_S6400000

theorem shapeCast_a1_a {α : Type} {n : Nat} (v : (⟨2, ![n, 1]⟩ : Shape).Idx → α) (h : (⟨2, ![n, 1]⟩ : Shape).ShapeCasts ⟨1, ![n]⟩) (p : Fin n) :
    shapeCast ⟨1, ![n]⟩ v h (ValueIdx.ix1 p) = v (ValueIdx.ix2 p 0) :=
  shapeCast_apply v h _ _ (by
    rw [Shape.rowMajor_val_two, Shape.rowMajor_val_one]
    show p.val * 1 + 0 = p.val
    omega)

theorem column_at (q : Fin 3) (h : S6400000x3.Slices ![0, q.val] S6400000x1) (y : FVec Ideal S6400000x3 .f32) (p : Fin 6400000) :
    column ![0, q.val] h y (ValueIdx.ix1 p) = y (ValueIdx.ix2 p q) := by
  unfold column
  rw [shapeCast_a1_a, extractStridedSlice_apply (k := ValueIdx.ix2 p q), extractStridedSlice_apply (k := ValueIdx.ix2 p q)]
  · intro a
    match a with
    | ⟨0, _⟩ => exact (Nat.zero_add _).symm
    | ⟨1, _⟩ => exact (Nat.zero_add _).symm
  · intro a
    match a with
    | ⟨0, _⟩ => exact (Nat.zero_add _).symm
    | ⟨1, _⟩ => rfl

section
variable (m : (ℓ : Loc nD τ sig) → Buf (Elt Ideal) ℓ) (d : Dev nD)

theorem argsOf_x : (argsOf m d).x = subf (column ![0, 0] slices_S6400000x3_S6400000x1_0_0 (m ((SparseCore.T d).loc main_arg1)))
    (column ![0, 0] slices_S6400000x3_S6400000x1_0_0 (m ((SparseCore.T d).loc main_arg2))) := by
  show Vh m d (Proc.devRef .tc main_v6) = _
  unfold Vh; after_results_simp <;> rfl

theorem argsOf_y : (argsOf m d).y = subf (column ![0, 1] slices_S6400000x3_S6400000x1_0_1 (m ((SparseCore.T d).loc main_arg1)))
    (column ![0, 1] slices_S6400000x3_S6400000x1_0_1 (m ((SparseCore.T d).loc main_arg2))) := by
  show Vh m d (Proc.devRef .tc main_v11) = _
  unfold Vh; after_results_simp <;> rfl

theorem argsOf_z : (argsOf m d).z = subf (column ![0, 2] slices_S6400000x3_S6400000x1_0_2 (m ((SparseCore.T d).loc main_arg1)))
    (column ![0, 2] slices_S6400000x3_S6400000x1_0_2 (m ((SparseCore.T d).loc main_arg2))) := by
  show Vh m d (Proc.devRef .tc main_v16) = _
  unfold Vh; after_results_simp <;> rfl

theorem args_are : ArgsAre (m ((SparseCore.T d).loc main_arg1)) (m ((SparseCore.T d).loc main_arg2)) (m ((SparseCore.T d).loc main_arg3)) (argsOf m d) where
  hl := Vh_arg3 m d
  hx p := by
    rw [argsOf_x]
    exact congrArg₂ (fun a b : EReal => a - b) (column_at 0 _ _ p) (column_at 0 _ _ p)
  hy p := by
    rw [argsOf_y]
    exact congrArg₂ (fun a b : EReal => a - b) (column_at 1 _ _ p) (column_at 1 _ _ p)
  hz p := by
    rw [argsOf_z]
    exact congrArg₂ (fun a b : EReal => a - b) (column_at 2 _ _ p) (column_at 2 _ _ p)

/-! ## The result at the end -/

theorem V3_out (j : S_.Idx) : (V3 m d (Proc.devRef .tc main_v19) : S_.Idx → EReal) j = lossF (outV (argsOf m d)) := by
  have h2 : V2 m d (Proc.devRef .tc main_v18) = fun _ => lossF (outV (argsOf m d)) :=
    (afterLoss_out (V1 m) d).trans (congrArg (fun v => fun _ => lossF v) (V1_out m d))
  have h3 : V3 m d (Proc.devRef .tc main_v19) = shapeCast S_ (V2 m d (Proc.devRef .tc main_v18) : FVec Ideal S1x1 .f32) shapeCasts_S1x1_S_ := by
    unfold V3 opLast; after_results_simp <;> rfl
  rw [h3, h2]
  rfl

end

/-! ## The claim -/

theorem algebraic : Cert.algebraic_KernelIdeal_ReferenceIdeal_pre_in_range := fun m ρ m' ρ' hpre hagree => by
  have hin := fun c => inRange_of _ _ _ _ (hpre c)
  refine ⟨fun c => V3 m c (Proc.devRef .tc main_v19),
    (θ_run Cert.KernelIdeal.defs _ _).mono (fun r h c => ⟨h.1 c ⟨main_v19, rfl⟩, args_kept m r h c⟩) (run_main (F := Ideal) m ρ fun d => args_ok m d (hin d).lab),
    (θ_run Cert.ReferenceIdeal.defs _ _).mono (fun r h c => ⟨(h c).1.trans ?_, (h c).2⟩) (Cert.ReferenceIdeal.Value.run (F := Ideal) m' ρ')⟩
  obtain ⟨h0, h1, h2, h3⟩ := hagree c
  rw [res_eq, h0, h1, h2, h3]
  funext j
  refine (refLoss_eq _ _ _ _ (argsOf m c) (args_are m c) (hin c) j).trans ?_
  refine Eq.trans ?_ (V3_out m c j).symm
  exact (lossF_eq (argsOf m c) fun p => by rw [(args_are m c).hl]; exact (hin c).lab p).symm

end Cert.Proof

end
-- ==== Proof.lean ====
/-
  The certificate's claims, put together: each is proved in a module of its own under proof/Proof/.
-/
module

public import proofs.«01_k».proof.Defs
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_labels_in_range.Gen.facts,
  Cert.Pre_in_range.Gen.facts, frame_kernel, frame_kernelIdeal, frame_kernelIdeal_in_range, frame_reference, frame_reference_in_range, trivial, algebraic⟩

end Cert.Proof

end
